-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_few_near_ties [hPre_few_near_ties : Cert.Pre_few_near_ties.Facts] (m : (ℓ : Loc Cert.KernelIdeal.nD Cert.KernelIdeal.τ Cert.KernelIdeal.sig) → Buf (Elt Ideal) ℓ) : Prop :=
  ∀ c : Dev Cert.KernelIdeal.nD,
    (Cert.Pre_few_near_ties.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_few_near_ties [hPre_few_near_ties : Cert.Pre_few_near_ties.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_few_near_ties.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_few_near_ties [hKernelIdeal : Cert.KernelIdeal.Facts] [hPre_few_near_ties : Cert.Pre_few_near_ties.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_few_near_ties m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_few_near_ties [hReferenceIdeal : Cert.ReferenceIdeal.Facts] [hPre_few_near_ties : Cert.Pre_few_near_ties.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_few_near_ties m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_pre_few_near_ties [hKernelIdeal : Cert.KernelIdeal.Facts] [hReferenceIdeal : Cert.ReferenceIdeal.Facts] [hPre_few_near_ties : Cert.Pre_few_near_ties.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_few_near_ties m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v216_0)) (v1 : (c : Dev Cert.KernelIdeal.nD) → Buf (Elt Ideal) ((c.tc : Thread Cert.KernelIdeal.nD Cert.KernelIdeal.τ).loc Cert.KernelIdeal.main_v216_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v216_0) = v0 c
          ∧ r.2.mem ((c.tc : Thread Cert.KernelIdeal.nD Cert.KernelIdeal.τ).loc Cert.KernelIdeal.main_v216_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_v43) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_few_near_ties : Cert.Pre_few_near_ties.Facts),
    quiescent_Kernel (hKernel := hKernel)
    ∧ quiescent_KernelIdeal (hKernelIdeal := hKernelIdeal)
    ∧ quiescent_KernelIdeal_pre_few_near_ties (hKernelIdeal := hKernelIdeal) (hPre_few_near_ties := hPre_few_near_ties)
    ∧ quiescent_ReferenceIdeal (hReferenceIdeal := hReferenceIdeal)
    ∧ quiescent_ReferenceIdeal_pre_few_near_ties (hReferenceIdeal := hReferenceIdeal) (hPre_few_near_ties := hPre_few_near_ties)
    ∧ preserves_Kernel_KernelIdeal
    ∧ algebraic_KernelIdeal_ReferenceIdeal_pre_few_near_ties (hKernelIdeal := hKernelIdeal) (hReferenceIdeal := hReferenceIdeal) (hPre_few_near_ties := hPre_few_near_ties)
-- ==== Pre_few_near_ties.lean ====
abbrev S16384x1000 : Shape := ⟨2, ![16384, 1000]⟩
abbrev S_ : Shape := ⟨0, ![]⟩
abbrev S1 : Shape := ⟨1, ![1]⟩
abbrev S2 : Shape := ⟨1, ![2]⟩
abbrev S16384 : Shape := ⟨1, ![16384]⟩
abbrev S16384x1 : Shape := ⟨2, ![16384, 1]⟩

class Facts : Prop where
  bcast_S_S1 : S_.BroadcastsInDim S1 (![] : Fin 0 → Fin S1.rank)
  concatenates_S1_S1_S2_d0 : Shape.Concatenates [S1, S1] S2 0
  slices_S2_S1_0 : S2.Slices ![0] S1
  shapeCasts_S1_S_ : S1.ShapeCasts S_
  slices_S2_S1_1 : S2.Slices ![1] S1
  bcast_S_S16384x1000 : S_.BroadcastsInDim S16384x1000 (![] : Fin 0 → Fin S16384x1000.rank)
  natLt_32_64 : 32 < 64
  reducesTo_S16384x1000_S16384_d1 : S16384x1000.ReducesTo [1] S16384
  h_S_ : 0 < S_.numel
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S16384x1_S16384x1000_0_1 : S16384x1.BroadcastsInDim S16384x1000 (![0, 1] : Fin 2 → Fin S16384x1000.rank)
  natLt_1_32 : 1 < 32
  bcast_S_S16384 : S_.BroadcastsInDim S16384 (![] : Fin 0 → Fin S16384.rank)
  reducesTo_S16384_S_d0 : S16384.ReducesTo [0] S_

variable [Facts]

def fn_threefry2x32_part9 {F : FTy → Type} [FloatOps F] (arg0 : IVec S_ 32) (v163 : IVec S16384x1000 32) (v169 : IVec S16384x1000 32) (v170 : IVec S16384x1000 32) : IVec S16384x1000 32 × IVec S16384x1000 32 :=
  let v171 : IVec S16384x1000 32 := addi v163 v170
  let v172 : IVec S16384x1000 32 := broadcastInDim S16384x1000 ![] bcast_S_S16384x1000 arg0
  let v173 : IVec S16384x1000 32 := addi v169 v172
  let c_44 : IVec S_ 32 := constantI S_ 32 5#32
  let v174 : IVec S16384x1000 32 := broadcastInDim S16384x1000 ![] bcast_S_S16384x1000 c_44
  let v175 : IVec S16384x1000 32 := addi v173 v174
  (v171, v175)

def fn_threefry2x32_part8 {F : FTy → Type} [FloatOps F] (arg0 : IVec S_ 32) (v1 : IVec S_ 32) (v148 : IVec S16384x1000 32) (v149 : IVec S16384x1000 32) (v151 : IVec S16384x1000 32) : IVec S16384x1000 32 × IVec S16384x1000 32 :=
  let c_39 : IVec S_ 32 := constantI S_ 32 17#32
  let v152 : IVec S16384x1000 32 := broadcastInDim S16384x1000 ![] bcast_S_S16384x1000 c_39
  let v153 : IVec S16384x1000 32 := Host.shrui v148 v152
  let v154 : IVec S16384x1000 32 := ori v151 v153
  let v155 : IVec S16384x1000 32 := xori v149 v154
  let v156 : IVec S16384x1000 32 := addi v149 v155
  let c_40 : IVec S_ 32 := constantI S_ 32 26#32
  let v157 : IVec S16384x1000 32 := broadcastInDim S16384x1000 ![] bcast_S_S16384x1000 c_40
  let v158 : IVec S16384x1000 32 := Host.shli v155 v157
  let c_41 : IVec S_ 32 := constantI S_ 32 6#32
  let v159 : IVec S16384x1000 32 := broadcastInDim S16384x1000 ![] bcast_S_S16384x1000 c_41
  let v160 : IVec S16384x1000 32 := Host.shrui v155 v159
  let v161 : IVec S16384x1000 32 := ori v158 v160
  let v162 : IVec S16384x1000 32 := xori v156 v161
  let v163 : IVec S16384x1000 32 := addi v156 v162
  let c_42 : IVec S_ 32 := constantI S_ 32 6#32
  let v164 : IVec S16384x1000 32 := broadcastInDim S16384x1000 ![] bcast_S_S16384x1000 c_42
  let v165 : IVec S16384x1000 32 := Host.shli v162 v164
  let c_43 : IVec S_ 32 := constantI S_ 32 26#32
  let v166 : IVec S16384x1000 32 := broadcastInDim S16384x1000 ![] bcast_S_S16384x1000 c_43
  let v167 : IVec S16384x1000 32 := Host.shrui v162 v166
  let v168 : IVec S16384x1000 32 := ori v165 v167
  let v169 : IVec S16384x1000 32 := xori v163 v168
  let v170 : IVec S16384x1000 32 := broadcastInDim S16384x1000 ![] bcast_S_S16384x1000 v1
  fn_threefry2x32_part9 (F := F) arg0 v163 v169 v170

def fn_threefry2x32_part7 {F : FTy → Type} [FloatOps F] (arg0 : IVec S_ 32) (arg1 : IVec S_ 32) (v1 : IVec S_ 32) (v128 : IVec S16384x1000 32) (v129 : IVec S16384x1000 32) (v131 : IVec S16384x1000 32) (c_34 : IVec S_ 32) : IVec S16384x1000 32 × IVec S16384x1000 32 :=
  let v132 : IVec S16384x1000 32 := broadcastInDim S16384x1000 ![] bcast_S_S16384x1000 c_34
  let v133 : IVec S16384x1000 32 := Host.shrui v128 v132
  let v134 : IVec S16384x1000 32 := ori v131 v133
  let v135 : IVec S16384x1000 32 := xori v129 v134
  let v136 : IVec S16384x1000 32 := broadcastInDim S16384x1000 ![] bcast_S_S16384x1000 arg1
  let v137 : IVec S16384x1000 32 := addi v129 v136
  let v138 : IVec S16384x1000 32 := broadcastInDim S16384x1000 ![] bcast_S_S16384x1000 v1
  let v139 : IVec S16384x1000 32 := addi v135 v138
  let c_35 : IVec S_ 32 := constantI S_ 32 4#32
  let v140 : IVec S16384x1000 32 := broadcastInDim S16384x1000 ![] bcast_S_S16384x1000 c_35
  let v141 : IVec S16384x1000 32 := addi v139 v140
  let v142 : IVec S16384x1000 32 := addi v137 v141
  let c_36 : IVec S_ 32 := constantI S_ 32 13#32
  let v143 : IVec S16384x1000 32 := broadcastInDim S16384x1000 ![] bcast_S_S16384x1000 c_36
  let v144 : IVec S16384x1000 32 := Host.shli v141 v143
  let c_37 : IVec S_ 32 := constantI S_ 32 19#32
  let v145 : IVec S16384x1000 32 := broadcastInDim S16384x1000 ![] bcast_S_S16384x1000 c_37
  let v146 : IVec S16384x1000 32 := Host.shrui v141 v145
  let v147 : IVec S16384x1000 32 := ori v144 v146
  let v148 : IVec S16384x1000 32 := xori v142 v147
  let v149 : IVec S16384x1000 32 := addi v142 v148
  let c_38 : IVec S_ 32 := constantI S_ 32 15#32
  let v150 : IVec S16384x1000 32 := broadcastInDim S16384x1000 ![] bcast_S_S16384x1000 c_38
  let v151 : IVec S16384x1000 32 := Host.shli v148 v150
  fn_threefry2x32_part8 (F := F) arg0 v1 v148 v149 v151

def fn_threefry2x32_part6 {F : FTy → Type} [FloatOps F] (arg0 : IVec S_ 32) (arg1 : IVec S_ 32) (v1 : IVec S_ 32) (v108 : IVec S16384x1000 32) (v113 : IVec S16384x1000 32) : IVec S16384x1000 32 × IVec S16384x1000 32 :=
  let v114 : IVec S16384x1000 32 := xori v108 v113
  let v115 : IVec S16384x1000 32 := addi v108 v114
  let c_29 : IVec S_ 32 := constantI S_ 32 29#32
  let v116 : IVec S16384x1000 32 := broadcastInDim S16384x1000 ![] bcast_S_S16384x1000 c_29
  let v117 : IVec S16384x1000 32 := Host.shli v114 v116
  let c_30 : IVec S_ 32 := constantI S_ 32 3#32
  let v118 : IVec S16384x1000 32 := broadcastInDim S16384x1000 ![] bcast_S_S16384x1000 c_30
  let v119 : IVec S16384x1000 32 := Host.shrui v114 v118
  let v120 : IVec S16384x1000 32 := ori v117 v119
  let v121 : IVec S16384x1000 32 := xori v115 v120
  let v122 : IVec S16384x1000 32 := addi v115 v121
  let c_31 : IVec S_ 32 := constantI S_ 32 16#32
  let v123 : IVec S16384x1000 32 := broadcastInDim S16384x1000 ![] bcast_S_S16384x1000 c_31
  let v124 : IVec S16384x1000 32 := Host.shli v121 v123
  let c_32 : IVec S_ 32 := constantI S_ 32 16#32
  let v125 : IVec S16384x1000 32 := broadcastInDim S16384x1000 ![] bcast_S_S16384x1000 c_32
  let v126 : IVec S16384x1000 32 := Host.shrui v121 v125
  let v127 : IVec S16384x1000 32 := ori v124 v126
  let v128 : IVec S16384x1000 32 := xori v122 v127
  let v129 : IVec S16384x1000 32 := addi v122 v128
  let c_33 : IVec S_ 32 := constantI S_ 32 24#32
  let v130 : IVec S16384x1000 32 := broadcastInDim S16384x1000 ![] bcast_S_S16384x1000 c_33
  let v131 : IVec S16384x1000 32 := Host.shli v128 v130
  let c_34 : IVec S_ 32 := constantI S_ 32 8#32
  fn_threefry2x32_part7 (F := F) arg0 arg1 v1 v128 v129 v131 c_34

def fn_threefry2x32_part5 {F : FTy → Type} [FloatOps F] (arg0 : IVec S_ 32) (arg1 : IVec S_ 32) (v1 : IVec S_ 32) (v88 : IVec S16384x1000 32) (v94 : IVec S16384x1000 32) : IVec S16384x1000 32 × IVec S16384x1000 32 :=
  let v95 : IVec S16384x1000 32 := addi v88 v94
  let c_24 : IVec S_ 32 := constantI S_ 32 6#32
  let v96 : IVec S16384x1000 32 := broadcastInDim S16384x1000 ![] bcast_S_S16384x1000 c_24
  let v97 : IVec S16384x1000 32 := Host.shli v94 v96
  let c_25 : IVec S_ 32 := constantI S_ 32 26#32
  let v98 : IVec S16384x1000 32 := broadcastInDim S16384x1000 ![] bcast_S_S16384x1000 c_25
  let v99 : IVec S16384x1000 32 := Host.shrui v94 v98
  let v100 : IVec S16384x1000 32 := ori v97 v99
  let v101 : IVec S16384x1000 32 := xori v95 v100
  let v102 : IVec S16384x1000 32 := broadcastInDim S16384x1000 ![] bcast_S_S16384x1000 arg0
  let v103 : IVec S16384x1000 32 := addi v95 v102
  let v104 : IVec S16384x1000 32 := broadcastInDim S16384x1000 ![] bcast_S_S16384x1000 arg1
  let v105 : IVec S16384x1000 32 := addi v101 v104
  let c_26 : IVec S_ 32 := constantI S_ 32 3#32
  let v106 : IVec S16384x1000 32 := broadcastInDim S16384x1000 ![] bcast_S_S16384x1000 c_26
  let v107 : IVec S16384x1000 32 := addi v105 v106
  let v108 : IVec S16384x1000 32 := addi v103 v107
  let c_27 : IVec S_ 32 := constantI S_ 32 17#32
  let v109 : IVec S16384x1000 32 := broadcastInDim S16384x1000 ![] bcast_S_S16384x1000 c_27
  let v110 : IVec S16384x1000 32 := Host.shli v107 v109
  let c_28 : IVec S_ 32 := constantI S_ 32 15#32
  let v111 : IVec S16384x1000 32 := broadcastInDim S16384x1000 ![] bcast_S_S16384x1000 c_28
  let v112 : IVec S16384x1000 32 := Host.shrui v107 v111
  let v113 : IVec S16384x1000 32 := ori v110 v112
  fn_threefry2x32_part6 (F := F) arg0 arg1 v1 v108 v113

def fn_threefry2x32_part4 {F : FTy → Type} [FloatOps F] (arg0 : IVec S_ 32) (arg1 : IVec S_ 32) (v1 : IVec S_ 32) (v73 : IVec S16384x1000 32) (v74 : IVec S16384x1000 32) (v75 : IVec S16384x1000 32) : IVec S16384x1000 32 × IVec S16384x1000 32 :=
  let v76 : IVec S16384x1000 32 := Host.shli v73 v75
  let c_19 : IVec S_ 32 := constantI S_ 32 19#32
  let v77 : IVec S16384x1000 32 := broadcastInDim S16384x1000 ![] bcast_S_S16384x1000 c_19
  let v78 : IVec S16384x1000 32 := Host.shrui v73 v77
  let v79 : IVec S16384x1000 32 := ori v76 v78
  let v80 : IVec S16384x1000 32 := xori v74 v79
  let v81 : IVec S16384x1000 32 := addi v74 v80
  let c_20 : IVec S_ 32 := constantI S_ 32 15#32
  let v82 : IVec S16384x1000 32 := broadcastInDim S16384x1000 ![] bcast_S_S16384x1000 c_20
  let v83 : IVec S16384x1000 32 := Host.shli v80 v82
  let c_21 : IVec S_ 32 := constantI S_ 32 17#32
  let v84 : IVec S16384x1000 32 := broadcastInDim S16384x1000 ![] bcast_S_S16384x1000 c_21
  let v85 : IVec S16384x1000 32 := Host.shrui v80 v84
  let v86 : IVec S16384x1000 32 := ori v83 v85
  let v87 : IVec S16384x1000 32 := xori v81 v86
  let v88 : IVec S16384x1000 32 := addi v81 v87
  let c_22 : IVec S_ 32 := constantI S_ 32 26#32
  let v89 : IVec S16384x1000 32 := broadcastInDim S16384x1000 ![] bcast_S_S16384x1000 c_22
  let v90 : IVec S16384x1000 32 := Host.shli v87 v89
  let c_23 : IVec S_ 32 := constantI S_ 32 6#32
  let v91 : IVec S16384x1000 32 := broadcastInDim S16384x1000 ![] bcast_S_S16384x1000 c_23
  let v92 : IVec S16384x1000 32 := Host.shrui v87 v91
  let v93 : IVec S16384x1000 32 := ori v90 v92
  let v94 : IVec S16384x1000 32 := xori v88 v93
  fn_threefry2x32_part5 (F := F) arg0 arg1 v1 v88 v94

def fn_threefry2x32_part3 {F : FTy → Type} [FloatOps F] (arg0 : IVec S_ 32) (arg1 : IVec S_ 32) (v1 : IVec S_ 32) (v53 : IVec S16384x1000 32) (v54 : IVec S16384x1000 32) (v56 : IVec S16384x1000 32) : IVec S16384x1000 32 × IVec S16384x1000 32 :=
  let c_14 : IVec S_ 32 := constantI S_ 32 16#32
  let v57 : IVec S16384x1000 32 := broadcastInDim S16384x1000 ![] bcast_S_S16384x1000 c_14
  let v58 : IVec S16384x1000 32 := Host.shrui v53 v57
  let v59 : IVec S16384x1000 32 := ori v56 v58
  let v60 : IVec S16384x1000 32 := xori v54 v59
  let v61 : IVec S16384x1000 32 := addi v54 v60
  let c_15 : IVec S_ 32 := constantI S_ 32 24#32
  let v62 : IVec S16384x1000 32 := broadcastInDim S16384x1000 ![] bcast_S_S16384x1000 c_15
  let v63 : IVec S16384x1000 32 := Host.shli v60 v62
  let c_16 : IVec S_ 32 := constantI S_ 32 8#32
  let v64 : IVec S16384x1000 32 := broadcastInDim S16384x1000 ![] bcast_S_S16384x1000 c_16
  let v65 : IVec S16384x1000 32 := Host.shrui v60 v64
  let v66 : IVec S16384x1000 32 := ori v63 v65
  let v67 : IVec S16384x1000 32 := xori v61 v66
  let v68 : IVec S16384x1000 32 := broadcastInDim S16384x1000 ![] bcast_S_S16384x1000 v1
  let v69 : IVec S16384x1000 32 := addi v61 v68
  let v70 : IVec S16384x1000 32 := broadcastInDim S16384x1000 ![] bcast_S_S16384x1000 arg0
  let v71 : IVec S16384x1000 32 := addi v67 v70
  let c_17 : IVec S_ 32 := constantI S_ 32 2#32
  let v72 : IVec S16384x1000 32 := broadcastInDim S16384x1000 ![] bcast_S_S16384x1000 c_17
  let v73 : IVec S16384x1000 32 := addi v71 v72
  let v74 : IVec S16384x1000 32 := addi v69 v73
  let c_18 : IVec S_ 32 := constantI S_ 32 13#32
  let v75 : IVec S16384x1000 32 := broadcastInDim S16384x1000 ![] bcast_S_S16384x1000 c_18
  fn_threefry2x32_part4 (F := F) arg0 arg1 v1 v73 v74 v75

def fn_threefry2x32_part2 {F : FTy → Type} [FloatOps F] (arg0 : IVec S_ 32) (arg1 : IVec S_ 32) (v1 : IVec S_ 32) (v35 : IVec S16384x1000 32) (v37 : IVec S16384x1000 32) (c_8 : IVec S_ 32) : IVec S16384x1000 32 × IVec S16384x1000 32 :=
  let v38 : IVec S16384x1000 32 := broadcastInDim S16384x1000 ![] bcast_S_S16384x1000 c_8
  let v39 : IVec S16384x1000 32 := addi v37 v38
  let v40 : IVec S16384x1000 32 := addi v35 v39
  let c_9 : IVec S_ 32 := constantI S_ 32 17#32
  let v41 : IVec S16384x1000 32 := broadcastInDim S16384x1000 ![] bcast_S_S16384x1000 c_9
  let v42 : IVec S16384x1000 32 := Host.shli v39 v41
  let c_10 : IVec S_ 32 := constantI S_ 32 15#32
  let v43 : IVec S16384x1000 32 := broadcastInDim S16384x1000 ![] bcast_S_S16384x1000 c_10
  let v44 : IVec S16384x1000 32 := Host.shrui v39 v43
  let v45 : IVec S16384x1000 32 := ori v42 v44
  let v46 : IVec S16384x1000 32 := xori v40 v45
  let v47 : IVec S16384x1000 32 := addi v40 v46
  let c_11 : IVec S_ 32 := constantI S_ 32 29#32
  let v48 : IVec S16384x1000 32 := broadcastInDim S16384x1000 ![] bcast_S_S16384x1000 c_11
  let v49 : IVec S16384x1000 32 := Host.shli v46 v48
  let c_12 : IVec S_ 32 := constantI S_ 32 3#32
  let v50 : IVec S16384x1000 32 := broadcastInDim S16384x1000 ![] bcast_S_S16384x1000 c_12
  let v51 : IVec S16384x1000 32 := Host.shrui v46 v50
  let v52 : IVec S16384x1000 32 := ori v49 v51
  let v53 : IVec S16384x1000 32 := xori v47 v52
  let v54 : IVec S16384x1000 32 := addi v47 v53
  let c_13 : IVec S_ 32 := constantI S_ 32 16#32
  let v55 : IVec S16384x1000 32 := broadcastInDim S16384x1000 ![] bcast_S_S16384x1000 c_13
  let v56 : IVec S16384x1000 32 := Host.shli v53 v55
  fn_threefry2x32_part3 (F := F) arg0 arg1 v1 v53 v54 v56

def fn_threefry2x32_part1 {F : FTy → Type} [FloatOps F] (arg0 : IVec S_ 32) (arg1 : IVec S_ 32) (v1 : IVec S_ 32) (v13 : IVec S16384x1000 32) (v18 : IVec S16384x1000 32) : IVec S16384x1000 32 × IVec S16384x1000 32 :=
  let v19 : IVec S16384x1000 32 := xori v13 v18
  let v20 : IVec S16384x1000 32 := addi v13 v19
  let c_4 : IVec S_ 32 := constantI S_ 32 26#32
  let v21 : IVec S16384x1000 32 := broadcastInDim S16384x1000 ![] bcast_S_S16384x1000 c_4
  let v22 : IVec S16384x1000 32 := Host.shli v19 v21
  let c_5 : IVec S_ 32 := constantI S_ 32 6#32
  let v23 : IVec S16384x1000 32 := broadcastInDim S16384x1000 ![] bcast_S_S16384x1000 c_5
  let v24 : IVec S16384x1000 32 := Host.shrui v19 v23
  let v25 : IVec S16384x1000 32 := ori v22 v24
  let v26 : IVec S16384x1000 32 := xori v20 v25
  let v27 : IVec S16384x1000 32 := addi v20 v26
  let c_6 : IVec S_ 32 := constantI S_ 32 6#32
  let v28 : IVec S16384x1000 32 := broadcastInDim S16384x1000 ![] bcast_S_S16384x1000 c_6
  let v29 : IVec S16384x1000 32 := Host.shli v26 v28
  let c_7 : IVec S_ 32 := constantI S_ 32 26#32
  let v30 : IVec S16384x1000 32 := broadcastInDim S16384x1000 ![] bcast_S_S16384x1000 c_7
  let v31 : IVec S16384x1000 32 := Host.shrui v26 v30
  let v32 : IVec S16384x1000 32 := ori v29 v31
  let v33 : IVec S16384x1000 32 := xori v27 v32
  let v34 : IVec S16384x1000 32 := broadcastInDim S16384x1000 ![] bcast_S_S16384x1000 arg1
  let v35 : IVec S16384x1000 32 := addi v27 v34
  let v36 : IVec S16384x1000 32 := broadcastInDim S16384x1000 ![] bcast_S_S16384x1000 v1
  let v37 : IVec S16384x1000 32 := addi v33 v36
  let c_8 : IVec S_ 32 := constantI S_ 32 1#32
  fn_threefry2x32_part2 (F := F) arg0 arg1 v1 v35 v37 c_8

def fn_threefry2x32 {F : FTy → Type} [FloatOps F] (arg0 : IVec S_ 32) (arg1 : IVec S_ 32) (arg2 : IVec S16384x1000 32) (arg3 : IVec S16384x1000 32) : IVec S16384x1000 32 × IVec S16384x1000 32 :=
  let v0 : IVec S_ 32 := xori arg0 arg1
  let c : IVec S_ 32 := constantI S_ 32 466688986#32
  let v1 : IVec S_ 32 := xori v0 c
  let v2 : IVec S16384x1000 32 := broadcastInDim S16384x1000 ![] bcast_S_S16384x1000 arg0
  let v3 : IVec S16384x1000 32 := addi arg2 v2
  let v4 : IVec S16384x1000 32 := broadcastInDim S16384x1000 ![] bcast_S_S16384x1000 arg1
  let v5 : IVec S16384x1000 32 := addi arg3 v4
  let v6 : IVec S16384x1000 32 := addi v3 v5
  let c_0 : IVec S_ 32 := constantI S_ 32 13#32
  let v7 : IVec S16384x1000 32 := broadcastInDim S16384x1000 ![] bcast_S_S16384x1000 c_0
  let v8 : IVec S16384x1000 32 := Host.shli v5 v7
  let c_1 : IVec S_ 32 := constantI S_ 32 19#32
  let v9 : IVec S16384x1000 32 := broadcastInDim S16384x1000 ![] bcast_S_S16384x1000 c_1
  let v10 : IVec S16384x1000 32 := Host.shrui v5 v9
  let v11 : IVec S16384x1000 32 := ori v8 v10
  let v12 : IVec S16384x1000 32 := xori v6 v11
  let v13 : IVec S16384x1000 32 := addi v6 v12
  let c_2 : IVec S_ 32 := constantI S_ 32 15#32
  let v14 : IVec S16384x1000 32 := broadcastInDim S16384x1000 ![] bcast_S_S16384x1000 c_2
  let v15 : IVec S16384x1000 32 := Host.shli v12 v14
  let c_3 : IVec S_ 32 := constantI S_ 32 17#32
  let v16 : IVec S16384x1000 32 := broadcastInDim S16384x1000 ![] bcast_S_S16384x1000 c_3
  let v17 : IVec S16384x1000 32 := Host.shrui v12 v16
  let v18 : IVec S16384x1000 32 := ori v15 v17
  fn_threefry2x32_part1 (F := F) arg0 arg1 v1 v13 v18

def fn_part2 {F : FTy → Type} [FloatOps F] (main_arg0 : FVec F S16384x1000 .f32) (main_v36 : FVec F S16384x1000 .f32) : IVec S_ 1 :=
  let main_v37 : FVec F S16384x1000 .f32 := addf main_v36 main_arg0
  let main_cst_8 : FVec F S_ .f32 := constant S_ .f32 0xFF800000#32
  let main_v38 : FVec F S16384 .f32 := (fun x v => Host.reduce FloatOps.maximumf x v reducesTo_S16384x1000_S16384_d1 h_S_) main_v37 main_cst_8
  let main_v39 : FVec F S16384x1 .f32 := broadcastInDim S16384x1 ![0] bcast_S16384_S16384x1_0 main_v38
  let main_cst_9 : FVec F S_ .f32 := constant S_ .f32 0x3A2A64C3#32
  let main_v40 : FVec F S16384x1 .f32 := broadcastInDim S16384x1 ![] bcast_S_S16384x1 main_cst_9
  let main_v41 : FVec F S16384x1 .f32 := subf main_v39 main_v40
  let main_v42 : FVec F S16384x1000 .f32 := broadcastInDim S16384x1000 ![0, 1] bcast_S16384x1_S16384x1000_0_1 main_v41
  let main_v43 : IVec S16384x1000 1 := cmpf .oge main_v37 main_v42
  let main_v44 : IVec S16384x1000 32 := (extui 32 · natLt_1_32) main_v43
  let main_c_10 : IVec S_ 32 := constantI S_ 32 0#32
  let main_v45 : IVec S16384 32 := (fun x v => Host.reduce IntOp.addi x v reducesTo_S16384x1000_S16384_d1 h_S_) main_v44 main_c_10
  let main_c_11 : IVec S_ 32 := constantI S_ 32 2#32
  let main_v46 : IVec S16384 32 := broadcastInDim S16384 ![] bcast_S_S16384 main_c_11
  let main_v47 : IVec S16384 1 := cmpi .sge main_v45 main_v46
  let main_v48 : IVec S16384 32 := (extui 32 · natLt_1_32) main_v47
  let main_c_12 : IVec S_ 32 := constantI S_ 32 0#32
  let main_v49 : IVec S_ 32 := (fun x v => Host.reduce IntOp.addi x v reducesTo_S16384_S_d0 h_S_) main_v48 main_c_12
  let main_c_13 : IVec S_ 32 := constantI S_ 32 512#32
  let main_v50 : IVec S_ 1 := cmpi .sle main_v49 main_c_13
  main_v50

def fn_part1 {F : FTy → Type} [FloatOps F] (main_arg0 : FVec F S16384x1000 .f32) (main_v8 : IVec S_ 32) (main_v10 : IVec S_ 32) (main_v17 : IVec S16384x1000 64) (main_c_4 : IVec S_ 64) : IVec S_ 1 :=
  let main_v18 : IVec S16384x1000 64 := broadcastInDim S16384x1000 ![] bcast_S_S16384x1000 main_c_4
  let main_v19 : IVec S16384x1000 64 := Host.shrui main_v17 main_v18
  let main_v20 : IVec S16384x1000 32 := (trunci 32 · natLt_32_64) main_v17
  let main_v21 : IVec S16384x1000 32 := (trunci 32 · natLt_32_64) main_v19
  let main_v22_0 : IVec S16384x1000 32 := (fn_threefry2x32 (F := F) main_v8 main_v10 main_v21 main_v20).1
  let main_v22_1 : IVec S16384x1000 32 := (fn_threefry2x32 (F := F) main_v8 main_v10 main_v21 main_v20).2
  let main_v23 : IVec S16384x1000 32 := xori main_v22_0 main_v22_1
  let main_c_5 : IVec S_ 32 := constantI S_ 32 9#32
  let main_v24 : IVec S16384x1000 32 := broadcastInDim S16384x1000 ![] bcast_S_S16384x1000 main_c_5
  let main_v25 : IVec S16384x1000 32 := Host.shrui main_v23 main_v24
  let main_c_6 : IVec S_ 32 := constantI S_ 32 1065353216#32
  let main_v26 : IVec S16384x1000 32 := broadcastInDim S16384x1000 ![] bcast_S_S16384x1000 main_c_6
  let main_v27 : IVec S16384x1000 32 := ori main_v25 main_v26
  let main_v28 : FVec F S16384x1000 .f32 := bitcastToFloat .f32 main_v27
  let main_cst : FVec F S_ .f32 := constant S_ .f32 0x3F800000#32
  let main_v29 : FVec F S16384x1000 .f32 := broadcastInDim S16384x1000 ![] bcast_S_S16384x1000 main_cst
  let main_v30 : FVec F S16384x1000 .f32 := subf main_v28 main_v29
  let main_cst_7 : FVec F S_ .f32 := constant S_ .f32 0x00800000#32
  let main_v31 : FVec F S16384x1000 .f32 := broadcastInDim S16384x1000 ![] bcast_S_S16384x1000 main_cst_7
  let main_v32 : FVec F S16384x1000 .f32 := maximumf main_v30 main_v31
  let main_v33 : FVec F S16384x1000 .f32 := Host.log main_v32
  let main_v34 : FVec F S16384x1000 .f32 := Host.negf main_v33
  let main_v35 : FVec F S16384x1000 .f32 := Host.log main_v34
  let main_v36 : FVec F S16384x1000 .f32 := Host.negf main_v35
  fn_part2 (F := F) main_arg0 main_v36

def fn {F : FTy → Type} [FloatOps F] (main_arg0 : FVec F S16384x1000 .f32) : IVec S_ 1 :=
  let main_c : IVec S_ 32 := constantI S_ 32 42#32
  let main_c_0 : IVec S_ 32 := constantI S_ 32 32#32
  let main_v0 : IVec S_ 32 := Host.shrui main_c main_c_0
  let main_v1 : IVec S_ 32 := id main_v0
  let main_v2 : IVec S1 32 := broadcastInDim S1 ![] bcast_S_S1 main_v1
  let main_c_1 : IVec S_ 32 := constantI S_ 32 4294967295#32
  let main_v3 : IVec S_ 32 := andi main_c main_c_1
  let main_v4 : IVec S_ 32 := id main_v3
  let main_v5 : IVec S1 32 := broadcastInDim S1 ![] bcast_S_S1 main_v4
  let main_v6 : IVec S2 32 := (fun a b => concatenate S2 0 [⟨S1, a⟩, ⟨S1, b⟩] concatenates_S1_S1_S2_d0) main_v2 main_v5
  let main_v7 : IVec S1 32 := (extractStridedSlice S1 ![0] · slices_S2_S1_0) main_v6
  let main_v8 : IVec S_ 32 := shapeCast S_ main_v7 shapeCasts_S1_S_
  let main_v9 : IVec S1 32 := (extractStridedSlice S1 ![1] · slices_S2_S1_1) main_v6
  let main_v10 : IVec S_ 32 := shapeCast S_ main_v9 shapeCasts_S1_S_
  let main_v11 : IVec S16384x1000 64 := iotaInDim S16384x1000 64 0
  let main_v12 : IVec S16384x1000 64 := iotaInDim S16384x1000 64 1
  let main_c_2 : IVec S_ 64 := constantI S_ 64 1000#64
  let main_v13 : IVec S16384x1000 64 := broadcastInDim S16384x1000 ![] bcast_S_S16384x1000 main_c_2
  let main_v14 : IVec S16384x1000 64 := muli main_v13 main_v11
  let main_c_3 : IVec S_ 64 := constantI S_ 64 1#64
  let main_v15 : IVec S16384x1000 64 := broadcastInDim S16384x1000 ![] bcast_S_S16384x1000 main_c_3
  let main_v16 : IVec S16384x1000 64 := muli main_v15 main_v12
  let main_v17 : IVec S16384x1000 64 := addi main_v14 main_v16
  let main_c_4 : IVec S_ 64 := constantI S_ 64 32#64
  fn_part1 (F := F) main_arg0 main_v8 main_v10 main_v17 main_c_4
-- ==== Kernel.lean ====
abbrev S16384x1000 : Shape := ⟨2, ![16384, 1000]⟩
abbrev S16384000 : Shape := ⟨1, ![16384000]⟩
abbrev S_ : Shape := ⟨0, ![]⟩
abbrev S16384x1 : Shape := ⟨2, ![16384, 1]⟩
abbrev S1024x1000 : Shape := ⟨2, ![1024, 1000]⟩
abbrev S1024x1 : Shape := ⟨2, ![1024, 1]⟩
abbrev S1024 : Shape := ⟨1, ![1024]⟩
abbrev S16384 : Shape := ⟨1, ![16384]⟩
abbrev S512 : Shape := ⟨1, ![512]⟩
abbrev S1 : Shape := ⟨1, ![1]⟩
abbrev S8x1000 : Shape := ⟨2, ![8, 1000]⟩
abbrev S8x1 : Shape := ⟨2, ![8, 1]⟩
abbrev S8 : Shape := ⟨1, ![8]⟩

abbrev nBuf : Space → Nat
  | .hbm => 340
  | .vmem => 22
  | .smem => 2
  | _ => 0

abbrev hbmTy0_0 (i : Nat) : BufTy := match i % 128 with
  | 0 => ⟨S16384x1000, .f32⟩
  | 1 => ⟨S16384000, .i32⟩
  | 2 => ⟨S_, .i32⟩
  | 3 => ⟨S16384000, .i32⟩
  | 4 => ⟨S_, .i32⟩
  | 5 => ⟨S16384000, .i32⟩
  | 6 => ⟨S16384000, .i32⟩
  | 7 => ⟨S16384000, .i32⟩
  | 8 => ⟨S_, .i32⟩
  | 9 => ⟨S16384000, .i32⟩
  | 10 => ⟨S16384000, .i32⟩
  | 11 => ⟨S_, .i32⟩
  | 12 => ⟨S16384000, .i32⟩
  | 13 => ⟨S16384000, .i32⟩
  | 14 => ⟨S16384000, .i32⟩
  | 15 => ⟨S16384000, .i32⟩
  | 16 => ⟨S16384000, .i32⟩
  | 17 => ⟨S_, .i32⟩
  | 18 => ⟨S16384000, .i32⟩
  | 19 => ⟨S16384000, .i32⟩
  | 20 => ⟨S_, .i32⟩
  | 21 => ⟨S16384000, .i32⟩
  | 22 => ⟨S16384000, .i32⟩
  | 23 => ⟨S16384000, .i32⟩
  | 24 => ⟨S16384000, .i32⟩
  | 25 => ⟨S16384000, .i32⟩
  | 26 => ⟨S_, .i32⟩
  | 27 => ⟨S16384000, .i32⟩
  | 28 => ⟨S16384000, .i32⟩
  | 29 => ⟨S_, .i32⟩
  | 30 => ⟨S16384000, .i32⟩
  | 31 => ⟨S16384000, .i32⟩
  | 32 => ⟨S16384000, .i32⟩
  | 33 => ⟨S16384000, .i32⟩
  | 34 => ⟨S16384000, .i32⟩
  | 35 => ⟨S_, .i32⟩
  | 36 => ⟨S16384000, .i32⟩
  | 37 => ⟨S16384000, .i32⟩
  | 38 => ⟨S_, .i32⟩
  | 39 => ⟨S16384000, .i32⟩
  | 40 => ⟨S16384000, .i32⟩
  | 41 => ⟨S16384000, .i32⟩
  | 42 => ⟨S16384000, .i32⟩
  | 43 => ⟨S_, .i32⟩
  | 44 => ⟨S16384000, .i32⟩
  | 45 => ⟨S16384000, .i32⟩
  | 46 => ⟨S_, .i32⟩
  | 47 => ⟨S16384000, .i32⟩
  | 48 => ⟨S16384000, .i32⟩
  | 49 => ⟨S16384000, .i32⟩
  | 50 => ⟨S_, .i32⟩
  | 51 => ⟨S16384000, .i32⟩
  | 52 => ⟨S16384000, .i32⟩
  | 53 => ⟨S_, .i32⟩
  | 54 => ⟨S16384000, .i32⟩
  | 55 => ⟨S16384000, .i32⟩
  | 56 => ⟨S16384000, .i32⟩
  | 57 => ⟨S16384000, .i32⟩
  | 58 => ⟨S16384000, .i32⟩
  | 59 => ⟨S_, .i32⟩
  | 60 => ⟨S16384000, .i32⟩
  | 61 => ⟨S16384000, .i32⟩
  | 62 => ⟨S_, .i32⟩
  | 63 => ⟨S16384000, .i32⟩
  | 64 => ⟨S16384000, .i32⟩
  | 65 => ⟨S16384000, .i32⟩
  | 66 => ⟨S16384000, .i32⟩
  | 67 => ⟨S16384000, .i32⟩
  | 68 => ⟨S_, .i32⟩
  | 69 => ⟨S16384000, .i32⟩
  | 70 => ⟨S16384000, .i32⟩
  | 71 => ⟨S_, .i32⟩
  | 72 => ⟨S16384000, .i32⟩
  | 73 => ⟨S16384000, .i32⟩
  | 74 => ⟨S16384000, .i32⟩
  | 75 => ⟨S16384000, .i32⟩
  | 76 => ⟨S16384000, .i32⟩
  | 77 => ⟨S_, .i32⟩
  | 78 => ⟨S16384000, .i32⟩
  | 79 => ⟨S16384000, .i32⟩
  | 80 => ⟨S_, .i32⟩
  | 81 => ⟨S16384000, .i32⟩
  | 82 => ⟨S16384000, .i32⟩
  | 83 => ⟨S16384000, .i32⟩
  | 84 => ⟨S16384000, .i32⟩
  | 85 => ⟨S_, .i32⟩
  | 86 => ⟨S16384000, .i32⟩
  | 87 => ⟨S16384000, .i32⟩
  | 88 => ⟨S_, .i32⟩
  | 89 => ⟨S16384000, .i32⟩
  | 90 => ⟨S16384000, .i32⟩
  | 91 => ⟨S16384000, .i32⟩
  | 92 => ⟨S_, .i32⟩
  | 93 => ⟨S16384000, .i32⟩
  | 94 => ⟨S16384000, .i32⟩
  | 95 => ⟨S_, .i32⟩
  | 96 => ⟨S16384000, .i32⟩
  | 97 => ⟨S16384000, .i32⟩
  | 98 => ⟨S16384000, .i32⟩
  | 99 => ⟨S16384000, .i32⟩
  | 100 => ⟨S16384000, .i32⟩
  | 101 => ⟨S_, .i32⟩
  | 102 => ⟨S16384000, .i32⟩
  | 103 => ⟨S16384000, .i32⟩
  | 104 => ⟨S_, .i32⟩
  | 105 => ⟨S16384000, .i32⟩
  | 106 => ⟨S16384000, .i32⟩
  | 107 => ⟨S16384000, .i32⟩
  | 108 => ⟨S16384000, .i32⟩
  | 109 => ⟨S16384000, .i32⟩
  | 110 => ⟨S_, .i32⟩
  | 111 => ⟨S16384000, .i32⟩
  | 112 => ⟨S16384000, .i32⟩
  | 113 => ⟨S_, .i32⟩
  | 114 => ⟨S16384000, .i32⟩
  | 115 => ⟨S16384000, .i32⟩
  | 116 => ⟨S16384000, .i32⟩
  | 117 => ⟨S16384000, .i32⟩
  | 118 => ⟨S16384000, .i32⟩
  | 119 => ⟨S_, .i32⟩
  | 120 => ⟨S16384000, .i32⟩
  | 121 => ⟨S16384000, .i32⟩
  | 122 => ⟨S_, .i32⟩
  | 123 => ⟨S16384000, .i32⟩
  | 124 => ⟨S16384000, .i32⟩
  | 125 => ⟨S16384000, .i32⟩
  | 126 => ⟨S16384000, .i32⟩
  | 127 => ⟨S_, .i32⟩
  | _ => ⟨S16384x1000, .f32⟩

abbrev hbmTy0_1 (i : Nat) : BufTy := match i % 128 with
  | 0 => ⟨S16384000, .i32⟩
  | 1 => ⟨S16384000, .i32⟩
  | 2 => ⟨S_, .i32⟩
  | 3 => ⟨S16384000, .i32⟩
  | 4 => ⟨S16384000, .i32⟩
  | 5 => ⟨S16384000, .i32⟩
  | 6 => ⟨S_, .i32⟩
  | 7 => ⟨S16384000, .i32⟩
  | 8 => ⟨S16384000, .i32⟩
  | 9 => ⟨S_, .i32⟩
  | 10 => ⟨S16384000, .i32⟩
  | 11 => ⟨S16384000, .i32⟩
  | 12 => ⟨S16384000, .i32⟩
  | 13 => ⟨S16384000, .i32⟩
  | 14 => ⟨S16384000, .i32⟩
  | 15 => ⟨S_, .i32⟩
  | 16 => ⟨S16384000, .i32⟩
  | 17 => ⟨S16384000, .i32⟩
  | 18 => ⟨S_, .i32⟩
  | 19 => ⟨S16384000, .i32⟩
  | 20 => ⟨S16384000, .i32⟩
  | 21 => ⟨S16384000, .i32⟩
  | 22 => ⟨S16384000, .i32⟩
  | 23 => ⟨S16384000, .i32⟩
  | 24 => ⟨S_, .i32⟩
  | 25 => ⟨S16384000, .i32⟩
  | 26 => ⟨S16384000, .i32⟩
  | 27 => ⟨S_, .i32⟩
  | 28 => ⟨S16384000, .i32⟩
  | 29 => ⟨S16384000, .i32⟩
  | 30 => ⟨S16384000, .i32⟩
  | 31 => ⟨S16384000, .i32⟩
  | 32 => ⟨S16384000, .i32⟩
  | 33 => ⟨S_, .i32⟩
  | 34 => ⟨S16384000, .i32⟩
  | 35 => ⟨S16384000, .i32⟩
  | 36 => ⟨S_, .i32⟩
  | 37 => ⟨S16384000, .i32⟩
  | 38 => ⟨S16384000, .i32⟩
  | 39 => ⟨S16384000, .i32⟩
  | 40 => ⟨S16384000, .i32⟩
  | 41 => ⟨S_, .i32⟩
  | 42 => ⟨S16384000, .i32⟩
  | 43 => ⟨S16384000, .i32⟩
  | 44 => ⟨S_, .i32⟩
  | 45 => ⟨S16384000, .i32⟩
  | 46 => ⟨S16384000, .i32⟩
  | 47 => ⟨S16384000, .i32⟩
  | 48 => ⟨S_, .i32⟩
  | 49 => ⟨S16384000, .i32⟩
  | 50 => ⟨S16384000, .i32⟩
  | 51 => ⟨S_, .i32⟩
  | 52 => ⟨S16384000, .i32⟩
  | 53 => ⟨S16384000, .i32⟩
  | 54 => ⟨S16384000, .i32⟩
  | 55 => ⟨S16384000, .i32⟩
  | 56 => ⟨S16384000, .i32⟩
  | 57 => ⟨S_, .i32⟩
  | 58 => ⟨S16384000, .i32⟩
  | 59 => ⟨S16384000, .i32⟩
  | 60 => ⟨S_, .i32⟩
  | 61 => ⟨S16384000, .i32⟩
  | 62 => ⟨S16384000, .i32⟩
  | 63 => ⟨S16384000, .i32⟩
  | 64 => ⟨S16384000, .i32⟩
  | 65 => ⟨S16384000, .i32⟩
  | 66 => ⟨S_, .i32⟩
  | 67 => ⟨S16384000, .i32⟩
  | 68 => ⟨S16384000, .i32⟩
  | 69 => ⟨S_, .i32⟩
  | 70 => ⟨S16384000, .i32⟩
  | 71 => ⟨S16384000, .i32⟩
  | 72 => ⟨S16384000, .i32⟩
  | 73 => ⟨S16384000, .i32⟩
  | 74 => ⟨S16384000, .i32⟩
  | 75 => ⟨S_, .i32⟩
  | 76 => ⟨S16384000, .i32⟩
  | 77 => ⟨S16384000, .i32⟩
  | 78 => ⟨S_, .i32⟩
  | 79 => ⟨S16384000, .i32⟩
  | 80 => ⟨S16384000, .i32⟩
  | 81 => ⟨S16384000, .i32⟩
  | 82 => ⟨S16384000, .i32⟩
  | 83 => ⟨S_, .i32⟩
  | 84 => ⟨S16384000, .i32⟩
  | 85 => ⟨S16384000, .i32⟩
  | 86 => ⟨S_, .i32⟩
  | 87 => ⟨S16384000, .i32⟩
  | 88 => ⟨S16384000, .i32⟩
  | 89 => ⟨S16384000, .i32⟩
  | 90 => ⟨S_, .i32⟩
  | 91 => ⟨S16384000, .i32⟩
  | 92 => ⟨S16384000, .i32⟩
  | 93 => ⟨S_, .i32⟩
  | 94 => ⟨S16384000, .i32⟩
  | 95 => ⟨S16384000, .i32⟩
  | 96 => ⟨S16384000, .f32⟩
  | 97 => ⟨S_, .f32⟩
  | 98 => ⟨S16384000, .f32⟩
  | 99 => ⟨S16384000, .f32⟩
  | 100 => ⟨S_, .f32⟩
  | 101 => ⟨S16384000, .f32⟩
  | 102 => ⟨S16384000, .i1⟩
  | 103 => ⟨S_, .f32⟩
  | 104 => ⟨S16384000, .f32⟩
  | 105 => ⟨S16384000, .f32⟩
  | 106 => ⟨S16384x1000, .f32⟩
  | 107 => ⟨S16384x1000, .f32⟩
  | 108 => ⟨S16384x1000, .f32⟩
  | 109 => ⟨S16384x1000, .f32⟩
  | 110 => ⟨S16384x1000, .f32⟩
  | 111 => ⟨S_, .f32⟩
  | 112 => ⟨S16384x1000, .f32⟩
  | 113 => ⟨S16384x1000, .f32⟩
  | 114 => ⟨S_, .f32⟩
  | 115 => ⟨S16384x1000, .f32⟩
  | 116 => ⟨S16384x1000, .f32⟩
  | 117 => ⟨S16384x1000, .f32⟩
  | 118 => ⟨S_, .i32⟩
  | 119 => ⟨S_, .i32⟩
  | 120 => ⟨S_, .f32⟩
  | 121 => ⟨S16384x1000, .f32⟩
  | 122 => ⟨S16384x1000, .f32⟩
  | 123 => ⟨S_, .f32⟩
  | 124 => ⟨S16384x1000, .f32⟩
  | 125 => ⟨S16384x1000, .f32⟩
  | 126 => ⟨S16384x1000, .i32⟩
  | 127 => ⟨S16384x1000, .i16⟩
  | _ => ⟨S16384x1000, .f32⟩

abbrev hbmTy0_2 (i : Nat) : BufTy := match i % 128 with
  | 0 => ⟨S16384x1000, .f32⟩
  | 1 => ⟨S16384x1, .f32⟩
  | 2 => ⟨S16384x1, .i32⟩
  | 3 => ⟨S16384x1, .f32⟩
  | 4 => ⟨S16384, .i32⟩
  | 5 => ⟨S_, .i32⟩
  | 6 => ⟨S16384, .i32⟩
  | 7 => ⟨S16384, .i1⟩
  | 8 => ⟨S16384, .i32⟩
  | 9 => ⟨S_, .i32⟩
  | 10 => ⟨S_, .i32⟩
  | 11 => ⟨S16384, .i32⟩
  | 12 => ⟨S_, .i32⟩
  | 13 => ⟨S512, .i32⟩
  | 14 => ⟨S_, .i32⟩
  | 15 => ⟨S16384, .i32⟩
  | 16 => ⟨S16384, .i1⟩
  | 17 => ⟨S_, .i32⟩
  | 18 => ⟨S16384, .i32⟩
  | 19 => ⟨S16384, .i32⟩
  | 20 => ⟨S16384, .i32⟩
  | 21 => ⟨S16384x1, .i32⟩
  | 22 => ⟨S_, .i32⟩
  | 23 => ⟨S16384, .i32⟩
  | 24 => ⟨S512, .i32⟩
  | 25 => ⟨S_, .i32⟩
  | 26 => ⟨S_, .i32⟩
  | 27 => ⟨S512, .i32⟩
  | 28 => ⟨S_, .i32⟩
  | 29 => ⟨S_, .i32⟩
  | 30 => ⟨S512, .i32⟩
  | 31 => ⟨S512, .i32⟩
  | 32 => ⟨S512, .i32⟩
  | 33 => ⟨S_, .i32⟩
  | 34 => ⟨S512, .i32⟩
  | 35 => ⟨S512, .i1⟩
  | 36 => ⟨S512, .i32⟩
  | 37 => ⟨S512, .i32⟩
  | 38 => ⟨S_, .i32⟩
  | 39 => ⟨S512, .i32⟩
  | 40 => ⟨S512, .i1⟩
  | 41 => ⟨S512, .i1⟩
  | 42 => ⟨S_, .i32⟩
  | 43 => ⟨S512, .i32⟩
  | 44 => ⟨S512, .i32⟩
  | 45 => ⟨S512, .i32⟩
  | 46 => ⟨S_, .i32⟩
  | 47 => ⟨S_, .i32⟩
  | 48 => ⟨S_, .i32⟩
  | 49 => ⟨S_, .i1⟩
  | 50 => ⟨S_, .i32⟩
  | 51 => ⟨S_, .i32⟩
  | 52 => ⟨S512, .i32⟩
  | 53 => ⟨S512, .i32⟩
  | 54 => ⟨S_, .i32⟩
  | 55 => ⟨S512, .i32⟩
  | 56 => ⟨S512, .i1⟩
  | 57 => ⟨S_, .i32⟩
  | 58 => ⟨S512, .i32⟩
  | 59 => ⟨S512, .i1⟩
  | 60 => ⟨S_, .i32⟩
  | 61 => ⟨S_, .i1⟩
  | 62 => ⟨S512, .i1⟩
  | 63 => ⟨S512, .i1⟩
  | 64 => ⟨S512, .i1⟩
  | 65 => ⟨S512, .i32⟩
  | 66 => ⟨S512, .i32⟩
  | 67 => ⟨S512, .i32⟩
  | 68 => ⟨S16384, .i32⟩
  | 69 => ⟨S_, .i32⟩
  | 70 => ⟨S_, .i32⟩
  | 71 => ⟨S1, .i32⟩
  | 72 => ⟨S512, .i32⟩
  | 73 => ⟨S512, .i32⟩
  | 74 => ⟨S512, .i1⟩
  | 75 => ⟨S_, .i32⟩
  | 76 => ⟨S1, .i32⟩
  | 77 => ⟨S512, .i32⟩
  | 78 => ⟨S16384, .i32⟩
  | 79 => ⟨S_, .i32⟩
  | 80 => ⟨S_, .i32⟩
  | 81 => ⟨S_, .i32⟩
  | 82 => ⟨S16384x1000, .f32⟩
  | 83 => ⟨S16384x1, .f32⟩
  | _ => ⟨S16384x1000, .f32⟩

abbrev hbmTy (i : Nat) : BufTy := match i / 128 with
  | 0 => hbmTy0_0 i
  | 1 => hbmTy0_1 i
  | 2 => hbmTy0_2 i
  | _ => ⟨S16384x1000, .f32⟩

abbrev bufTy : (tb : Table) → Fin (tcTables nBuf tb) → BufTy
  | .hbm, ⟨i, _⟩ => hbmTy i
  | .local _ .vmem, ⟨0, _⟩ => ⟨S1024x1000, .f32⟩
  | .local _ .vmem, ⟨1, _⟩ => ⟨S1024x1000, .f32⟩
  | .local _ .vmem, ⟨2, _⟩ => ⟨S1024x1000, .i16⟩
  | .local _ .vmem, ⟨3, _⟩ => ⟨S1024x1000, .i16⟩
  | .local _ .vmem, ⟨4, _⟩ => ⟨S1024x1000, .f32⟩
  | .local _ .vmem, ⟨5, _⟩ => ⟨S1024x1000, .f32⟩
  | .local _ .vmem, ⟨6, _⟩ => ⟨S1024x1, .f32⟩
  | .local _ .vmem, ⟨7, _⟩ => ⟨S1024x1, .f32⟩
  | .local _ .vmem, ⟨8, _⟩ => ⟨S1024x1, .i32⟩
  | .local _ .vmem, ⟨9, _⟩ => ⟨S1024x1, .i32⟩
  | .local _ .vmem, ⟨10, _⟩ => ⟨S1024x1, .f32⟩
  | .local _ .vmem, ⟨11, _⟩ => ⟨S1024x1, .f32⟩
  | .local _ .vmem, ⟨12, _⟩ => ⟨S8x1000, .f32⟩
  | .local _ .vmem, ⟨13, _⟩ => ⟨S8x1000, .f32⟩
  | .local _ .vmem, ⟨14, _⟩ => ⟨S8x1000, .f32⟩
  | .local _ .vmem, ⟨15, _⟩ => ⟨S8x1000, .f32⟩
  | .local _ .vmem, ⟨16, _⟩ => ⟨S8x1, .f32⟩
  | .local _ .vmem, ⟨17, _⟩ => ⟨S8x1, .f32⟩
  | .local _ .vmem, ⟨18, _⟩ => ⟨S8x1000, .f32⟩
  | .local _ .vmem, ⟨19, _⟩ => ⟨S8x1000, .f32⟩
  | .local _ .vmem, ⟨20, _⟩ => ⟨S8x1, .f32⟩
  | .local _ .vmem, ⟨21, _⟩ => ⟨S8x1, .f32⟩
  | .local _ .smem, ⟨0, _⟩ => ⟨S_, .i32⟩
  | .local _ .smem, ⟨1, _⟩ => ⟨S512, .i32⟩
  | _, _ => ⟨S16384x1000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_c : Ref sig .tc := ⟨.hbm, 2, rfl⟩
abbrev main_v1 : Ref sig .tc := ⟨.hbm, 3, rfl⟩
abbrev main_c_0 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c_1 : Ref sig .tc := ⟨.hbm, 8, rfl⟩
abbrev main_v5 : Ref sig .tc := ⟨.hbm, 9, rfl⟩
abbrev main_v6 : Ref sig .tc := ⟨.hbm, 10, rfl⟩
abbrev main_c_2 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_c_3 : Ref sig .tc := ⟨.hbm, 17, rfl⟩
abbrev main_v12 : Ref sig .tc := ⟨.hbm, 18, rfl⟩
abbrev main_v13 : Ref sig .tc := ⟨.hbm, 19, rfl⟩
abbrev main_c_4 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_c_5 : Ref sig .tc := ⟨.hbm, 26, rfl⟩
abbrev main_v19 : Ref sig .tc := ⟨.hbm, 27, rfl⟩
abbrev main_v20 : Ref sig .tc := ⟨.hbm, 28, rfl⟩
abbrev main_c_6 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_c_7 : Ref sig .tc := ⟨.hbm, 35, rfl⟩
abbrev main_v26 : Ref sig .tc := ⟨.hbm, 36, rfl⟩
abbrev main_v27 : Ref sig .tc := ⟨.hbm, 37, rfl⟩
abbrev main_c_8 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_c_9 : Ref sig .tc := ⟨.hbm, 43, rfl⟩
abbrev main_v32 : Ref sig .tc := ⟨.hbm, 44, rfl⟩
abbrev main_v33 : Ref sig .tc := ⟨.hbm, 45, rfl⟩
abbrev main_c_10 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_c_11 : Ref sig .tc := ⟨.hbm, 50, rfl⟩
abbrev main_v37 : Ref sig .tc := ⟨.hbm, 51, rfl⟩
abbrev main_v38 : Ref sig .tc := ⟨.hbm, 52, rfl⟩
abbrev main_c_12 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_c_13 : Ref sig .tc := ⟨.hbm, 59, rfl⟩
abbrev main_v44 : Ref sig .tc := ⟨.hbm, 60, rfl⟩
abbrev main_v45 : Ref sig .tc := ⟨.hbm, 61, rfl⟩
abbrev main_c_14 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_c_15 : Ref sig .tc := ⟨.hbm, 68, rfl⟩
abbrev main_v51 : Ref sig .tc := ⟨.hbm, 69, rfl⟩
abbrev main_v52 : Ref sig .tc := ⟨.hbm, 70, rfl⟩
abbrev main_c_16 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_c_17 : Ref sig .tc := ⟨.hbm, 77, rfl⟩
abbrev main_v58 : Ref sig .tc := ⟨.hbm, 78, rfl⟩
abbrev main_v59 : Ref sig .tc := ⟨.hbm, 79, rfl⟩
abbrev main_c_18 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_c_19 : Ref sig .tc := ⟨.hbm, 85, rfl⟩
abbrev main_v64 : Ref sig .tc := ⟨.hbm, 86, rfl⟩
abbrev main_v65 : Ref sig .tc := ⟨.hbm, 87, rfl⟩
abbrev main_c_20 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_c_21 : Ref sig .tc := ⟨.hbm, 92, rfl⟩
abbrev main_v69 : Ref sig .tc := ⟨.hbm, 93, rfl⟩
abbrev main_v70 : Ref sig .tc := ⟨.hbm, 94, rfl⟩
abbrev main_c_22 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_c_23 : Ref sig .tc := ⟨.hbm, 101, rfl⟩
abbrev main_v76 : Ref sig .tc := ⟨.hbm, 102, rfl⟩
abbrev main_v77 : Ref sig .tc := ⟨.hbm, 103, rfl⟩
abbrev main_c_24 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_c_25 : Ref sig .tc := ⟨.hbm, 110, rfl⟩
abbrev main_v83 : Ref sig .tc := ⟨.hbm, 111, rfl⟩
abbrev main_v84 : Ref sig .tc := ⟨.hbm, 112, rfl⟩
abbrev main_c_26 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_c_27 : Ref sig .tc := ⟨.hbm, 119, rfl⟩
abbrev main_v90 : Ref sig .tc := ⟨.hbm, 120, rfl⟩
abbrev main_v91 : Ref sig .tc := ⟨.hbm, 121, rfl⟩
abbrev main_c_28 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_c_29 : Ref sig .tc := ⟨.hbm, 127, rfl⟩
abbrev main_v96 : Ref sig .tc := ⟨.hbm, 128, rfl⟩
abbrev main_v97 : Ref sig .tc := ⟨.hbm, 129, rfl⟩
abbrev main_c_30 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_c_31 : Ref sig .tc := ⟨.hbm, 134, rfl⟩
abbrev main_v101 : Ref sig .tc := ⟨.hbm, 135, rfl⟩
abbrev main_v102 : Ref sig .tc := ⟨.hbm, 136, rfl⟩
abbrev main_c_32 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_c_33 : Ref sig .tc := ⟨.hbm, 143, rfl⟩
abbrev main_v108 : Ref sig .tc := ⟨.hbm, 144, rfl⟩
abbrev main_v109 : Ref sig .tc := ⟨.hbm, 145, rfl⟩
abbrev main_c_34 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_c_35 : Ref sig .tc := ⟨.hbm, 152, rfl⟩
abbrev main_v115 : Ref sig .tc := ⟨.hbm, 153, rfl⟩
abbrev main_v116 : Ref sig .tc := ⟨.hbm, 154, rfl⟩
abbrev main_c_36 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_v121 : Ref sig .tc := ⟨.hbm, 160, rfl⟩
abbrev main_c_37 : Ref sig .tc := ⟨.hbm, 161, rfl⟩
abbrev main_v122 : Ref sig .tc := ⟨.hbm, 162, rfl⟩
abbrev main_v123 : Ref sig .tc := ⟨.hbm, 163, rfl⟩
abbrev main_c_38 : Ref sig .tc := ⟨.hbm, 164, rfl⟩
abbrev main_v124 : Ref sig .tc := ⟨.hbm, 165, rfl⟩
abbrev main_v125 : Ref sig .tc := ⟨.hbm, 166, rfl⟩
abbrev main_v126 : Ref sig .tc := ⟨.hbm, 167, rfl⟩
abbrev main_v127 : Ref sig .tc := ⟨.hbm, 168, rfl⟩
abbrev main_c_39 : Ref sig .tc := ⟨.hbm, 169, rfl⟩
abbrev main_v128 : Ref sig .tc := ⟨.hbm, 170, rfl⟩
abbrev main_v129 : Ref sig .tc := ⟨.hbm, 171, rfl⟩
abbrev main_c_40 : Ref sig .tc := ⟨.hbm, 172, rfl⟩
abbrev main_v130 : Ref sig .tc := ⟨.hbm, 173, rfl⟩
abbrev main_v131 : Ref sig .tc := ⟨.hbm, 174, rfl⟩
abbrev main_v132 : Ref sig .tc := ⟨.hbm, 175, rfl⟩
abbrev main_c_41 : Ref sig .tc := ⟨.hbm, 176, rfl⟩
abbrev main_v133 : Ref sig .tc := ⟨.hbm, 177, rfl⟩
abbrev main_v134 : Ref sig .tc := ⟨.hbm, 178, rfl⟩
abbrev main_c_42 : Ref sig .tc := ⟨.hbm, 179, rfl⟩
abbrev main_v135 : Ref sig .tc := ⟨.hbm, 180, rfl⟩
abbrev main_v136 : Ref sig .tc := ⟨.hbm, 181, rfl⟩
abbrev main_v137 : Ref sig .tc := ⟨.hbm, 182, rfl⟩
abbrev main_v138 : Ref sig .tc := ⟨.hbm, 183, rfl⟩
abbrev main_v139 : Ref sig .tc := ⟨.hbm, 184, rfl⟩
abbrev main_c_43 : Ref sig .tc := ⟨.hbm, 185, rfl⟩
abbrev main_v140 : Ref sig .tc := ⟨.hbm, 186, rfl⟩
abbrev main_v141 : Ref sig .tc := ⟨.hbm, 187, rfl⟩
abbrev main_c_44 : Ref sig .tc := ⟨.hbm, 188, rfl⟩
abbrev main_v142 : Ref sig .tc := ⟨.hbm, 189, rfl⟩
abbrev main_v143 : Ref sig .tc := ⟨.hbm, 190, rfl⟩
abbrev main_v144 : Ref sig .tc := ⟨.hbm, 191, rfl⟩
abbrev main_v145 : Ref sig .tc := ⟨.hbm, 192, rfl⟩
abbrev main_v146 : Ref sig .tc := ⟨.hbm, 193, rfl⟩
abbrev main_c_45 : Ref sig .tc := ⟨.hbm, 194, rfl⟩
abbrev main_v147 : Ref sig .tc := ⟨.hbm, 195, rfl⟩
abbrev main_v148 : Ref sig .tc := ⟨.hbm, 196, rfl⟩
abbrev main_c_46 : Ref sig .tc := ⟨.hbm, 197, rfl⟩
abbrev main_v149 : Ref sig .tc := ⟨.hbm, 198, rfl⟩
abbrev main_v150 : Ref sig .tc := ⟨.hbm, 199, rfl⟩
abbrev main_v151 : Ref sig .tc := ⟨.hbm, 200, rfl⟩
abbrev main_v152 : Ref sig .tc := ⟨.hbm, 201, rfl⟩
abbrev main_v153 : Ref sig .tc := ⟨.hbm, 202, rfl⟩
abbrev main_c_47 : Ref sig .tc := ⟨.hbm, 203, rfl⟩
abbrev main_v154 : Ref sig .tc := ⟨.hbm, 204, rfl⟩
abbrev main_v155 : Ref sig .tc := ⟨.hbm, 205, rfl⟩
abbrev main_c_48 : Ref sig .tc := ⟨.hbm, 206, rfl⟩
abbrev main_v156 : Ref sig .tc := ⟨.hbm, 207, rfl⟩
abbrev main_v157 : Ref sig .tc := ⟨.hbm, 208, rfl⟩
abbrev main_v158 : Ref sig .tc := ⟨.hbm, 209, rfl⟩
abbrev main_v159 : Ref sig .tc := ⟨.hbm, 210, rfl⟩
abbrev main_c_49 : Ref sig .tc := ⟨.hbm, 211, rfl⟩
abbrev main_v160 : Ref sig .tc := ⟨.hbm, 212, rfl⟩
abbrev main_v161 : Ref sig .tc := ⟨.hbm, 213, rfl⟩
abbrev main_c_50 : Ref sig .tc := ⟨.hbm, 214, rfl⟩
abbrev main_v162 : Ref sig .tc := ⟨.hbm, 215, rfl⟩
abbrev main_v163 : Ref sig .tc := ⟨.hbm, 216, rfl⟩
abbrev main_v164 : Ref sig .tc := ⟨.hbm, 217, rfl⟩
abbrev main_c_51 : Ref sig .tc := ⟨.hbm, 218, rfl⟩
abbrev main_v165 : Ref sig .tc := ⟨.hbm, 219, rfl⟩
abbrev main_v166 : Ref sig .tc := ⟨.hbm, 220, rfl⟩
abbrev main_c_52 : Ref sig .tc := ⟨.hbm, 221, rfl⟩
abbrev main_v167 : Ref sig .tc := ⟨.hbm, 222, rfl⟩
abbrev main_v168 : Ref sig .tc := ⟨.hbm, 223, rfl⟩
abbrev main_v169 : Ref sig .tc := ⟨.hbm, 224, rfl⟩
abbrev main_cst : Ref sig .tc := ⟨.hbm, 225, rfl⟩
abbrev main_v170 : Ref sig .tc := ⟨.hbm, 226, rfl⟩
abbrev main_v171 : Ref sig .tc := ⟨.hbm, 227, rfl⟩
abbrev main_cst_53 : Ref sig .tc := ⟨.hbm, 228, rfl⟩
abbrev main_v172 : Ref sig .tc := ⟨.hbm, 229, rfl⟩
abbrev main_v173 : Ref sig .tc := ⟨.hbm, 230, rfl⟩
abbrev main_cst_54 : Ref sig .tc := ⟨.hbm, 231, rfl⟩
abbrev main_call0_v0 : Ref sig .tc := ⟨.hbm, 232, rfl⟩
abbrev main_v174 : Ref sig .tc := ⟨.hbm, 233, rfl⟩
abbrev main_v175 : Ref sig .tc := ⟨.hbm, 234, rfl⟩
abbrev main_v176 : Ref sig .tc := ⟨.hbm, 235, rfl⟩
abbrev main_v177 : Ref sig .tc := ⟨.hbm, 236, rfl⟩
abbrev main_v178 : Ref sig .tc := ⟨.hbm, 237, rfl⟩
abbrev main_v179 : Ref sig .tc := ⟨.hbm, 238, rfl⟩
abbrev main_cst_55 : Ref sig .tc := ⟨.hbm, 239, rfl⟩
abbrev main_v180 : Ref sig .tc := ⟨.hbm, 240, rfl⟩
abbrev main_v181 : Ref sig .tc := ⟨.hbm, 241, rfl⟩
abbrev main_cst_56 : Ref sig .tc := ⟨.hbm, 242, rfl⟩
abbrev main_v182 : Ref sig .tc := ⟨.hbm, 243, rfl⟩
abbrev main_v183 : Ref sig .tc := ⟨.hbm, 244, rfl⟩
abbrev main_v184 : Ref sig .tc := ⟨.hbm, 245, rfl⟩
abbrev main_c_57 : Ref sig .tc := ⟨.hbm, 246, rfl⟩
abbrev main_c_58 : Ref sig .tc := ⟨.hbm, 247, rfl⟩
abbrev main_call2_v0 : Ref sig .tc := ⟨.hbm, 248, rfl⟩
abbrev main_call2_v1 : Ref sig .tc := ⟨.hbm, 249, rfl⟩
abbrev main_call2_v2 : Ref sig .tc := ⟨.hbm, 250, rfl⟩
abbrev main_call2_v3 : Ref sig .tc := ⟨.hbm, 251, rfl⟩
abbrev main_call2_v4 : Ref sig .tc := ⟨.hbm, 252, rfl⟩
abbrev main_v185 : Ref sig .tc := ⟨.hbm, 253, rfl⟩
abbrev main_v186 : Ref sig .tc := ⟨.hbm, 254, rfl⟩
abbrev main_v187 : Ref sig .tc := ⟨.hbm, 255, rfl⟩
abbrev main_v188_0 : Ref sig .tc := ⟨.hbm, 256, rfl⟩
abbrev main_v188_1 : Ref sig .tc := ⟨.hbm, 257, rfl⟩
abbrev main_v188_2 : Ref sig .tc := ⟨.hbm, 258, rfl⟩
abbrev main_v188_3 : Ref sig .tc := ⟨.hbm, 259, rfl⟩
abbrev main_v189 : Ref sig .tc := ⟨.hbm, 260, rfl⟩
abbrev main_c_59 : Ref sig .tc := ⟨.hbm, 261, rfl⟩
abbrev main_v190 : Ref sig .tc := ⟨.hbm, 262, rfl⟩
abbrev main_v191 : Ref sig .tc := ⟨.hbm, 263, rfl⟩
abbrev main_call3_v0 : Ref sig .tc := ⟨.hbm, 264, rfl⟩
abbrev main_call3_call0_c : Ref sig .tc := ⟨.hbm, 265, rfl⟩
abbrev main_call3_call0_v0 : Ref sig .tc := ⟨.hbm, 266, rfl⟩
abbrev main_v192 : Ref sig .tc := ⟨.hbm, 267, rfl⟩
abbrev main_c_60 : Ref sig .tc := ⟨.hbm, 268, rfl⟩
abbrev main_v193 : Ref sig .tc := ⟨.hbm, 269, rfl⟩
abbrev main_c_61 : Ref sig .tc := ⟨.hbm, 270, rfl⟩
abbrev main_v194 : Ref sig .tc := ⟨.hbm, 271, rfl⟩
abbrev main_v195 : Ref sig .tc := ⟨.hbm, 272, rfl⟩
abbrev main_c_62 : Ref sig .tc := ⟨.hbm, 273, rfl⟩
abbrev main_v196 : Ref sig .tc := ⟨.hbm, 274, rfl⟩
abbrev main_v197 : Ref sig .tc := ⟨.hbm, 275, rfl⟩
abbrev main_v198 : Ref sig .tc := ⟨.hbm, 276, rfl⟩
abbrev main_v199 : Ref sig .tc := ⟨.hbm, 277, rfl⟩
abbrev main_c_63 : Ref sig .tc := ⟨.hbm, 278, rfl⟩
abbrev main_v200 : Ref sig .tc := ⟨.hbm, 279, rfl⟩
abbrev main_v201 : Ref sig .tc := ⟨.hbm, 280, rfl⟩
abbrev main_call4_call0_c : Ref sig .tc := ⟨.hbm, 281, rfl⟩
abbrev main_call4_call0_v0 : Ref sig .tc := ⟨.hbm, 282, rfl⟩
abbrev main_v202 : Ref sig .tc := ⟨.hbm, 283, rfl⟩
abbrev main_c_64 : Ref sig .tc := ⟨.hbm, 284, rfl⟩
abbrev main_call5_v0 : Ref sig .tc := ⟨.hbm, 285, rfl⟩
abbrev main_call5_v1 : Ref sig .tc := ⟨.hbm, 286, rfl⟩
abbrev main_call5_v2 : Ref sig .tc := ⟨.hbm, 287, rfl⟩
abbrev main_call5_v3 : Ref sig .tc := ⟨.hbm, 288, rfl⟩
abbrev main_call5_v4 : Ref sig .tc := ⟨.hbm, 289, rfl⟩
abbrev main_call5_v5 : Ref sig .tc := ⟨.hbm, 290, rfl⟩
abbrev main_call5_v6 : Ref sig .tc := ⟨.hbm, 291, rfl⟩
abbrev main_call5_v7 : Ref sig .tc := ⟨.hbm, 292, rfl⟩
abbrev main_call5_v8 : Ref sig .tc := ⟨.hbm, 293, rfl⟩
abbrev main_call5_c : Ref sig .tc := ⟨.hbm, 294, rfl⟩
abbrev main_call5_v9 : Ref sig .tc := ⟨.hbm, 295, rfl⟩
abbrev main_call5_v10 : Ref sig .tc := ⟨.hbm, 296, rfl⟩
abbrev main_call5_v11 : Ref sig .tc := ⟨.hbm, 297, rfl⟩
abbrev main_call5_c_0 : Ref sig .tc := ⟨.hbm, 298, rfl⟩
abbrev main_call5_v12 : Ref sig .tc := ⟨.hbm, 299, rfl⟩
abbrev main_call5_v13 : Ref sig .tc := ⟨.hbm, 300, rfl⟩
abbrev main_v203 : Ref sig .tc := ⟨.hbm, 301, rfl⟩
abbrev main_c_65 : Ref sig .tc := ⟨.hbm, 302, rfl⟩
abbrev main_call6_v0 : Ref sig .tc := ⟨.hbm, 303, rfl⟩
abbrev main_call6_c : Ref sig .tc := ⟨.hbm, 304, rfl⟩
abbrev main_call6_v1 : Ref sig .tc := ⟨.hbm, 305, rfl⟩
abbrev main_call6_c_0 : Ref sig .tc := ⟨.hbm, 306, rfl⟩
abbrev main_call6_v2 : Ref sig .tc := ⟨.hbm, 307, rfl⟩
abbrev main_call6_v3 : Ref sig .tc := ⟨.hbm, 308, rfl⟩
abbrev main_call6_v4 : Ref sig .tc := ⟨.hbm, 309, rfl⟩
abbrev main_call6_c_1 : Ref sig .tc := ⟨.hbm, 310, rfl⟩
abbrev main_call6_v5 : Ref sig .tc := ⟨.hbm, 311, rfl⟩
abbrev main_call6_v6 : Ref sig .tc := ⟨.hbm, 312, rfl⟩
abbrev main_call6_c_2 : Ref sig .tc := ⟨.hbm, 313, rfl⟩
abbrev main_call6_v7 : Ref sig .tc := ⟨.hbm, 314, rfl⟩
abbrev main_call6_v8 : Ref sig .tc := ⟨.hbm, 315, rfl⟩
abbrev main_call6_c_3 : Ref sig .tc := ⟨.hbm, 316, rfl⟩
abbrev main_call6_v9 : Ref sig .tc := ⟨.hbm, 317, rfl⟩
abbrev main_call6_v10 : Ref sig .tc := ⟨.hbm, 318, rfl⟩
abbrev main_call6_v11 : Ref sig .tc := ⟨.hbm, 319, rfl⟩
abbrev main_call6_v12 : Ref sig .tc := ⟨.hbm, 320, rfl⟩
abbrev main_call6_v13 : Ref sig .tc := ⟨.hbm, 321, rfl⟩
abbrev main_call6_v14 : Ref sig .tc := ⟨.hbm, 322, rfl⟩
abbrev main_v204 : Ref sig .tc := ⟨.hbm, 323, rfl⟩
abbrev main_v205 : Ref sig .tc := ⟨.hbm, 324, rfl⟩
abbrev main_c_66 : Ref sig .tc := ⟨.hbm, 325, rfl⟩
abbrev main_v206 : Ref sig .tc := ⟨.hbm, 326, rfl⟩
abbrev main_v207 : Ref sig .tc := ⟨.hbm, 327, rfl⟩
abbrev main_v208 : Ref sig .tc := ⟨.hbm, 328, rfl⟩
abbrev main_v209 : Ref sig .tc := ⟨.hbm, 329, rfl⟩
abbrev main_v210 : Ref sig .tc := ⟨.hbm, 330, rfl⟩
abbrev main_c_67 : Ref sig .tc := ⟨.hbm, 331, rfl⟩
abbrev main_v211 : Ref sig .tc := ⟨.hbm, 332, rfl⟩
abbrev main_call7_v0 : Ref sig .tc := ⟨.hbm, 333, rfl⟩
abbrev main_v213 : Ref sig .tc := ⟨.hbm, 334, rfl⟩
abbrev main_c_68 : Ref sig .tc := ⟨.hbm, 335, rfl⟩
abbrev main_v214 : Ref sig .tc := ⟨.hbm, 336, rfl⟩
abbrev main_c_69 : Ref sig .tc := ⟨.hbm, 337, rfl⟩
abbrev main_v216_0 : Ref sig .tc := ⟨.hbm, 338, rfl⟩
abbrev main_v216_1 : Ref sig .tc := ⟨.hbm, 339, rfl⟩
abbrev main_v215 : Ref sig .tc := ⟨.smem, 0, rfl⟩
abbrev main_v212 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg4_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem4_1 : DmaSem sig := 21

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1000 .i16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![0], ![true]⟩

abbrev pre1 : Pipeline.Prefetch sig := ⟨2, ![main_v215.idx, main_v212.idx], fun | 0 => main_v215.names | 1 => main_v212.names | ⟨_ + 2, h⟩ => absurd h (Nat.not_lt.2 (Nat.le_add_left _ _)), fun | 0 => rfl | 1 => rfl | ⟨_ + 2, h⟩ => absurd h (Nat.not_lt.2 (Nat.le_add_left _ _))⟩

def dynb1 (pf : pre1.Contents (Elt F)) : grid1.Bounds := ![(pf 0 fun a => a.elim0).toNat]

def k1_off1 (b : grid1.Bounds) (i : (grid1.at b).Coords) : Fin 1 → Nat :=
  let arg0 : BitVec 32 := BitVec.ofNat 32 (i 0).val
  let v0 : Index := Scalar.indexCast arg0
  ![v0.toNat]

def cc1_transform_0 (pf : pre1.Contents (Elt F)) (b : grid1.Bounds) (i : (grid1.at b).Coords) : Fin 2 → Nat :=
  let arg0 : BitVec 32 := BitVec.ofNat 32 (i 0).val
  let v0 : Index := Scalar.indexCast arg0
  let v1 : BitVec 32 := pf.atD 1 ![v0.toNat]
  let c8_i32 : BitVec 32 := 8#32
  let v2 : BitVec 32 := Scalar.divsi v1 c8_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c0_i32_4 : BitVec 32 := 0#32
  let c0_i32_5 : BitVec 32 := 0#32
  ![v18.toNat, c0_i32_4.toNat]

def cc1_transform_1 (pf : pre1.Contents (Elt F)) (b : grid1.Bounds) (i : (grid1.at b).Coords) : Fin 2 → Nat :=
  let arg0 : BitVec 32 := BitVec.ofNat 32 (i 0).val
  let v0 : Index := Scalar.indexCast arg0
  let v1 : BitVec 32 := pf.atD 1 ![v0.toNat]
  let c8_i32 : BitVec 32 := 8#32
  let v2 : BitVec 32 := Scalar.divsi v1 c8_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c0_i32_4 : BitVec 32 := 0#32
  let c0_i32_5 : BitVec 32 := 0#32
  ![v18.toNat, c0_i32_4.toNat]

def cc1_transform_2 (pf : pre1.Contents (Elt F)) (b : grid1.Bounds) (i : (grid1.at b).Coords) : Fin 2 → Nat :=
  let arg0 : BitVec 32 := BitVec.ofNat 32 (i 0).val
  let v0 : Index := Scalar.indexCast arg0
  let v1 : BitVec 32 := pf.atD 1 ![v0.toNat]
  let c8_i32 : BitVec 32 := 8#32
  let v2 : BitVec 32 := Scalar.divsi v1 c8_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c0_i32_4 : BitVec 32 := 0#32
  let c0_i32_5 : BitVec 32 := 0#32
  ![v18.toNat, c0_i32_4.toNat]

def cc1_transform_5 (pf : pre1.Contents (Elt F)) (b : grid1.Bounds) (i : (grid1.at b).Coords) : Fin 2 → Nat :=
  let arg0 : BitVec 32 := BitVec.ofNat 32 (i 0).val
  let v0 : Index := Scalar.indexCast arg0
  let v1 : BitVec 32 := pf.atD 1 ![v0.toNat]
  let c8_i32 : BitVec 32 := 8#32
  let v2 : BitVec 32 := Scalar.divsi v1 c8_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c0_i32_4 : BitVec 32 := 0#32
  let c0_i32_5 : BitVec 32 := 0#32
  ![v18.toNat, c0_i32_4.toNat]

def cc1_transform_6 (pf : pre1.Contents (Elt F)) (b : grid1.Bounds) (i : (grid1.at b).Coords) : Fin 2 → Nat :=
  let arg0 : BitVec 32 := BitVec.ofNat 32 (i 0).val
  let v0 : Index := Scalar.indexCast arg0
  let v1 : BitVec 32 := pf.atD 1 ![v0.toNat]
  let c8_i32 : BitVec 32 := 8#32
  let v2 : BitVec 32 := Scalar.divsi v1 c8_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c0_i32_4 : BitVec 32 := 0#32
  let c0_i32_5 : BitVec 32 := 0#32
  ![v18.toNat, c0_i32_4.toNat]

abbrev stage1_0 : Fin 2 → Memref sig .tc .vmem S8x1000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8x1000 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S8x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S8x1000 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S8x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]
-- ==== ReferenceIdeal.lean ====
abbrev S16384x1000 : Shape := ⟨2, ![16384, 1000]⟩
abbrev S_ : Shape := ⟨0, ![]⟩
abbrev S1 : Shape := ⟨1, ![1]⟩
abbrev S2 : Shape := ⟨1, ![2]⟩
abbrev S16384 : Shape := ⟨1, ![16384]⟩
abbrev S16384x1 : Shape := ⟨2, ![16384, 1]⟩
abbrev S1x1000 : Shape := ⟨2, ![1, 1000]⟩
abbrev S16384x1x1 : Shape := ⟨3, ![16384, 1, 1]⟩
abbrev S1x1x1 : Shape := ⟨3, ![1, 1, 1]⟩

abbrev nBuf : Space → Nat
  | .hbm => 324
  | .vmem => 0
  | .smem => 0
  | _ => 0

abbrev hbmTy0_0 (i : Nat) : BufTy := match i % 128 with
  | 0 => ⟨S16384x1000, .f32⟩
  | 1 => ⟨S_, .i32⟩
  | 2 => ⟨S_, .i32⟩
  | 3 => ⟨S_, .i32⟩
  | 4 => ⟨S_, .i32⟩
  | 5 => ⟨S1, .i32⟩
  | 6 => ⟨S_, .i32⟩
  | 7 => ⟨S_, .i32⟩
  | 8 => ⟨S_, .i32⟩
  | 9 => ⟨S1, .i32⟩
  | 10 => ⟨S2, .i32⟩
  | 11 => ⟨S1, .i32⟩
  | 12 => ⟨S_, .i32⟩
  | 13 => ⟨S1, .i32⟩
  | 14 => ⟨S_, .i32⟩
  | 15 => ⟨S16384x1000, .i64⟩
  | 16 => ⟨S16384x1000, .i64⟩
  | 17 => ⟨S_, .i64⟩
  | 18 => ⟨S16384x1000, .i64⟩
  | 19 => ⟨S16384x1000, .i64⟩
  | 20 => ⟨S_, .i64⟩
  | 21 => ⟨S16384x1000, .i64⟩
  | 22 => ⟨S16384x1000, .i64⟩
  | 23 => ⟨S16384x1000, .i64⟩
  | 24 => ⟨S_, .i64⟩
  | 25 => ⟨S16384x1000, .i64⟩
  | 26 => ⟨S16384x1000, .i64⟩
  | 27 => ⟨S16384x1000, .i32⟩
  | 28 => ⟨S16384x1000, .i32⟩
  | 29 => ⟨S_, .i32⟩
  | 30 => ⟨S_, .i32⟩
  | 31 => ⟨S_, .i32⟩
  | 32 => ⟨S16384x1000, .i32⟩
  | 33 => ⟨S16384x1000, .i32⟩
  | 34 => ⟨S16384x1000, .i32⟩
  | 35 => ⟨S16384x1000, .i32⟩
  | 36 => ⟨S16384x1000, .i32⟩
  | 37 => ⟨S_, .i32⟩
  | 38 => ⟨S16384x1000, .i32⟩
  | 39 => ⟨S16384x1000, .i32⟩
  | 40 => ⟨S_, .i32⟩
  | 41 => ⟨S16384x1000, .i32⟩
  | 42 => ⟨S16384x1000, .i32⟩
  | 43 => ⟨S16384x1000, .i32⟩
  | 44 => ⟨S16384x1000, .i32⟩
  | 45 => ⟨S16384x1000, .i32⟩
  | 46 => ⟨S_, .i32⟩
  | 47 => ⟨S16384x1000, .i32⟩
  | 48 => ⟨S16384x1000, .i32⟩
  | 49 => ⟨S_, .i32⟩
  | 50 => ⟨S16384x1000, .i32⟩
  | 51 => ⟨S16384x1000, .i32⟩
  | 52 => ⟨S16384x1000, .i32⟩
  | 53 => ⟨S16384x1000, .i32⟩
  | 54 => ⟨S16384x1000, .i32⟩
  | 55 => ⟨S_, .i32⟩
  | 56 => ⟨S16384x1000, .i32⟩
  | 57 => ⟨S16384x1000, .i32⟩
  | 58 => ⟨S_, .i32⟩
  | 59 => ⟨S16384x1000, .i32⟩
  | 60 => ⟨S16384x1000, .i32⟩
  | 61 => ⟨S16384x1000, .i32⟩
  | 62 => ⟨S16384x1000, .i32⟩
  | 63 => ⟨S16384x1000, .i32⟩
  | 64 => ⟨S_, .i32⟩
  | 65 => ⟨S16384x1000, .i32⟩
  | 66 => ⟨S16384x1000, .i32⟩
  | 67 => ⟨S_, .i32⟩
  | 68 => ⟨S16384x1000, .i32⟩
  | 69 => ⟨S16384x1000, .i32⟩
  | 70 => ⟨S16384x1000, .i32⟩
  | 71 => ⟨S16384x1000, .i32⟩
  | 72 => ⟨S16384x1000, .i32⟩
  | 73 => ⟨S16384x1000, .i32⟩
  | 74 => ⟨S16384x1000, .i32⟩
  | 75 => ⟨S16384x1000, .i32⟩
  | 76 => ⟨S_, .i32⟩
  | 77 => ⟨S16384x1000, .i32⟩
  | 78 => ⟨S16384x1000, .i32⟩
  | 79 => ⟨S16384x1000, .i32⟩
  | 80 => ⟨S_, .i32⟩
  | 81 => ⟨S16384x1000, .i32⟩
  | 82 => ⟨S16384x1000, .i32⟩
  | 83 => ⟨S_, .i32⟩
  | 84 => ⟨S16384x1000, .i32⟩
  | 85 => ⟨S16384x1000, .i32⟩
  | 86 => ⟨S16384x1000, .i32⟩
  | 87 => ⟨S16384x1000, .i32⟩
  | 88 => ⟨S16384x1000, .i32⟩
  | 89 => ⟨S_, .i32⟩
  | 90 => ⟨S16384x1000, .i32⟩
  | 91 => ⟨S16384x1000, .i32⟩
  | 92 => ⟨S_, .i32⟩
  | 93 => ⟨S16384x1000, .i32⟩
  | 94 => ⟨S16384x1000, .i32⟩
  | 95 => ⟨S16384x1000, .i32⟩
  | 96 => ⟨S16384x1000, .i32⟩
  | 97 => ⟨S16384x1000, .i32⟩
  | 98 => ⟨S_, .i32⟩
  | 99 => ⟨S16384x1000, .i32⟩
  | 100 => ⟨S16384x1000, .i32⟩
  | 101 => ⟨S_, .i32⟩
  | 102 => ⟨S16384x1000, .i32⟩
  | 103 => ⟨S16384x1000, .i32⟩
  | 104 => ⟨S16384x1000, .i32⟩
  | 105 => ⟨S16384x1000, .i32⟩
  | 106 => ⟨S16384x1000, .i32⟩
  | 107 => ⟨S_, .i32⟩
  | 108 => ⟨S16384x1000, .i32⟩
  | 109 => ⟨S16384x1000, .i32⟩
  | 110 => ⟨S_, .i32⟩
  | 111 => ⟨S16384x1000, .i32⟩
  | 112 => ⟨S16384x1000, .i32⟩
  | 113 => ⟨S16384x1000, .i32⟩
  | 114 => ⟨S16384x1000, .i32⟩
  | 115 => ⟨S16384x1000, .i32⟩
  | 116 => ⟨S16384x1000, .i32⟩
  | 117 => ⟨S16384x1000, .i32⟩
  | 118 => ⟨S16384x1000, .i32⟩
  | 119 => ⟨S_, .i32⟩
  | 120 => ⟨S16384x1000, .i32⟩
  | 121 => ⟨S16384x1000, .i32⟩
  | 122 => ⟨S16384x1000, .i32⟩
  | 123 => ⟨S_, .i32⟩
  | 124 => ⟨S16384x1000, .i32⟩
  | 125 => ⟨S16384x1000, .i32⟩
  | 126 => ⟨S_, .i32⟩
  | 127 => ⟨S16384x1000, .i32⟩
  | _ => ⟨S16384x1000, .f32⟩

abbrev hbmTy0_1 (i : Nat) : BufTy := match i % 128 with
  | 0 => ⟨S16384x1000, .i32⟩
  | 1 => ⟨S16384x1000, .i32⟩
  | 2 => ⟨S16384x1000, .i32⟩
  | 3 => ⟨S16384x1000, .i32⟩
  | 4 => ⟨S_, .i32⟩
  | 5 => ⟨S16384x1000, .i32⟩
  | 6 => ⟨S16384x1000, .i32⟩
  | 7 => ⟨S_, .i32⟩
  | 8 => ⟨S16384x1000, .i32⟩
  | 9 => ⟨S16384x1000, .i32⟩
  | 10 => ⟨S16384x1000, .i32⟩
  | 11 => ⟨S16384x1000, .i32⟩
  | 12 => ⟨S16384x1000, .i32⟩
  | 13 => ⟨S_, .i32⟩
  | 14 => ⟨S16384x1000, .i32⟩
  | 15 => ⟨S16384x1000, .i32⟩
  | 16 => ⟨S_, .i32⟩
  | 17 => ⟨S16384x1000, .i32⟩
  | 18 => ⟨S16384x1000, .i32⟩
  | 19 => ⟨S16384x1000, .i32⟩
  | 20 => ⟨S16384x1000, .i32⟩
  | 21 => ⟨S16384x1000, .i32⟩
  | 22 => ⟨S_, .i32⟩
  | 23 => ⟨S16384x1000, .i32⟩
  | 24 => ⟨S16384x1000, .i32⟩
  | 25 => ⟨S_, .i32⟩
  | 26 => ⟨S16384x1000, .i32⟩
  | 27 => ⟨S16384x1000, .i32⟩
  | 28 => ⟨S16384x1000, .i32⟩
  | 29 => ⟨S16384x1000, .i32⟩
  | 30 => ⟨S16384x1000, .i32⟩
  | 31 => ⟨S16384x1000, .i32⟩
  | 32 => ⟨S16384x1000, .i32⟩
  | 33 => ⟨S16384x1000, .i32⟩
  | 34 => ⟨S_, .i32⟩
  | 35 => ⟨S16384x1000, .i32⟩
  | 36 => ⟨S16384x1000, .i32⟩
  | 37 => ⟨S16384x1000, .i32⟩
  | 38 => ⟨S_, .i32⟩
  | 39 => ⟨S16384x1000, .i32⟩
  | 40 => ⟨S16384x1000, .i32⟩
  | 41 => ⟨S_, .i32⟩
  | 42 => ⟨S16384x1000, .i32⟩
  | 43 => ⟨S16384x1000, .i32⟩
  | 44 => ⟨S16384x1000, .i32⟩
  | 45 => ⟨S16384x1000, .i32⟩
  | 46 => ⟨S16384x1000, .i32⟩
  | 47 => ⟨S_, .i32⟩
  | 48 => ⟨S16384x1000, .i32⟩
  | 49 => ⟨S16384x1000, .i32⟩
  | 50 => ⟨S_, .i32⟩
  | 51 => ⟨S16384x1000, .i32⟩
  | 52 => ⟨S16384x1000, .i32⟩
  | 53 => ⟨S16384x1000, .i32⟩
  | 54 => ⟨S16384x1000, .i32⟩
  | 55 => ⟨S16384x1000, .i32⟩
  | 56 => ⟨S_, .i32⟩
  | 57 => ⟨S16384x1000, .i32⟩
  | 58 => ⟨S16384x1000, .i32⟩
  | 59 => ⟨S_, .i32⟩
  | 60 => ⟨S16384x1000, .i32⟩
  | 61 => ⟨S16384x1000, .i32⟩
  | 62 => ⟨S16384x1000, .i32⟩
  | 63 => ⟨S16384x1000, .i32⟩
  | 64 => ⟨S16384x1000, .i32⟩
  | 65 => ⟨S_, .i32⟩
  | 66 => ⟨S16384x1000, .i32⟩
  | 67 => ⟨S16384x1000, .i32⟩
  | 68 => ⟨S_, .i32⟩
  | 69 => ⟨S16384x1000, .i32⟩
  | 70 => ⟨S16384x1000, .i32⟩
  | 71 => ⟨S16384x1000, .i32⟩
  | 72 => ⟨S16384x1000, .i32⟩
  | 73 => ⟨S16384x1000, .i32⟩
  | 74 => ⟨S16384x1000, .i32⟩
  | 75 => ⟨S16384x1000, .i32⟩
  | 76 => ⟨S16384x1000, .i32⟩
  | 77 => ⟨S_, .i32⟩
  | 78 => ⟨S16384x1000, .i32⟩
  | 79 => ⟨S16384x1000, .i32⟩
  | 80 => ⟨S16384x1000, .i32⟩
  | 81 => ⟨S_, .i32⟩
  | 82 => ⟨S16384x1000, .i32⟩
  | 83 => ⟨S16384x1000, .i32⟩
  | 84 => ⟨S_, .i32⟩
  | 85 => ⟨S16384x1000, .i32⟩
  | 86 => ⟨S16384x1000, .i32⟩
  | 87 => ⟨S16384x1000, .i32⟩
  | 88 => ⟨S16384x1000, .i32⟩
  | 89 => ⟨S16384x1000, .i32⟩
  | 90 => ⟨S_, .i32⟩
  | 91 => ⟨S16384x1000, .i32⟩
  | 92 => ⟨S16384x1000, .i32⟩
  | 93 => ⟨S_, .i32⟩
  | 94 => ⟨S16384x1000, .i32⟩
  | 95 => ⟨S16384x1000, .i32⟩
  | 96 => ⟨S16384x1000, .i32⟩
  | 97 => ⟨S16384x1000, .i32⟩
  | 98 => ⟨S16384x1000, .i32⟩
  | 99 => ⟨S_, .i32⟩
  | 100 => ⟨S16384x1000, .i32⟩
  | 101 => ⟨S16384x1000, .i32⟩
  | 102 => ⟨S_, .i32⟩
  | 103 => ⟨S16384x1000, .i32⟩
  | 104 => ⟨S16384x1000, .i32⟩
  | 105 => ⟨S16384x1000, .i32⟩
  | 106 => ⟨S16384x1000, .i32⟩
  | 107 => ⟨S16384x1000, .i32⟩
  | 108 => ⟨S_, .i32⟩
  | 109 => ⟨S16384x1000, .i32⟩
  | 110 => ⟨S16384x1000, .i32⟩
  | 111 => ⟨S_, .i32⟩
  | 112 => ⟨S16384x1000, .i32⟩
  | 113 => ⟨S16384x1000, .i32⟩
  | 114 => ⟨S16384x1000, .i32⟩
  | 115 => ⟨S16384x1000, .i32⟩
  | 116 => ⟨S16384x1000, .i32⟩
  | 117 => ⟨S16384x1000, .i32⟩
  | 118 => ⟨S16384x1000, .i32⟩
  | 119 => ⟨S16384x1000, .i32⟩
  | 120 => ⟨S_, .i32⟩
  | 121 => ⟨S16384x1000, .i32⟩
  | 122 => ⟨S16384x1000, .i32⟩
  | 123 => ⟨S16384x1000, .i32⟩
  | 124 => ⟨S_, .i32⟩
  | 125 => ⟨S16384x1000, .i32⟩
  | 126 => ⟨S16384x1000, .i32⟩
  | 127 => ⟨S_, .i32⟩
  | _ => ⟨S16384x1000, .f32⟩

abbrev hbmTy0_2 (i : Nat) : BufTy := match i % 128 with
  | 0 => ⟨S16384x1000, .i32⟩
  | 1 => ⟨S16384x1000, .i32⟩
  | 2 => ⟨S16384x1000, .f32⟩
  | 3 => ⟨S_, .f32⟩
  | 4 => ⟨S16384x1000, .f32⟩
  | 5 => ⟨S16384x1000, .f32⟩
  | 6 => ⟨S_, .f32⟩
  | 7 => ⟨S16384x1000, .f32⟩
  | 8 => ⟨S16384x1000, .f32⟩
  | 9 => ⟨S16384x1000, .f32⟩
  | 10 => ⟨S16384x1000, .f32⟩
  | 11 => ⟨S16384x1000, .f32⟩
  | 12 => ⟨S16384x1000, .f32⟩
  | 13 => ⟨S16384x1000, .f32⟩
  | 14 => ⟨S16384x1000, .i32⟩
  | 15 => ⟨S_, .f32⟩
  | 16 => ⟨S_, .i32⟩
  | 17 => ⟨S16384, .f32⟩
  | 18 => ⟨S16384, .i32⟩
  | 19 => ⟨S16384x1, .i32⟩
  | 20 => ⟨S1x1000, .i32⟩
  | 21 => ⟨S16384x1000, .i32⟩
  | 22 => ⟨S16384x1000, .i32⟩
  | 23 => ⟨S16384x1000, .i1⟩
  | 24 => ⟨S16384x1000, .f32⟩
  | 25 => ⟨S16384x1000, .i32⟩
  | 26 => ⟨S_, .f32⟩
  | 27 => ⟨S_, .i32⟩
  | 28 => ⟨S16384, .f32⟩
  | 29 => ⟨S16384, .i32⟩
  | 30 => ⟨S_, .f32⟩
  | 31 => ⟨S16384, .f32⟩
  | 32 => ⟨S_, .f32⟩
  | 33 => ⟨S16384, .f32⟩
  | 34 => ⟨S16384, .f32⟩
  | 35 => ⟨S16384x1, .f32⟩
  | 36 => ⟨S16384x1000, .f32⟩
  | 37 => ⟨S16384x1000, .f32⟩
  | 38 => ⟨S16384x1000, .f32⟩
  | 39 => ⟨S_, .f32⟩
  | 40 => ⟨S16384, .f32⟩
  | 41 => ⟨S16384x1, .f32⟩
  | 42 => ⟨S16384x1, .f32⟩
  | 43 => ⟨S16384x1000, .f32⟩
  | 44 => ⟨S16384x1000, .f32⟩
  | 45 => ⟨S16384x1, .i32⟩
  | 46 => ⟨S_, .i32⟩
  | 47 => ⟨S16384x1, .i32⟩
  | 48 => ⟨S16384x1, .i1⟩
  | 49 => ⟨S_, .i32⟩
  | 50 => ⟨S16384x1, .i32⟩
  | 51 => ⟨S16384x1, .i32⟩
  | 52 => ⟨S16384x1, .i32⟩
  | 53 => ⟨S16384x1x1, .i32⟩
  | 54 => ⟨S1, .i32⟩
  | 55 => ⟨S_, .i32⟩
  | 56 => ⟨S16384x1x1, .i32⟩
  | 57 => ⟨S16384x1x1, .i1⟩
  | 58 => ⟨S1x1x1, .i32⟩
  | 59 => ⟨S16384x1x1, .i32⟩
  | 60 => ⟨S16384x1x1, .i1⟩
  | 61 => ⟨S16384x1x1, .i1⟩
  | 62 => ⟨S_, .i1⟩
  | 63 => ⟨S16384x1, .i1⟩
  | 64 => ⟨S16384x1, .f32⟩
  | 65 => ⟨S_, .f32⟩
  | 66 => ⟨S16384x1, .f32⟩
  | 67 => ⟨S16384x1, .f32⟩
  | _ => ⟨S16384x1000, .f32⟩

abbrev hbmTy (i : Nat) : BufTy := match i / 128 with
  | 0 => hbmTy0_0 i
  | 1 => hbmTy0_1 i
  | 2 => hbmTy0_2 i
  | _ => ⟨S16384x1000, .f32⟩

abbrev bufTy : (tb : Table) → Fin (tcTables nBuf tb) → BufTy
  | .hbm, ⟨i, _⟩ => hbmTy i
  | _, _ => ⟨S16384x1000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c_1 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_c_2 : Ref sig .tc := ⟨.hbm, 17, rfl⟩
abbrev main_v13 : Ref sig .tc := ⟨.hbm, 18, rfl⟩
abbrev main_v14 : Ref sig .tc := ⟨.hbm, 19, rfl⟩
abbrev main_c_3 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_c_4 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_call0_v0 : Ref sig .tc := ⟨.hbm, 29, rfl⟩
abbrev main_call0_c : Ref sig .tc := ⟨.hbm, 30, rfl⟩
abbrev main_call0_v1 : Ref sig .tc := ⟨.hbm, 31, rfl⟩
abbrev main_call0_v2 : Ref sig .tc := ⟨.hbm, 32, rfl⟩
abbrev main_call0_v3 : Ref sig .tc := ⟨.hbm, 33, rfl⟩
abbrev main_call0_v4 : Ref sig .tc := ⟨.hbm, 34, rfl⟩
abbrev main_call0_v5 : Ref sig .tc := ⟨.hbm, 35, rfl⟩
abbrev main_call0_v6 : Ref sig .tc := ⟨.hbm, 36, rfl⟩
abbrev main_call0_c_0 : Ref sig .tc := ⟨.hbm, 37, rfl⟩
abbrev main_call0_v7 : Ref sig .tc := ⟨.hbm, 38, rfl⟩
abbrev main_call0_v8 : Ref sig .tc := ⟨.hbm, 39, rfl⟩
abbrev main_call0_c_1 : Ref sig .tc := ⟨.hbm, 40, rfl⟩
abbrev main_call0_v9 : Ref sig .tc := ⟨.hbm, 41, rfl⟩
abbrev main_call0_v10 : Ref sig .tc := ⟨.hbm, 42, rfl⟩
abbrev main_call0_v11 : Ref sig .tc := ⟨.hbm, 43, rfl⟩
abbrev main_call0_v12 : Ref sig .tc := ⟨.hbm, 44, rfl⟩
abbrev main_call0_v13 : Ref sig .tc := ⟨.hbm, 45, rfl⟩
abbrev main_call0_c_2 : Ref sig .tc := ⟨.hbm, 46, rfl⟩
abbrev main_call0_v14 : Ref sig .tc := ⟨.hbm, 47, rfl⟩
abbrev main_call0_v15 : Ref sig .tc := ⟨.hbm, 48, rfl⟩
abbrev main_call0_c_3 : Ref sig .tc := ⟨.hbm, 49, rfl⟩
abbrev main_call0_v16 : Ref sig .tc := ⟨.hbm, 50, rfl⟩
abbrev main_call0_v17 : Ref sig .tc := ⟨.hbm, 51, rfl⟩
abbrev main_call0_v18 : Ref sig .tc := ⟨.hbm, 52, rfl⟩
abbrev main_call0_v19 : Ref sig .tc := ⟨.hbm, 53, rfl⟩
abbrev main_call0_v20 : Ref sig .tc := ⟨.hbm, 54, rfl⟩
abbrev main_call0_c_4 : Ref sig .tc := ⟨.hbm, 55, rfl⟩
abbrev main_call0_v21 : Ref sig .tc := ⟨.hbm, 56, rfl⟩
abbrev main_call0_v22 : Ref sig .tc := ⟨.hbm, 57, rfl⟩
abbrev main_call0_c_5 : Ref sig .tc := ⟨.hbm, 58, rfl⟩
abbrev main_call0_v23 : Ref sig .tc := ⟨.hbm, 59, rfl⟩
abbrev main_call0_v24 : Ref sig .tc := ⟨.hbm, 60, rfl⟩
abbrev main_call0_v25 : Ref sig .tc := ⟨.hbm, 61, rfl⟩
abbrev main_call0_v26 : Ref sig .tc := ⟨.hbm, 62, rfl⟩
abbrev main_call0_v27 : Ref sig .tc := ⟨.hbm, 63, rfl⟩
abbrev main_call0_c_6 : Ref sig .tc := ⟨.hbm, 64, rfl⟩
abbrev main_call0_v28 : Ref sig .tc := ⟨.hbm, 65, rfl⟩
abbrev main_call0_v29 : Ref sig .tc := ⟨.hbm, 66, rfl⟩
abbrev main_call0_c_7 : Ref sig .tc := ⟨.hbm, 67, rfl⟩
abbrev main_call0_v30 : Ref sig .tc := ⟨.hbm, 68, rfl⟩
abbrev main_call0_v31 : Ref sig .tc := ⟨.hbm, 69, rfl⟩
abbrev main_call0_v32 : Ref sig .tc := ⟨.hbm, 70, rfl⟩
abbrev main_call0_v33 : Ref sig .tc := ⟨.hbm, 71, rfl⟩
abbrev main_call0_v34 : Ref sig .tc := ⟨.hbm, 72, rfl⟩
abbrev main_call0_v35 : Ref sig .tc := ⟨.hbm, 73, rfl⟩
abbrev main_call0_v36 : Ref sig .tc := ⟨.hbm, 74, rfl⟩
abbrev main_call0_v37 : Ref sig .tc := ⟨.hbm, 75, rfl⟩
abbrev main_call0_c_8 : Ref sig .tc := ⟨.hbm, 76, rfl⟩
abbrev main_call0_v38 : Ref sig .tc := ⟨.hbm, 77, rfl⟩
abbrev main_call0_v39 : Ref sig .tc := ⟨.hbm, 78, rfl⟩
abbrev main_call0_v40 : Ref sig .tc := ⟨.hbm, 79, rfl⟩
abbrev main_call0_c_9 : Ref sig .tc := ⟨.hbm, 80, rfl⟩
abbrev main_call0_v41 : Ref sig .tc := ⟨.hbm, 81, rfl⟩
abbrev main_call0_v42 : Ref sig .tc := ⟨.hbm, 82, rfl⟩
abbrev main_call0_c_10 : Ref sig .tc := ⟨.hbm, 83, rfl⟩
abbrev main_call0_v43 : Ref sig .tc := ⟨.hbm, 84, rfl⟩
abbrev main_call0_v44 : Ref sig .tc := ⟨.hbm, 85, rfl⟩
abbrev main_call0_v45 : Ref sig .tc := ⟨.hbm, 86, rfl⟩
abbrev main_call0_v46 : Ref sig .tc := ⟨.hbm, 87, rfl⟩
abbrev main_call0_v47 : Ref sig .tc := ⟨.hbm, 88, rfl⟩
abbrev main_call0_c_11 : Ref sig .tc := ⟨.hbm, 89, rfl⟩
abbrev main_call0_v48 : Ref sig .tc := ⟨.hbm, 90, rfl⟩
abbrev main_call0_v49 : Ref sig .tc := ⟨.hbm, 91, rfl⟩
abbrev main_call0_c_12 : Ref sig .tc := ⟨.hbm, 92, rfl⟩
abbrev main_call0_v50 : Ref sig .tc := ⟨.hbm, 93, rfl⟩
abbrev main_call0_v51 : Ref sig .tc := ⟨.hbm, 94, rfl⟩
abbrev main_call0_v52 : Ref sig .tc := ⟨.hbm, 95, rfl⟩
abbrev main_call0_v53 : Ref sig .tc := ⟨.hbm, 96, rfl⟩
abbrev main_call0_v54 : Ref sig .tc := ⟨.hbm, 97, rfl⟩
abbrev main_call0_c_13 : Ref sig .tc := ⟨.hbm, 98, rfl⟩
abbrev main_call0_v55 : Ref sig .tc := ⟨.hbm, 99, rfl⟩
abbrev main_call0_v56 : Ref sig .tc := ⟨.hbm, 100, rfl⟩
abbrev main_call0_c_14 : Ref sig .tc := ⟨.hbm, 101, rfl⟩
abbrev main_call0_v57 : Ref sig .tc := ⟨.hbm, 102, rfl⟩
abbrev main_call0_v58 : Ref sig .tc := ⟨.hbm, 103, rfl⟩
abbrev main_call0_v59 : Ref sig .tc := ⟨.hbm, 104, rfl⟩
abbrev main_call0_v60 : Ref sig .tc := ⟨.hbm, 105, rfl⟩
abbrev main_call0_v61 : Ref sig .tc := ⟨.hbm, 106, rfl⟩
abbrev main_call0_c_15 : Ref sig .tc := ⟨.hbm, 107, rfl⟩
abbrev main_call0_v62 : Ref sig .tc := ⟨.hbm, 108, rfl⟩
abbrev main_call0_v63 : Ref sig .tc := ⟨.hbm, 109, rfl⟩
abbrev main_call0_c_16 : Ref sig .tc := ⟨.hbm, 110, rfl⟩
abbrev main_call0_v64 : Ref sig .tc := ⟨.hbm, 111, rfl⟩
abbrev main_call0_v65 : Ref sig .tc := ⟨.hbm, 112, rfl⟩
abbrev main_call0_v66 : Ref sig .tc := ⟨.hbm, 113, rfl⟩
abbrev main_call0_v67 : Ref sig .tc := ⟨.hbm, 114, rfl⟩
abbrev main_call0_v68 : Ref sig .tc := ⟨.hbm, 115, rfl⟩
abbrev main_call0_v69 : Ref sig .tc := ⟨.hbm, 116, rfl⟩
abbrev main_call0_v70 : Ref sig .tc := ⟨.hbm, 117, rfl⟩
abbrev main_call0_v71 : Ref sig .tc := ⟨.hbm, 118, rfl⟩
abbrev main_call0_c_17 : Ref sig .tc := ⟨.hbm, 119, rfl⟩
abbrev main_call0_v72 : Ref sig .tc := ⟨.hbm, 120, rfl⟩
abbrev main_call0_v73 : Ref sig .tc := ⟨.hbm, 121, rfl⟩
abbrev main_call0_v74 : Ref sig .tc := ⟨.hbm, 122, rfl⟩
abbrev main_call0_c_18 : Ref sig .tc := ⟨.hbm, 123, rfl⟩
abbrev main_call0_v75 : Ref sig .tc := ⟨.hbm, 124, rfl⟩
abbrev main_call0_v76 : Ref sig .tc := ⟨.hbm, 125, rfl⟩
abbrev main_call0_c_19 : Ref sig .tc := ⟨.hbm, 126, rfl⟩
abbrev main_call0_v77 : Ref sig .tc := ⟨.hbm, 127, rfl⟩
abbrev main_call0_v78 : Ref sig .tc := ⟨.hbm, 128, rfl⟩
abbrev main_call0_v79 : Ref sig .tc := ⟨.hbm, 129, rfl⟩
abbrev main_call0_v80 : Ref sig .tc := ⟨.hbm, 130, rfl⟩
abbrev main_call0_v81 : Ref sig .tc := ⟨.hbm, 131, rfl⟩
abbrev main_call0_c_20 : Ref sig .tc := ⟨.hbm, 132, rfl⟩
abbrev main_call0_v82 : Ref sig .tc := ⟨.hbm, 133, rfl⟩
abbrev main_call0_v83 : Ref sig .tc := ⟨.hbm, 134, rfl⟩
abbrev main_call0_c_21 : Ref sig .tc := ⟨.hbm, 135, rfl⟩
abbrev main_call0_v84 : Ref sig .tc := ⟨.hbm, 136, rfl⟩
abbrev main_call0_v85 : Ref sig .tc := ⟨.hbm, 137, rfl⟩
abbrev main_call0_v86 : Ref sig .tc := ⟨.hbm, 138, rfl⟩
abbrev main_call0_v87 : Ref sig .tc := ⟨.hbm, 139, rfl⟩
abbrev main_call0_v88 : Ref sig .tc := ⟨.hbm, 140, rfl⟩
abbrev main_call0_c_22 : Ref sig .tc := ⟨.hbm, 141, rfl⟩
abbrev main_call0_v89 : Ref sig .tc := ⟨.hbm, 142, rfl⟩
abbrev main_call0_v90 : Ref sig .tc := ⟨.hbm, 143, rfl⟩
abbrev main_call0_c_23 : Ref sig .tc := ⟨.hbm, 144, rfl⟩
abbrev main_call0_v91 : Ref sig .tc := ⟨.hbm, 145, rfl⟩
abbrev main_call0_v92 : Ref sig .tc := ⟨.hbm, 146, rfl⟩
abbrev main_call0_v93 : Ref sig .tc := ⟨.hbm, 147, rfl⟩
abbrev main_call0_v94 : Ref sig .tc := ⟨.hbm, 148, rfl⟩
abbrev main_call0_v95 : Ref sig .tc := ⟨.hbm, 149, rfl⟩
abbrev main_call0_c_24 : Ref sig .tc := ⟨.hbm, 150, rfl⟩
abbrev main_call0_v96 : Ref sig .tc := ⟨.hbm, 151, rfl⟩
abbrev main_call0_v97 : Ref sig .tc := ⟨.hbm, 152, rfl⟩
abbrev main_call0_c_25 : Ref sig .tc := ⟨.hbm, 153, rfl⟩
abbrev main_call0_v98 : Ref sig .tc := ⟨.hbm, 154, rfl⟩
abbrev main_call0_v99 : Ref sig .tc := ⟨.hbm, 155, rfl⟩
abbrev main_call0_v100 : Ref sig .tc := ⟨.hbm, 156, rfl⟩
abbrev main_call0_v101 : Ref sig .tc := ⟨.hbm, 157, rfl⟩
abbrev main_call0_v102 : Ref sig .tc := ⟨.hbm, 158, rfl⟩
abbrev main_call0_v103 : Ref sig .tc := ⟨.hbm, 159, rfl⟩
abbrev main_call0_v104 : Ref sig .tc := ⟨.hbm, 160, rfl⟩
abbrev main_call0_v105 : Ref sig .tc := ⟨.hbm, 161, rfl⟩
abbrev main_call0_c_26 : Ref sig .tc := ⟨.hbm, 162, rfl⟩
abbrev main_call0_v106 : Ref sig .tc := ⟨.hbm, 163, rfl⟩
abbrev main_call0_v107 : Ref sig .tc := ⟨.hbm, 164, rfl⟩
abbrev main_call0_v108 : Ref sig .tc := ⟨.hbm, 165, rfl⟩
abbrev main_call0_c_27 : Ref sig .tc := ⟨.hbm, 166, rfl⟩
abbrev main_call0_v109 : Ref sig .tc := ⟨.hbm, 167, rfl⟩
abbrev main_call0_v110 : Ref sig .tc := ⟨.hbm, 168, rfl⟩
abbrev main_call0_c_28 : Ref sig .tc := ⟨.hbm, 169, rfl⟩
abbrev main_call0_v111 : Ref sig .tc := ⟨.hbm, 170, rfl⟩
abbrev main_call0_v112 : Ref sig .tc := ⟨.hbm, 171, rfl⟩
abbrev main_call0_v113 : Ref sig .tc := ⟨.hbm, 172, rfl⟩
abbrev main_call0_v114 : Ref sig .tc := ⟨.hbm, 173, rfl⟩
abbrev main_call0_v115 : Ref sig .tc := ⟨.hbm, 174, rfl⟩
abbrev main_call0_c_29 : Ref sig .tc := ⟨.hbm, 175, rfl⟩
abbrev main_call0_v116 : Ref sig .tc := ⟨.hbm, 176, rfl⟩
abbrev main_call0_v117 : Ref sig .tc := ⟨.hbm, 177, rfl⟩
abbrev main_call0_c_30 : Ref sig .tc := ⟨.hbm, 178, rfl⟩
abbrev main_call0_v118 : Ref sig .tc := ⟨.hbm, 179, rfl⟩
abbrev main_call0_v119 : Ref sig .tc := ⟨.hbm, 180, rfl⟩
abbrev main_call0_v120 : Ref sig .tc := ⟨.hbm, 181, rfl⟩
abbrev main_call0_v121 : Ref sig .tc := ⟨.hbm, 182, rfl⟩
abbrev main_call0_v122 : Ref sig .tc := ⟨.hbm, 183, rfl⟩
abbrev main_call0_c_31 : Ref sig .tc := ⟨.hbm, 184, rfl⟩
abbrev main_call0_v123 : Ref sig .tc := ⟨.hbm, 185, rfl⟩
abbrev main_call0_v124 : Ref sig .tc := ⟨.hbm, 186, rfl⟩
abbrev main_call0_c_32 : Ref sig .tc := ⟨.hbm, 187, rfl⟩
abbrev main_call0_v125 : Ref sig .tc := ⟨.hbm, 188, rfl⟩
abbrev main_call0_v126 : Ref sig .tc := ⟨.hbm, 189, rfl⟩
abbrev main_call0_v127 : Ref sig .tc := ⟨.hbm, 190, rfl⟩
abbrev main_call0_v128 : Ref sig .tc := ⟨.hbm, 191, rfl⟩
abbrev main_call0_v129 : Ref sig .tc := ⟨.hbm, 192, rfl⟩
abbrev main_call0_c_33 : Ref sig .tc := ⟨.hbm, 193, rfl⟩
abbrev main_call0_v130 : Ref sig .tc := ⟨.hbm, 194, rfl⟩
abbrev main_call0_v131 : Ref sig .tc := ⟨.hbm, 195, rfl⟩
abbrev main_call0_c_34 : Ref sig .tc := ⟨.hbm, 196, rfl⟩
abbrev main_call0_v132 : Ref sig .tc := ⟨.hbm, 197, rfl⟩
abbrev main_call0_v133 : Ref sig .tc := ⟨.hbm, 198, rfl⟩
abbrev main_call0_v134 : Ref sig .tc := ⟨.hbm, 199, rfl⟩
abbrev main_call0_v135 : Ref sig .tc := ⟨.hbm, 200, rfl⟩
abbrev main_call0_v136 : Ref sig .tc := ⟨.hbm, 201, rfl⟩
abbrev main_call0_v137 : Ref sig .tc := ⟨.hbm, 202, rfl⟩
abbrev main_call0_v138 : Ref sig .tc := ⟨.hbm, 203, rfl⟩
abbrev main_call0_v139 : Ref sig .tc := ⟨.hbm, 204, rfl⟩
abbrev main_call0_c_35 : Ref sig .tc := ⟨.hbm, 205, rfl⟩
abbrev main_call0_v140 : Ref sig .tc := ⟨.hbm, 206, rfl⟩
abbrev main_call0_v141 : Ref sig .tc := ⟨.hbm, 207, rfl⟩
abbrev main_call0_v142 : Ref sig .tc := ⟨.hbm, 208, rfl⟩
abbrev main_call0_c_36 : Ref sig .tc := ⟨.hbm, 209, rfl⟩
abbrev main_call0_v143 : Ref sig .tc := ⟨.hbm, 210, rfl⟩
abbrev main_call0_v144 : Ref sig .tc := ⟨.hbm, 211, rfl⟩
abbrev main_call0_c_37 : Ref sig .tc := ⟨.hbm, 212, rfl⟩
abbrev main_call0_v145 : Ref sig .tc := ⟨.hbm, 213, rfl⟩
abbrev main_call0_v146 : Ref sig .tc := ⟨.hbm, 214, rfl⟩
abbrev main_call0_v147 : Ref sig .tc := ⟨.hbm, 215, rfl⟩
abbrev main_call0_v148 : Ref sig .tc := ⟨.hbm, 216, rfl⟩
abbrev main_call0_v149 : Ref sig .tc := ⟨.hbm, 217, rfl⟩
abbrev main_call0_c_38 : Ref sig .tc := ⟨.hbm, 218, rfl⟩
abbrev main_call0_v150 : Ref sig .tc := ⟨.hbm, 219, rfl⟩
abbrev main_call0_v151 : Ref sig .tc := ⟨.hbm, 220, rfl⟩
abbrev main_call0_c_39 : Ref sig .tc := ⟨.hbm, 221, rfl⟩
abbrev main_call0_v152 : Ref sig .tc := ⟨.hbm, 222, rfl⟩
abbrev main_call0_v153 : Ref sig .tc := ⟨.hbm, 223, rfl⟩
abbrev main_call0_v154 : Ref sig .tc := ⟨.hbm, 224, rfl⟩
abbrev main_call0_v155 : Ref sig .tc := ⟨.hbm, 225, rfl⟩
abbrev main_call0_v156 : Ref sig .tc := ⟨.hbm, 226, rfl⟩
abbrev main_call0_c_40 : Ref sig .tc := ⟨.hbm, 227, rfl⟩
abbrev main_call0_v157 : Ref sig .tc := ⟨.hbm, 228, rfl⟩
abbrev main_call0_v158 : Ref sig .tc := ⟨.hbm, 229, rfl⟩
abbrev main_call0_c_41 : Ref sig .tc := ⟨.hbm, 230, rfl⟩
abbrev main_call0_v159 : Ref sig .tc := ⟨.hbm, 231, rfl⟩
abbrev main_call0_v160 : Ref sig .tc := ⟨.hbm, 232, rfl⟩
abbrev main_call0_v161 : Ref sig .tc := ⟨.hbm, 233, rfl⟩
abbrev main_call0_v162 : Ref sig .tc := ⟨.hbm, 234, rfl⟩
abbrev main_call0_v163 : Ref sig .tc := ⟨.hbm, 235, rfl⟩
abbrev main_call0_c_42 : Ref sig .tc := ⟨.hbm, 236, rfl⟩
abbrev main_call0_v164 : Ref sig .tc := ⟨.hbm, 237, rfl⟩
abbrev main_call0_v165 : Ref sig .tc := ⟨.hbm, 238, rfl⟩
abbrev main_call0_c_43 : Ref sig .tc := ⟨.hbm, 239, rfl⟩
abbrev main_call0_v166 : Ref sig .tc := ⟨.hbm, 240, rfl⟩
abbrev main_call0_v167 : Ref sig .tc := ⟨.hbm, 241, rfl⟩
abbrev main_call0_v168 : Ref sig .tc := ⟨.hbm, 242, rfl⟩
abbrev main_call0_v169 : Ref sig .tc := ⟨.hbm, 243, rfl⟩
abbrev main_call0_v170 : Ref sig .tc := ⟨.hbm, 244, rfl⟩
abbrev main_v22_0 : Ref sig .tc := ⟨.hbm, 245, rfl⟩
abbrev main_call0_v172 : Ref sig .tc := ⟨.hbm, 246, rfl⟩
abbrev main_call0_v173 : Ref sig .tc := ⟨.hbm, 247, rfl⟩
abbrev main_call0_c_44 : Ref sig .tc := ⟨.hbm, 248, rfl⟩
abbrev main_call0_v174 : Ref sig .tc := ⟨.hbm, 249, rfl⟩
abbrev main_v22_1 : Ref sig .tc := ⟨.hbm, 250, rfl⟩
abbrev main_v23 : Ref sig .tc := ⟨.hbm, 251, rfl⟩
abbrev main_c_5 : Ref sig .tc := ⟨.hbm, 252, rfl⟩
abbrev main_v24 : Ref sig .tc := ⟨.hbm, 253, rfl⟩
abbrev main_v25 : Ref sig .tc := ⟨.hbm, 254, rfl⟩
abbrev main_c_6 : Ref sig .tc := ⟨.hbm, 255, rfl⟩
abbrev main_v26 : Ref sig .tc := ⟨.hbm, 256, rfl⟩
abbrev main_v27 : Ref sig .tc := ⟨.hbm, 257, rfl⟩
abbrev main_v28 : Ref sig .tc := ⟨.hbm, 258, rfl⟩
abbrev main_cst : Ref sig .tc := ⟨.hbm, 259, rfl⟩
abbrev main_v29 : Ref sig .tc := ⟨.hbm, 260, rfl⟩
abbrev main_v30 : Ref sig .tc := ⟨.hbm, 261, rfl⟩
abbrev main_cst_7 : Ref sig .tc := ⟨.hbm, 262, rfl⟩
abbrev main_v31 : Ref sig .tc := ⟨.hbm, 263, rfl⟩
abbrev main_v32 : Ref sig .tc := ⟨.hbm, 264, rfl⟩
abbrev main_v33 : Ref sig .tc := ⟨.hbm, 265, rfl⟩
abbrev main_v34 : Ref sig .tc := ⟨.hbm, 266, rfl⟩
abbrev main_v35 : Ref sig .tc := ⟨.hbm, 267, rfl⟩
abbrev main_v36 : Ref sig .tc := ⟨.hbm, 268, rfl⟩
abbrev main_v37 : Ref sig .tc := ⟨.hbm, 269, rfl⟩
abbrev main_call1_v0 : Ref sig .tc := ⟨.hbm, 270, rfl⟩
abbrev main_call1_cst : Ref sig .tc := ⟨.hbm, 271, rfl⟩
abbrev main_call1_c : Ref sig .tc := ⟨.hbm, 272, rfl⟩
abbrev main_call1_v1_0 : Ref sig .tc := ⟨.hbm, 273, rfl⟩
abbrev main_v38 : Ref sig .tc := ⟨.hbm, 274, rfl⟩
abbrev main_call2_v0 : Ref sig .tc := ⟨.hbm, 275, rfl⟩
abbrev main_call2_v1 : Ref sig .tc := ⟨.hbm, 276, rfl⟩
abbrev main_call2_v2 : Ref sig .tc := ⟨.hbm, 277, rfl⟩
abbrev main_call2_v3 : Ref sig .tc := ⟨.hbm, 278, rfl⟩
abbrev main_call2_v4 : Ref sig .tc := ⟨.hbm, 279, rfl⟩
abbrev main_v39 : Ref sig .tc := ⟨.hbm, 280, rfl⟩
abbrev main_call3_v0 : Ref sig .tc := ⟨.hbm, 281, rfl⟩
abbrev main_call3_cst : Ref sig .tc := ⟨.hbm, 282, rfl⟩
abbrev main_call3_c : Ref sig .tc := ⟨.hbm, 283, rfl⟩
abbrev main_call3_v1_0 : Ref sig .tc := ⟨.hbm, 284, rfl⟩
abbrev main_v40 : Ref sig .tc := ⟨.hbm, 285, rfl⟩
abbrev main_call4_cst : Ref sig .tc := ⟨.hbm, 286, rfl⟩
abbrev main_call4_v0 : Ref sig .tc := ⟨.hbm, 287, rfl⟩
abbrev main_call4_cst_0 : Ref sig .tc := ⟨.hbm, 288, rfl⟩
abbrev main_call4_v1 : Ref sig .tc := ⟨.hbm, 289, rfl⟩
abbrev main_call4_v2 : Ref sig .tc := ⟨.hbm, 290, rfl⟩
abbrev main_call4_v3 : Ref sig .tc := ⟨.hbm, 291, rfl⟩
abbrev main_call4_v4 : Ref sig .tc := ⟨.hbm, 292, rfl⟩
abbrev main_call4_v5 : Ref sig .tc := ⟨.hbm, 293, rfl⟩
abbrev main_call4_v6 : Ref sig .tc := ⟨.hbm, 294, rfl⟩
abbrev main_call4_cst_1 : Ref sig .tc := ⟨.hbm, 295, rfl⟩
abbrev main_call4_v7 : Ref sig .tc := ⟨.hbm, 296, rfl⟩
abbrev main_call4_v8 : Ref sig .tc := ⟨.hbm, 297, rfl⟩
abbrev main_call4_v9 : Ref sig .tc := ⟨.hbm, 298, rfl⟩
abbrev main_call4_v10 : Ref sig .tc := ⟨.hbm, 299, rfl⟩
abbrev main_v41 : Ref sig .tc := ⟨.hbm, 300, rfl⟩
abbrev main_v42 : Ref sig .tc := ⟨.hbm, 301, rfl⟩
abbrev main_call5_c : Ref sig .tc := ⟨.hbm, 302, rfl⟩
abbrev main_call5_v0 : Ref sig .tc := ⟨.hbm, 303, rfl⟩
abbrev main_call5_v1 : Ref sig .tc := ⟨.hbm, 304, rfl⟩
abbrev main_call5_c_0 : Ref sig .tc := ⟨.hbm, 305, rfl⟩
abbrev main_call5_v2 : Ref sig .tc := ⟨.hbm, 306, rfl⟩
abbrev main_call5_v3 : Ref sig .tc := ⟨.hbm, 307, rfl⟩
abbrev main_call5_v4 : Ref sig .tc := ⟨.hbm, 308, rfl⟩
abbrev main_call5_v5 : Ref sig .tc := ⟨.hbm, 309, rfl⟩
abbrev main_call5_c_1 : Ref sig .tc := ⟨.hbm, 310, rfl⟩
abbrev main_call5_c_2 : Ref sig .tc := ⟨.hbm, 311, rfl⟩
abbrev main_call5_v6 : Ref sig .tc := ⟨.hbm, 312, rfl⟩
abbrev main_call5_v7 : Ref sig .tc := ⟨.hbm, 313, rfl⟩
abbrev main_call5_v8 : Ref sig .tc := ⟨.hbm, 314, rfl⟩
abbrev main_call5_v9 : Ref sig .tc := ⟨.hbm, 315, rfl⟩
abbrev main_call5_v10 : Ref sig .tc := ⟨.hbm, 316, rfl⟩
abbrev main_call5_v11 : Ref sig .tc := ⟨.hbm, 317, rfl⟩
abbrev main_call5_c_3 : Ref sig .tc := ⟨.hbm, 318, rfl⟩
abbrev main_call5_v12 : Ref sig .tc := ⟨.hbm, 319, rfl⟩
abbrev main_call5_v13 : Ref sig .tc := ⟨.hbm, 320, rfl⟩
abbrev main_call5_cst : Ref sig .tc := ⟨.hbm, 321, rfl⟩
abbrev main_call5_v14 : Ref sig .tc := ⟨.hbm, 322, rfl⟩
abbrev main_v43 : Ref sig .tc := ⟨.hbm, 323, rfl⟩

abbrev nD : Nat := 1
abbrev τ : Topo := Topo.v7x

variable {F : FTy → Type} [FloatOps F]
-- ==== Proof.Lib.Nonzero.lean ====
module

public import Idealize.ShloMosaic.Lib.Routing.Ops
public import Idealize.ShloMosaic.Lib.Routing.OpsPair
public import Idealize.ShloMosaic.Lib.Routing.Words
public import Idealize.ShloMosaic.Lib.WordArith
public import Idealize.ShloMosaic.Lib.WordCmp
public import Idealize.ShloMosaic.PureOps.Ideal

/-! The words of jnp's `nonzero`, with a fixed number of slots: a running count of the marks, a histogram of it, a running
    count of that. Slot `k` then holds the number of positions whose running count is at most `k`, which for a marked
    position's own slot is that position. -/

@[expose] public section

noncomputable section

namespace Cert.Nonzero

open Idealize.ShloMosaic Idealize.ShloMosaic.ValueIdx Idealize.ShloMosaic.Routing

/-- The running count of the marks `A` up to and including position `j`. -/
def marks (A : ℕ → ℕ) (j : ℕ) : ℕ := ((List.range (j + 1)).map A).sum

/-- The number of the first `N` positions whose running count is `k`. -/
def bin (A : ℕ → ℕ) (N k : ℕ) : ℕ := Nat.count (fun j => marks A j = k) N

/-- The number of the first `N` positions whose running count is at most `k`. -/
def slot (A : ℕ → ℕ) (N k : ℕ) : ℕ := ((List.range (k + 1)).map (bin A N)).sum

theorem marks_succ (A : ℕ → ℕ) (j : ℕ) : marks A (j + 1) = marks A j + A (j + 1) := by
  unfold marks; rw [List.range_succ, List.map_append, List.sum_append]; simp

theorem marks_zero (A : ℕ → ℕ) : marks A 0 = A 0 := by simp [marks]

theorem marks_mono (A : ℕ → ℕ) : Monotone (marks A) :=
  monotone_nat_of_le_succ fun j => by rw [marks_succ]; omega

theorem marks_le (A : ℕ → ℕ) (hA : ∀ i, A i ≤ 1) (j : ℕ) : marks A j ≤ j + 1 := by
  induction j with
  | zero => rw [marks_zero]; exact hA 0
  | succ j ih => rw [marks_succ]; have := hA (j + 1); omega

/-- The running count of the counts per value counts the positions at or below a value. -/
theorem slot_eq (A : ℕ → ℕ) (N k : ℕ) : slot A N k = Nat.count (fun j => marks A j ≤ k) N := by
  induction k with
  | zero =>
    simp only [slot, List.range_succ, List.range_zero, List.nil_append, List.map_cons, List.map_nil, List.sum_cons, List.sum_nil, bin, Nat.le_zero, Nat.add_zero]
  | succ k ih =>
    have hs : slot A N (k + 1) = slot A N k + bin A N (k + 1) := by
      unfold slot; rw [List.range_succ (n := k + 1), List.map_append, List.sum_append]; simp
    rw [hs, ih, bin]
    clear hs ih
    induction N with
    | zero => simp
    | succ n ihn =>
      rw [Nat.count_succ, Nat.count_succ, Nat.count_succ, ← ihn]
      split_ifs <;> omega

theorem slot_le (A : ℕ → ℕ) (N k : ℕ) : slot A N k ≤ N := by
  rw [slot_eq]; exact Nat.count_le _

theorem count_lt (P : ℕ → Prop) [DecidablePred P] (r : ℕ) (h : ∀ j, P j ↔ j < r) (N : ℕ) : Nat.count P N = min r N := by
  induction N with
  | zero => simp
  | succ n ih =>
    rw [Nat.count_succ, ih]
    by_cases hn : n < r
    · rw [if_pos ((h n).2 hn)]; omega
    · rw [if_neg fun q => hn ((h n).1 q)]; omega

/-- A marked position is in the slot that its own running count names. -/
theorem slot_mark (A : ℕ → ℕ) (N r : ℕ) (hr : r < N) (h1 : A r = 1) : slot A N (marks A r - 1) = r := by
  rw [slot_eq, count_lt _ r (fun j => ?_) N, Nat.min_eq_left hr.le]
  have hp : 1 ≤ marks A r := by
    cases r with
    | zero => rw [marks_zero, h1]
    | succ r => rw [marks_succ, h1]; omega
  constructor
  · intro h
    by_contra hc
    have := marks_mono A (Nat.le_of_not_lt hc)
    omega
  · intro h
    obtain ⟨r', rfl⟩ : ∃ r', r = r' + 1 := ⟨r - 1, by omega⟩
    have := marks_mono A (Nat.le_of_lt_succ h)
    rw [marks_succ, h1]
    omega

theorem marks_pos (A : ℕ → ℕ) (r : ℕ) (h1 : A r = 1) : 1 ≤ marks A r := by
  cases r with
  | zero => rw [marks_zero, h1]
  | succ r => rw [marks_succ, h1]; omega

/-- A scatter that adds a one per index word, into a vector of zeros: entry `x` counts the index words that are `x`. The indices are
    any number `M`, the entries any number `N`; an index that names no entry is dropped. -/
theorem scatter_count {M N : ℕ} (d : ScatterDims (shape1 N) (shape2 M 1) (shape1 M)) (hiw : d.insertedWindowDims = [0])
    (hsd : d.scatterDimsToOperandDims = [0]) (hivd : d.indexVectorDim = 1) (x0 : IVec (shape1 N) 32) (hx0 : ∀ i, x0 i = 0#32)
    (idx : IVec (shape2 M 1) 32) (upd : IVec (shape1 M) 32) (hupd : ∀ i, upd i = 1#32) (gi : ℕ → ℕ)
    (hg : ∀ i : Fin M, idx (ix2 i (0 : Fin 1)) = BitVec.ofNat 32 (gi i.val)) (hg31 : ∀ i : Fin M, gi i.val < 2 ^ 31) (x : Fin N) :
    Host.scatter d IntOp.addi x0 idx upd (ix1 x) = BitVec.ofNat 32 (Nat.count (fun i => gi i = x.val) M) := by
  have hm : (0 : Fin 1) ∈ d.scatterDimsToOperandDims := by rw [hsd]; exact List.mem_singleton.2 rfl
  have key : ∀ i : Fin M, d.resultIdx? (ix1 i) idx = some (ix1 x) ↔ gi i.val = x.val := fun i => by
    rw [resultIdx?_ix1]
    have hwin : d.window (ix1 i) 0 = 0 := by
      unfold ScatterDims.window
      exact dif_neg fun h => (of_decide_eq_true (List.mem_filter.1 h).2) (by rw [hiw]; exact List.mem_singleton.2 rfl)
    have hsi : d.siIdx (ix1 i) ⟨d.scatterDimsToOperandDims.idxOf 0, List.idxOf_lt_length_iff.2 hm⟩ = ix2 i (0 : Fin 1) := by
      funext b
      match b with
      | ⟨0, _⟩ =>
        apply Fin.ext
        unfold ScatterDims.siIdx ScatterDims.siCoord
        rw [dif_neg (by rw [hivd]; exact Nat.zero_ne_one)]
        have e : ∀ a : Fin 1, (ix1 i a).val = i.val := fun a => by rw [Subsingleton.elim a 0]
        exact e _
      | ⟨1, _⟩ => exact Subsingleton.elim (α := Fin 1) _ _
    have hstart : d.start (ix1 i) idx 0 = (idx (ix2 i (0 : Fin 1))).toInt := by
      unfold ScatterDims.start
      rw [dif_pos hm, hsi]
    rw [hwin, hstart, hg, StableHlo.Predicate.toInt_ofNat_small _ (hg31 i)]
    omega
  rw [scatter_at]
  have hfold : ∀ (l : List (Fin (shape1 M).numel)) (a : BitVec 32) (z : ℕ), a = BitVec.ofNat 32 z →
      l.foldl (fun a n => if d.resultIdx? ((shape1 M).rowMajor.symm n) idx = some (ix1 x) then IntOp.addi a (upd ((shape1 M).rowMajor.symm n)) else a) a
        = BitVec.ofNat 32 (z + l.countP fun n => decide (gi n.val = x.val)) := by
    intro l
    induction l with
    | nil => intro a z h; simpa using h
    | cons n l ih =>
      intro a z h
      rw [List.foldl_cons, List.countP_cons]
      have hn := key (n.cast (numel1 M))
      by_cases e : gi n.val = x.val
      · rw [ih _ (z + 1) (by rw [symm1, if_pos (hn.2 e), hupd, h]; exact (BitVec.ofNat_add z 1).symm), if_pos (decide_eq_true e)]
        congr 1; omega
      · rw [ih _ z (by rw [symm1, if_neg fun q => e (hn.1 q), h]), if_neg (by simpa using e)]
        rfl
  rw [hfold _ _ 0 (hx0 _), Nat.zero_add, countP_finRange _ (fun i => gi i = x.val), numel1]

/-- jnp's floor division by one leaves a word as it is. -/
theorem floordiv_one (x : BitVec 32) (b c : BitVec 1) (d : BitVec 32) (hc : c = IntOp.cmpi .ne (IntOp.remsi .host x 1#32) 0#32) :
    Scalar.select (IntOp.andi b c) d (IntOp.divsi .host x 1#32) = x := by
  subst hc
  rw [WordArith.remsi_one, WordArith.divsi_one]
  have h : IntOp.andi b (IntOp.cmpi .ne 0#32 0#32) = 0#1 := by revert b; decide
  rw [h]; rfl

/-- jnp's remainder by `b`, both words small, is the remainder of the naturals. -/
theorem mod_word (a b : ℕ) (ha : a < 2 ^ 31) (h0 : 0 < b) (hb : b < 2 ^ 31) (d : BitVec 32) (e : BitVec 1) :
    Scalar.select (IntOp.andi (IntOp.cmpi .ne (IntOp.cmpi .slt (IntOp.remsi .host (BitVec.ofNat 32 a) (BitVec.ofNat 32 b)) 0#32)
        (IntOp.cmpi .slt (BitVec.ofNat 32 b) 0#32)) e) d (IntOp.remsi .host (BitVec.ofNat 32 a) (BitVec.ofNat 32 b))
      = BitVec.ofNat 32 (a % b) := by
  rw [remsi_word _ ha h0 hb]
  have hm : a % b < 2 ^ 31 := (Nat.mod_lt _ h0).trans hb
  rw [show (0#32) = BitVec.ofNat 32 0 from rfl, WordCmp.cmpi_slt_ofNat hm (by decide), WordCmp.cmpi_slt_ofNat hb (by decide)]
  simp only [Nat.not_lt_zero, decide_false]
  have h : IntOp.andi (IntOp.cmpi .ne (BitVec.ofBool false) (BitVec.ofBool false)) e = 0#1 := by revert e; decide
  rw [h]; rfl

/-- A row number's block of eight: the floor division by eight, as an index map spells it. -/
def eighth (x : BitVec 32) : BitVec 32 :=
  Scalar.select
    (Scalar.andi
      (Scalar.cmpi .ne
        (Scalar.subi (Scalar.extui (Scalar.cmpi .sgt x 0#32)) (Scalar.extui (Scalar.cmpi .slt x 0#32)))
        (Scalar.subi (Scalar.extui (Scalar.cmpi .sgt (8#32) 0#32)) (Scalar.extui (Scalar.cmpi .slt (8#32) 0#32))))
      (Scalar.cmpi .ne (Scalar.remsi x 8#32) 0#32))
    (Scalar.subi (Scalar.divsi x 8#32) 1#32) (Scalar.divsi x 8#32)

theorem eighth_word (a : ℕ) (ha : a < 2 ^ 31) : eighth (BitVec.ofNat 32 a) = BitVec.ofNat 32 (a / 8) := by
  have hd : Scalar.divsi (BitVec.ofNat 32 a) 8#32 = BitVec.ofNat 32 (a / 8) := divsi_word _ ha (by norm_num) (by norm_num)
  have hr : Scalar.remsi (BitVec.ofNat 32 a) 8#32 = BitVec.ofNat 32 (a % 8) := remsi_word _ ha (by norm_num) (by norm_num)
  have hg : Scalar.cmpi .sgt (BitVec.ofNat 32 a) 0#32 = BitVec.ofBool (decide (0 < a)) := WordCmp.cmpi_sgt_ofNat ha (by norm_num)
  have hl : Scalar.cmpi .slt (BitVec.ofNat 32 a) 0#32 = BitVec.ofBool (decide (a < 0)) := WordCmp.cmpi_slt_ofNat ha (by norm_num)
  unfold eighth
  rw [hd, hr, hg, hl, decide_eq_false (Nat.not_lt_zero a)]
  by_cases h0 : 0 < a
  · rw [decide_eq_true h0]
    generalize Scalar.cmpi .ne (BitVec.ofNat 32 (a % 8)) 0#32 = b
    have : ∀ b : BitVec 1, Scalar.andi
      (Scalar.cmpi .ne
        (Scalar.subi (Scalar.extui (BitVec.ofBool true)) (Scalar.extui (BitVec.ofBool false)))
        (Scalar.subi (Scalar.extui (Scalar.cmpi .sgt (8#32) 0#32)) (Scalar.extui (Scalar.cmpi .slt (8#32) 0#32)))) b = 0#1 := by decide
    rw [this]; rfl
  · obtain rfl : a = 0 := by omega
    decide

end Cert.Nonzero

end
-- ==== Proof.PI.Region0.lean ====
/- The first launch (`_sample_kernel`, sixteen blocks of 1024 rows): the body's triple at a grid point, the proof data of its
   pipeline over any contents `V` of the buffers at its entry, and the launch as a segment of the program. -/
module

public import proofs.«01_k».proof.Proof.Gen.KernelIdeal.Regions
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionArraysS
public import Idealize.ShloMosaic.Lib.Pipeline.RegionArraysTS
public import Idealize.ShloMosaic.Lib.Tactic

@[expose] public section

set_option maxRecDepth 16384

noncomputable section

namespace Cert.KernelIdeal.Reg

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → Valuation τ sig (Elt F))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S1024x1000 := Rect.unit (s := S1024x1000) ![0, 0] S1024x1000.size inb_S1024x1000_S1024x1000_0_0
abbrev r0_1 : Rect S1024x1 := Rect.unit (s := S1024x1) ![0, 0] S1024x1.size inb_S1024x1_S1024x1_0_0

/-! ## What the body leaves in each output window's buffer -/

/-- Window 2's staging buffer after the body, from the input windows' blocks: its 1 store as pieces, LAST
    FIRST (Lib/Pipeline/FrameBody.lean `View.canon`; the payloads are the skeleton's). -/
def out0_2 (x0 : Vec F S1024x1000 .f32) (x1 : Vec F S1024x1000 .i16) : Vec F S1024x1000 .f32 :=
  View.canon [⟨r0_0, k0_pay5 (View.ld x0 r0_0) (View.ld x1 r0_0)⟩]

/-- Its stores tile the buffer (checked by evaluation), so they cover it. -/
theorem cover0_2 (p0 : Vec F S1024x1000 .f32) (y : S1024x1000.Idx) :
    ∃ pc ∈ ([⟨r0_0, p0⟩] : List (View.Piece (Elt F) S1024x1000 .f32)), y ∈ pc.1.set :=
  View.cover_of_tiled [⟨r0_0, p0⟩] S1024x1000.size (by rfl) y

/-- Window 3's staging buffer after the body, from the input windows' blocks: its 1 store as pieces, LAST
    FIRST (Lib/Pipeline/FrameBody.lean `View.canon`; the payloads are the skeleton's). -/
def out0_3 (x0 : Vec F S1024x1000 .f32) (x1 : Vec F S1024x1000 .i16) : Vec F S1024x1 .f32 :=
  View.canon [⟨r0_1, k0_pay1 (View.ld x0 r0_0) (k0_pay4 (View.ld x0 r0_0) (View.ld x1 r0_0)) (k0_pay7 (View.ld x0 r0_0))⟩]

/-- Its stores tile the buffer (checked by evaluation), so they cover it. -/
theorem cover0_3 (p0 : Vec F S1024x1 .f32) (y : S1024x1.Idx) :
    ∃ pc ∈ ([⟨r0_1, p0⟩] : List (View.Piece (Elt F) S1024x1 .f32)), y ∈ pc.1.set :=
  View.cover_of_tiled [⟨r0_1, p0⟩] S1024x1.size (by rfl) y

/-- Window 4's staging buffer after the body, from the input windows' blocks: its 1 store as pieces, LAST
    FIRST (Lib/Pipeline/FrameBody.lean `View.canon`; the payloads are the skeleton's). -/
def out0_4 (x0 : Vec F S1024x1000 .f32) (x1 : Vec F S1024x1000 .i16) : Vec F S1024x1 .i32 :=
  View.canon [⟨r0_1, k0_pay6 (View.ld x0 r0_0) (View.ld x1 r0_0)⟩]

/-- Its stores tile the buffer (checked by evaluation), so they cover it. -/
theorem cover0_4 (p0 : Vec F S1024x1 .i32) (y : S1024x1.Idx) :
    ∃ pc ∈ ([⟨r0_1, p0⟩] : List (View.Piece (Elt F) S1024x1 .i32)), y ∈ pc.1.set :=
  View.cover_of_tiled [⟨r0_1, p0⟩] S1024x1.size (by rfl) y

/-- Window 5's staging buffer after the body, from the input windows' blocks: its 1 store as pieces, LAST
    FIRST (Lib/Pipeline/FrameBody.lean `View.canon`; the payloads are the skeleton's). -/
def out0_5 (x0 : Vec F S1024x1000 .f32) (x1 : Vec F S1024x1000 .i16) : Vec F S1024x1 .f32 :=
  View.canon [⟨r0_1, k0_pay7 (View.ld x0 r0_0)⟩]

/-- Its stores tile the buffer (checked by evaluation), so they cover it. -/
theorem cover0_5 (p0 : Vec F S1024x1 .f32) (y : S1024x1.Idx) :
    ∃ pc ∈ ([⟨r0_1, p0⟩] : List (View.Piece (Elt F) S1024x1 .f32)), y ∈ pc.1.set :=
  View.cover_of_tiled [⟨r0_1, p0⟩] S1024x1.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel0 (c : Dev nD) (E : Set ℕ) (i : grid0.Coords) (arg1 : Memref sig .tc .vmem S1024x1000 .f32) (harg1 : arg1.IsWhole) (arg2 : Memref sig .tc .vmem S1024x1000 .i16) (harg2 : arg2.IsWhole) (arg3 : Memref sig .tc .vmem S1024x1000 .f32) (harg3 : arg3.IsWhole) (arg4 : Memref sig .tc .vmem S1024x1 .f32) (harg4 : arg4.IsWhole) (arg5 : Memref sig .tc .vmem S1024x1 .i32) (harg5 : arg5.IsWhole) (arg6 : Memref sig .tc .vmem S1024x1 .f32) (harg6 : arg6.IsWhole)
    (x0 : Vec F S1024x1000 .f32) (x1 : Vec F S1024x1000 .i16) (K : PUnit → sProp 𝕄) :
    iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare (out0_2 x0 x1) ∗ owns (c : Thread nD τ) arg4 fullShare (out0_3 x0 x1) ∗ owns (c : Thread nD τ) arg5 fullShare (out0_4 x0 x1) ∗ owns (c : Thread nD τ) arg6 fullShare (out0_5 x0 x1)) -∗ K ⟨⟩))
      ⊢ wp frame (wpE (defs₀ (F := F)) Variants.none c none) E (cc0__sample_kernel i arg1 harg1 arg2 harg2 arg3 harg3 arg4 harg4 arg5 harg5 arg6 harg6) K := by
  simp only [cc0__sample_kernel_eq_skeleton]; unfold cc0__sample_kernel_skel
  simp only [k0_part1_eq_skeleton]
  unfold owns
  iintro ⟨⟨%f0, %hf0, H0⟩, ⟨%f1, %hf1, H1⟩, ⟨%d2, %f2, -, H2⟩, ⟨%d3, %f3, -, H3⟩, ⟨%d4, %f4, -, H4⟩, ⟨%d5, %f5, -, H5⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover0_2 _)
  isplitl [H3]
  · iexists _; isplitr
    swap; · iexact H3
    ipureintro
    exact View.read_writes_eq_canon _ _ _ (cover0_3 _)
  isplitl [H4]
  · iexists _; isplitr
    swap; · iexact H4
    ipureintro
    exact View.read_writes_eq_canon _ _ _ (cover0_4 _)
  iexists _; isplitr
  swap; · iexact H5
  ipureintro
  exact View.read_writes_eq_canon _ _ _ (cover0_5 _)

/-! ## The pipeline's proof data -/

/-- The proof data of the one pipeline on core `c`: the arrays as the region finds them (`V`); after the body at
    point `t` each input's buffer at its block and each output's at `out0_W` of the input blocks; the invariant the
    ; nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
    | ⟨3, _⟩ => out0_3 (iblk0 V c 0 t) (iblk0 V c 1 t)
    | ⟨4, _⟩ => out0_4 (iblk0 V c 0 t) (iblk0 V c 1 t)
    | ⟨5, _⟩ => out0_5 (iblk0 V c 0 t) (iblk0 V c 1 t)
  Φ _ := Pipeline.scopedRest spec0 c
  q _ := fullShare
  owed _ := 0

/-- The proof data's arrays are the region-entry contents: the proof data's definition projected (`dsimp`), so that
    `V` — a fold over @main's host prefix, long for some programs — is never unfolded to check it. -/
theorem A0_eq (c : Dev nD) (w : Fin cfg0.W) : (dat0 V c).A w = V c (Pipeline.arrRef spec0 w) := by
  dsimp only [dat0]

/-- What the body leaves, window by window (the proof data's `match` reduced by `dsimp`, never `rfl`: Lib/Pipeline.lean `Dat`). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]
theorem after0_3 (c : Dev nD) (t : Fin cfg0.N) : (dat0 V c).after 3 t = out0_3 (iblk0 V c 0 t) (iblk0 V c 1 t) := by dsimp only [dat0]
theorem after0_4 (c : Dev nD) (t : Fin cfg0.N) : (dat0 V c).after 4 t = out0_4 (iblk0 V c 0 t) (iblk0 V c 1 t) := by dsimp only [dat0]
theorem after0_5 (c : Dev nD) (t : Fin cfg0.N) : (dat0 V c).after 5 t = out0_5 (iblk0 V c 0 t) (iblk0 V c 1 t) := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A0_eq V c 0) (after0_0 V c) t d
theorem before0_1 (c : Dev nD) (t : Fin cfg0.N) (d) : (dat0 V c).before 1 t d = iblk0 V c 1 t :=
  before0_1_of V (dat0 V c) (A0_eq V c 1) (after0_1 V c) t d

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' memrefs hold their blocks (`before0_W`), so `sound_kernel0` applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ (grid0.coords t) _ _ _ _ _ _ _ _ _ _ _ _ (iblk0 V c 0 t) (iblk0 V c 1 t) _)
  isplitl [H0]; · iexact H0
  isplitl [H1]; · iexact H1
  isplitl [H2]; · iexists _; iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 V c) (defs₀ (F := F)) Variants.none () Set.univ := fun t => by
  rw [bigSep_W0, bigSep_W0, defs₀_row0]
  exact triple_restated (sound_body0 V c t) rfl .rfl fun _ => .rfl

theorem arr_sub0 : Pipeline.arrRefs (pcfgs (F := F) 0).spec ⊆ Pipeline.ucRefs τ sig := Pipeline.arrRefs_sub_ucRefs spec0 (by decide)

end Cert.KernelIdeal.Reg

end
-- ==== Proof.PI.Region1.lean ====
/- The second launch (`_fix_kernel`, one block of eight rows for each entry of the row table): the body's triple at a grid point and
   the proof data of its pipeline at admissible tables `a`, over any contents `V` of the buffers at its entry. -/
module

public import proofs.«01_k».proof.Proof.Gen.KernelIdeal.Regions
public import proofs.«01_k».proof.Proof.Gen.KernelIdeal.Skeleton
public import Idealize.ShloMosaic.Lib.Pipeline.FrameBody
public import Idealize.ShloMosaic.Lib.Pipeline.RegionArraysS
public import Idealize.ShloMosaic.Lib.Pipeline.RegionArraysTS
public import Idealize.ShloMosaic.Lib.Tactic

@[expose] public section

set_option maxRecDepth 16384

noncomputable section

namespace Cert.KernelIdeal.Reg

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (PCfg pin Dat Cfg Window BodyObligation cellOf)

variable {F : FTy → Type} [FloatOps F]

local notation "𝕄" => MT nD τ sig Unit (Elt F) ℕ (UR sig nD τ) ℕ

variable (V : (c : Dev nD) → Valuation τ sig (Elt F))

variable (a : (pcfg1 (F := F)).Adm)

/-! ## The windows' blocks -/

/-- Window `w`'s block at point `t`, read off its array as the launch finds it. -/
def iblk1 (c : Dev nD) (w : Fin 5) (t : Fin (cfg1 a).N) : (((cfg1 a).win w).xblock ((cfg1 a).grid.coords t)).Idx → Elt F ((cfg1 a).win w).elt :=
  (((cfg1 a).win w).blk t).view.read (Elt F) (V c (Pipeline.arrRef spec1 w))

variable {V a} in
/-- An input window's buffer holds its block at every point. -/
theorem before1_0_of {c : Dev nD} (dat : Dat τ (Elt F) Unit ℕ (UR sig nD τ) ℕ (cfg1 a) c) (hA : dat.A 0 = V c (Pipeline.arrRef spec1 0))
    (hafter : ∀ t, dat.after 0 t = iblk1 V a c 0 t) (t : Fin (cfg1 a).N) (d) : dat.before 0 t d = iblk1 V a c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
variable {V a} in
/-- An input window's buffer holds its block at every point. -/
theorem before1_1_of {c : Dev nD} (dat : Dat τ (Elt F) Unit ℕ (UR sig nD τ) ℕ (cfg1 a) c) (hA : dat.A 1 = V c (Pipeline.arrRef spec1 1))
    (hafter : ∀ t, dat.after 1 t = iblk1 V a c 1 t) (t : Fin (cfg1 a).N) (d) : dat.before 1 t d = iblk1 V a c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
variable {V a} in
/-- An input window's buffer holds its block at every point. -/
theorem before1_2_of {c : Dev nD} (dat : Dat τ (Elt F) Unit ℕ (UR sig nD τ) ℕ (cfg1 a) c) (hA : dat.A 2 = V c (Pipeline.arrRef spec1 2))
    (hafter : ∀ t, dat.after 2 t = iblk1 V a c 2 t) (t : Fin (cfg1 a).N) (d) : dat.before 2 t d = iblk1 V a c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body -/

abbrev r1_0 : Rect S8x1000 := Rect.unit (s := S8x1000) ![0, 0] S8x1000.size inb_S8x1000_S8x1000_0_0
abbrev r1_1 : Rect S8x1 := Rect.unit (s := S8x1) ![0, 0] S8x1.size inb_S8x1_S8x1_0_0

/-- The one-hot block the body leaves, from the blocks of logits and of noise. -/
def out1_3 (x0 x1 : Vec F S8x1000 .f32) : Vec F S8x1000 .f32 :=
  View.canon [⟨r1_0, k1_pay2 (View.ld x0 r1_0) (View.ld x1 r1_0)⟩]

/-- The block of log-probabilities the body leaves, from the blocks of logits, of noise and of log-sums. -/
def out1_4 (x0 x1 : Vec F S8x1000 .f32) (x2 : Vec F S8x1 .f32) : Vec F S8x1 .f32 :=
  View.canon [⟨r1_1, k1_pay3 (View.ld x0 r1_0) (View.ld x1 r1_0) (View.ld x2 r1_1)⟩]

theorem cover1_3 (p0 : Vec F S8x1000 .f32) (y : S8x1000.Idx) :
    ∃ pc ∈ ([⟨r1_0, p0⟩] : List (View.Piece (Elt F) S8x1000 .f32)), y ∈ pc.1.set :=
  View.cover_of_tiled [⟨r1_0, p0⟩] S8x1000.size (by rfl) y

theorem cover1_4 (p0 : Vec F S8x1 .f32) (y : S8x1.Idx) :
    ∃ pc ∈ ([⟨r1_1, p0⟩] : List (View.Piece (Elt F) S8x1 .f32)), y ∈ pc.1.set :=
  View.cover_of_tiled [⟨r1_1, p0⟩] S8x1.size (by rfl) y

set_option maxHeartbeats 1000000 in
/-- The body on whole staging buffers: it keeps its inputs and leaves `out1_3`, `out1_4` of them; the table and the two arrays it is
    handed beside the windows it does not touch. -/
theorem sound_kernel1 (c : Dev nD) (E : Set ℕ) (b : grid1.Bounds) (i : grid1.Static) (arg0 : BitVec 32) (arg1 : Memref sig .tc .smem S512 .i32) (harg1 : arg1.IsWhole)
    (arg2 : Memref sig .tc .vmem S8x1000 .f32) (harg2 : arg2.IsWhole) (arg3 : Memref sig .tc .vmem S8x1000 .f32) (harg3 : arg3.IsWhole)
    (arg4 : Memref sig .tc .vmem S8x1 .f32) (harg4 : arg4.IsWhole) (arg5 : Memref sig .tc .hbm S16384x1000 .f32) (harg5 : arg5.IsWhole)
    (arg6 : Memref sig .tc .hbm S16384x1 .f32) (harg6 : arg6.IsWhole) (arg7 : Memref sig .tc .vmem S8x1000 .f32) (harg7 : arg7.IsWhole)
    (arg8 : Memref sig .tc .vmem S8x1 .f32) (harg8 : arg8.IsWhole)
    (x0 x1 : Vec F S8x1000 .f32) (x2 : Vec F S8x1 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg7 fullShare d) ∗ (∃ d, owns (c : Thread nD τ) arg8 fullShare d)
        ∗ (iprop(owns (c : Thread nD τ) arg2 fullShare x0 ∗ owns (c : Thread nD τ) arg3 fullShare x1 ∗ owns (c : Thread nD τ) arg4 fullShare x2
            ∗ owns (c : Thread nD τ) arg7 fullShare (out1_3 x0 x1) ∗ owns (c : Thread nD τ) arg8 fullShare (out1_4 x0 x1 x2)) -∗ K ⟨⟩))
      ⊢ wp frame (wpE (defs₀ (F := F)) Variants.none c none) E (cc1__fix_kernel b i arg0 arg1 harg1 arg2 harg2 arg3 harg3 arg4 harg4 arg5 harg5 arg6 harg6 arg7 harg7 arg8 harg8) K := by
  simp only [cc1__fix_kernel_eq_skeleton]; unfold cc1__fix_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover1_3 _)
  iexists _; isplitr
  swap; · iexact H4
  ipureintro
  exact View.read_writes_eq_canon _ _ _ (cover1_4 _)

/-! ## The pipeline's proof data -/

/-- The proof data on core `c`: the arrays as the launch finds them, each input's buffer kept, each output's at `out1_W` of the inputs'
    blocks; the invariant holds the scoped rest and the two tables; nothing owed; full shares. -/
def dat1 (c : Dev nD) : Dat τ (Elt F) Unit ℕ (UR sig nD τ) ℕ (cfg1 a) c where
  A w := V c (Pipeline.arrRef spec1 w)
  after w t := match w with
    | ⟨0, _⟩ => iblk1 V a c 0 t
    | ⟨1, _⟩ => iblk1 V a c 1 t
    | ⟨2, _⟩ => iblk1 V a c 2 t
    | ⟨3, _⟩ => out1_3 (iblk1 V a c 0 t) (iblk1 V a c 1 t)
    | ⟨4, _⟩ => out1_4 (iblk1 V a c 0 t) (iblk1 V a c 1 t) (iblk1 V a c 2 t)
  Φ _ := iprop(Pipeline.scopedRest spec1 c ∗ Pipeline.prefHeld pre1 c (fun _ => fullShare) a.1)
  q _ := fullShare
  owed _ := 0

theorem A1_eq (c : Dev nD) (w : Fin 5) : (dat1 V a c).A w = V c (Pipeline.arrRef spec1 w) := by
  dsimp only [dat1]

theorem after1_0 (c : Dev nD) (t : Fin (cfg1 a).N) : (dat1 V a c).after 0 t = iblk1 V a c 0 t := by dsimp only [dat1]; rfl
theorem after1_1 (c : Dev nD) (t : Fin (cfg1 a).N) : (dat1 V a c).after 1 t = iblk1 V a c 1 t := by dsimp only [dat1]; rfl
theorem after1_2 (c : Dev nD) (t : Fin (cfg1 a).N) : (dat1 V a c).after 2 t = iblk1 V a c 2 t := by dsimp only [dat1]; rfl
theorem after1_3 (c : Dev nD) (t : Fin (cfg1 a).N) : (dat1 V a c).after 3 t = out1_3 (iblk1 V a c 0 t) (iblk1 V a c 1 t) := by dsimp only [dat1]; rfl
theorem after1_4 (c : Dev nD) (t : Fin (cfg1 a).N) : (dat1 V a c).after 4 t = out1_4 (iblk1 V a c 0 t) (iblk1 V a c 1 t) (iblk1 V a c 2 t) := by dsimp only [dat1]; rfl

theorem before1_0 (c : Dev nD) (t : Fin (cfg1 a).N) (d) : (dat1 V a c).before 0 t d = iblk1 V a c 0 t :=
  before1_0_of (dat1 V a c) (A1_eq V a c 0) (after1_0 V a c) t d
theorem before1_1 (c : Dev nD) (t : Fin (cfg1 a).N) (d) : (dat1 V a c).before 1 t d = iblk1 V a c 1 t :=
  before1_1_of (dat1 V a c) (A1_eq V a c 1) (after1_1 V a c) t d
theorem before1_2 (c : Dev nD) (t : Fin (cfg1 a).N) (d) : (dat1 V a c).before 2 t d = iblk1 V a c 2 t :=
  before1_2_of (dat1 V a c) (A1_eq V a c 2) (after1_2 V a c) t d

/-! ## The body obligation -/

/-- The current staging buffer of window `w` at point `t`. -/
abbrev st1 (w : Fin 5) (t : Fin (cfg1 a).N) := ((cfg1 a).win w).stage ((cfg1 a).slots t w)

/-- What the body is called with at point `t`, the windows one by one, -/
def bodyPre1 (c : Dev nD) (t : Fin (cfg1 a).N) : sProp 𝕄 :=
  iprop((dat1 V a c).Φ t.castSucc ∗ (dat1 V a c).owesAt () t.castSucc
    ∗ (∃ d, owns (c : Thread nD τ) (st1 a 0 t) fullShare ((dat1 V a c).before 0 t d))
    ∗ (∃ d, owns (c : Thread nD τ) (st1 a 1 t) fullShare ((dat1 V a c).before 1 t d))
    ∗ (∃ d, owns (c : Thread nD τ) (st1 a 2 t) fullShare ((dat1 V a c).before 2 t d))
    ∗ (∃ d, owns (c : Thread nD τ) (st1 a 3 t) fullShare ((dat1 V a c).before 3 t d))
    ∗ (∃ d, owns (c : Thread nD τ) (st1 a 4 t) fullShare ((dat1 V a c).before 4 t d)))

/-- and what it returns. -/
def bodyPost1 (c : Dev nD) (t : Fin (cfg1 a).N) : sProp 𝕄 :=
  iprop((dat1 V a c).Φ t.succ ∗ (dat1 V a c).owesAt () t.succ
    ∗ owns (c : Thread nD τ) (st1 a 0 t) fullShare ((dat1 V a c).after 0 t)
    ∗ owns (c : Thread nD τ) (st1 a 1 t) fullShare ((dat1 V a c).after 1 t)
    ∗ owns (c : Thread nD τ) (st1 a 2 t) fullShare ((dat1 V a c).after 2 t)
    ∗ owns (c : Thread nD τ) (st1 a 3 t) fullShare ((dat1 V a c).after 3 t)
    ∗ owns (c : Thread nD τ) (st1 a 4 t) fullShare ((dat1 V a c).after 4 t))

/-- The body table's row at point `t`. -/
abbrev body1 (t : Fin (cfg1 a).N) := defs₀ (F := F) .tc (cfg1 a).body ((cfg1 a).bodyArgs t ((cfg1 a).slots t))

theorem sound_body1 (c : Dev nD) (t : Fin (cfg1 a).N) :
    bodyPre1 V a c t ⊢ wp frame (wpE (defs₀ (F := F)) Variants.none c none) Set.univ (body1 a t) (fun _ => bodyPost1 V a c t) := by
  unfold bodyPre1 bodyPost1 body1 defs₀
  rw [Defs.onTc_tc]
  simp only [before1_0, before1_1, before1_2]
  rw [show (dat1 V a c).Φ t.succ = (dat1 V a c).Φ t.castSucc from rfl,
    show (dat1 V a c).owesAt () t.succ = (dat1 V a c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ _ _ _ _ _ _ _ _ (iblk1 V a c 0 t) (iblk1 V a c 1 t) (iblk1 V a c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline library's obligation on the body, at every point. -/
theorem body_obligation1 (c : Dev nD) : BodyObligation (dat1 V a c) (defs₀ (F := F)) Variants.none () Set.univ := fun t => by
  rw [bigSep_W1, bigSep_W1]
  exact triple_restated (sound_body1 V a c t) rfl .rfl fun _ => .rfl

theorem arr_sub1 : Pipeline.arrRefs (pcfgs (F := F) 1).spec ⊆ Pipeline.ucRefs τ sig := Pipeline.arrRefs_sub_ucRefs spec1 (by decide)
theorem tbl_sub1 : Pipeline.tblRefs (pcfgs (F := F) 1).pre ⊆ Pipeline.ucRefs τ sig := Pipeline.tblRefs_sub_ucRefs pre1 (by decide)

end Cert.KernelIdeal.Reg

end
-- ==== Proof.PI.Run.lean ====
/- The program as a chain of host stretches and two launches. From admissible row tables (`ok1` of the tables the host code
   leaves before the second launch) every run terminates with every unscoped buffer at `V20`, and with every semaphore at zero. -/
module

public import proofs.«01_k».proof.Proof.PI.Region0
public import proofs.«01_k».proof.Proof.PI.Region1
public import Idealize.ShloMosaic.Lib.Pipeline.RegionsForgetLinks

@[expose] public section

set_option maxRecDepth 16384

noncomputable section

namespace Cert.KernelIdeal.Reg

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf RegionSeg Seg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the buffers hold between the launches -/

/-- What the first launch leaves: its arrays at their final contents, every other buffer kept. -/
def out8 : Outs (F := F) := fun _ r c => Pipeline.afterRegion (dat0 (V7 m) c) (V7 m c) (Proc.devRef .tc r)

/-- The buffers before the second launch. -/
def W19 (c : Dev nD) : Valuation τ sig (Elt F) := V19 m (out8 m) c

/-- The two tables the second launch is given: the number of rows to redo, and the rows. -/
def tbl : pre1.Contents (Elt F) := fun k => W19 m (0 : Dev nD) (Proc.devRef .tc (pre1.ref k))

theorem tbl_eq (c : Dev nD) (k : Fin pre1.K) : tbl m k = W19 m c (Proc.devRef .tc (pre1.ref k)) := by
  obtain rfl : c = 0 := Subsingleton.elim _ _
  rfl

variable (hok : ok1 (tbl m))

/-- The tables as admissible contents. -/
def adm1 : (pcfg1 (F := F)).Adm := ⟨tbl m, hok⟩

def adm : (p : Fin 2) → (pcfgs (F := F) p).Adm
  | ⟨0, _⟩ => cfg0.toPCfg_adm
  | ⟨1, _⟩ => adm1 m hok

/-- The two launches' proof data, each at what it finds. -/
def pdats : (p : Fin 2) → (c : Dev nD) → Dat τ (Elt F) Unit ℕ (UR sig nD τ) ℕ (Pipeline.pin (pcfgs (F := F)) (adm m hok) p) c
  | ⟨0, _⟩ => fun c => dat0 (V7 m) c
  | ⟨1, _⟩ => fun c => dat1 (W19 m) (adm1 m hok) c

/-- What each launch leaves. -/
def outs : Outs (F := F) := fun J r c => match J with
  | 8 => out8 m 8 r c
  | _ => Pipeline.afterRegion (dat1 (W19 m) (adm1 m hok) c) (W19 m c) (Proc.devRef .tc r)

theorem V8_outs (c : Dev nD) : V8 m (outs m hok) c = V8 m (out8 m) c := rfl

theorem V19_outs (c : Dev nD) : V19 m (outs m hok) c = W19 m c := rfl

/-! ## The launches as segments -/

/-- The levels of the semaphores: the one index at every core's cells, nowhere else. -/
def L : GSem nD τ sig → Finset Unit := fun g => if g.1.2 = .tc then {()} else ∅
def lv : GSem nD τ sig → Unit → ℕ := fun _ _ => 0

/-- What rides beside the buffers between the segments: what the core owes, which is nothing. -/
def E : Fin 3 → Dev nD → sProp 𝕄 := fun _ c => iprop((∃ W, owes (c : Thread nD τ) (0 : CellTallies nD τ sig Unit) W) ∗ emp ∗ emp)

theorem levelCut (p : Fin 2) : Pipeline.LevelCut (nD := nD) (τ := τ) (pcfgs (F := F)) (adm m hok) () L lv p (fun _ => 0) (fun _ => 0) where
  hι _ _ _ := by simp [L]
  hιb _ _ _ := le_refl _
  hD _ _ _ h := absurd h (lt_irrefl _)

def seg0 : RegionSeg (pcfgs (F := F)) (adm m hok) (pdats m hok) () defs₀ Variants.none L lv 0 :=
  RegionSeg.ofHeldIn (pcfgs (F := F)) (adm m hok) (pdats m hok) () defs₀ Variants.none L lv 0 (fun _ => 0) (Pipeline.ucRefs τ sig)
    (fun _ => iprop(emp)) (fun _ => iprop(emp)) launch0 rfl (fun c => (body_obligation0 (V7 m) c).loose) (fun _ _ => rfl) (fun _ => rfl)
    (fun c => (dat0 (V7 m) c).share_full fun _ => rfl)
    (fun c => by
      show iprop(Pipeline.scopedRest spec0 c ∗ emp) ⊢ (Pipeline.scopedRest spec0 c : sProp 𝕄)
      iintro ⟨H, -⟩; iexact H)
    (fun c => by
      show (Pipeline.scopedRest spec0 c : sProp 𝕄) ⊢ iprop(Pipeline.scopedRest spec0 c ∗ emp)
      iintro H; isplitl [H]; · iexact H
      iempintro)
    (fun _ => 0) (levelCut m hok 0) (fun _ => iprop(emp)) (V7 m) (fun c w => rfl)

def seg1 : RegionSeg (pcfgs (F := F)) (adm m hok) (pdats m hok) () defs₀ Variants.none L lv 1 :=
  RegionSeg.ofHeldInT (pcfgs (F := F)) (adm m hok) (pdats m hok) () defs₀ Variants.none L lv 1 (fun _ => 0) (Pipeline.ucRefs τ sig)
    (fun _ => iprop(emp)) (fun _ => iprop(emp)) launch1 (fun c => (body_obligation1 (W19 m) (adm1 m hok) c).loose) (fun _ _ => rfl) (fun _ => rfl)
    (fun c => (dat1 (W19 m) (adm1 m hok) c).share_full fun _ => rfl)
    (fun c => by
      show iprop(iprop(Pipeline.scopedRest spec1 c ∗ emp) ∗ Pipeline.prefHeld pre1 c (fun _ => fullShare) (adm1 m hok).1)
        ⊢ (iprop(Pipeline.scopedRest spec1 c ∗ Pipeline.prefHeld pre1 c (fun _ => fullShare) (adm1 m hok).1) : sProp 𝕄)
      iintro ⟨⟨H, -⟩, HT⟩; isplitl [H]; · iexact H
      iexact HT)
    (fun c => by
      show (iprop(Pipeline.scopedRest spec1 c ∗ Pipeline.prefHeld pre1 c (fun _ => fullShare) (adm1 m hok).1) : sProp 𝕄)
        ⊢ iprop(iprop(Pipeline.scopedRest spec1 c ∗ emp) ∗ Pipeline.prefHeld pre1 c (fun _ => fullShare) (adm1 m hok).1)
      iintro ⟨H, HT⟩; isplitl [H]
      · isplitl [H]; · iexact H
        iempintro
      iexact HT)
    (fun _ => 0) (levelCut m hok 1) (fun _ => iprop(emp)) (W19 m) (fun c w => rfl) (fun c k => tbl_eq m c k)

/-- Read at a reference, the buffers after the first launch are its arrays' final contents and the rest kept. -/
theorem V8_eq (c : Dev nD) (r : Ref sig .tc) :
    Pipeline.afterRegion (dat0 (V7 m) c) (V7 m c) (Proc.devRef .tc r) = V8 m (out8 m) c (Proc.devRef .tc r) := by
  by_cases h : r ∈ ([main_v188_0, main_v188_1, main_v188_2, main_v188_3] : List (Ref sig .tc))
  · simp only [List.mem_cons, List.not_mem_nil, or_false] at h
    rcases h with rfl | rfl | rfl | rfl
    · simp only [V8]
      rw [Function.update_of_ne (StableHlo.devRef_ne_of_ne (by decide)), Function.update_of_ne (StableHlo.devRef_ne_of_ne (by decide)),
        Function.update_of_ne (StableHlo.devRef_ne_of_ne (by decide)), Function.update_self]; rfl
    · simp only [V8]
      rw [Function.update_of_ne (StableHlo.devRef_ne_of_ne (by decide)), Function.update_of_ne (StableHlo.devRef_ne_of_ne (by decide)),
        Function.update_self]; rfl
    · simp only [V8]
      rw [Function.update_of_ne (StableHlo.devRef_ne_of_ne (by decide)), Function.update_self]; rfl
    · simp only [V8]
      rw [Function.update_self]; rfl
  · rw [V8_of m (out8 m) c r h]
    refine Pipeline.afterRegion_keeps (dat0 (V7 m) c) (V7 m c) (launch0 (F := F)).win.arr_inj (fun w => A0_eq (V7 m) c w) r fun w hw => ?_
    subst hw
    revert h; revert w; decide

/-- Read at a reference, the buffers after the second launch are its arrays' final contents and the rest kept. -/
theorem V20_eq (c : Dev nD) (r : Ref sig .tc) :
    Pipeline.afterRegion (dat1 (W19 m) (adm1 m hok) c) (W19 m c) (Proc.devRef .tc r) = V20 m (outs m hok) c (Proc.devRef .tc r) := by
  by_cases h : r ∈ ([main_v216_0, main_v216_1, main_v188_0, main_v188_1] : List (Ref sig .tc))
  · simp only [List.mem_cons, List.not_mem_nil, or_false] at h
    rcases h with rfl | rfl | rfl | rfl
    · simp only [V20]
      rw [Function.update_of_ne (StableHlo.devRef_ne_of_ne (by decide)), Function.update_of_ne (StableHlo.devRef_ne_of_ne (by decide)),
        Function.update_of_ne (StableHlo.devRef_ne_of_ne (by decide)), Function.update_self]; rfl
    · simp only [V20]
      rw [Function.update_of_ne (StableHlo.devRef_ne_of_ne (by decide)), Function.update_of_ne (StableHlo.devRef_ne_of_ne (by decide)),
        Function.update_self]; rfl
    · simp only [V20]
      rw [Function.update_of_ne (StableHlo.devRef_ne_of_ne (by decide)), Function.update_self]; rfl
    · simp only [V20]
      rw [Function.update_self]; rfl
  · rw [V20_of m (outs m hok) c r h, V19_outs]
    refine Pipeline.afterRegion_keeps (dat1 (W19 m) (adm1 m hok) c) (W19 m c) (launch1 (F := F)).win.arr_inj (fun w => A1_eq (W19 m) (adm1 m hok) c w) r fun w hw => ?_
    subst hw
    revert h
    exact (by decide : ∀ w : Fin 5, (Pipeline.arrRef spec1 w ∉ ([main_v216_0, main_v216_1, main_v188_0, main_v188_1] : List (Ref sig .tc))) → (spec1 w).isOut = false) w

theorem pre_seg0 (c : Dev nD) : iprop(StableHlo.held (c : Thread nD τ) (Pipeline.ucRefs τ sig) (V7 m c) ∗ E 0 c) ⊢ (seg0 m hok).pre c := by
  unfold E seg0
  exact RegionSeg.ofHeldIn_pre (D := fun _ => 0) (X := fun _ => iprop(emp)) (R := fun _ => iprop(emp)) (W := V7 m) arr_sub0 c

theorem post_seg0 (c : Dev nD) : (seg0 m hok).post c ⊢ iprop(StableHlo.held (c : Thread nD τ) (Pipeline.ucRefs τ sig) (V8 m (outs m hok) c) ∗ E 1 c) := by
  rw [V8_outs, ← StableHlo.held_congr (c : Thread nD τ) (Pipeline.eqOn_ucRefs (V8_eq m c))]
  unfold E seg0
  exact RegionSeg.ofHeldIn_post arr_sub0 c

theorem pre_seg1 (c : Dev nD) : iprop(StableHlo.held (c : Thread nD τ) (Pipeline.ucRefs τ sig) (V19 m (outs m hok) c) ∗ E 1 c) ⊢ (seg1 m hok).pre c := by
  rw [V19_outs]
  unfold E seg1
  exact RegionSeg.ofHeldInT_pre (D := fun _ => 0) (X := fun _ => iprop(emp)) (R := fun _ => iprop(emp)) (W := W19 m) arr_sub1 tbl_sub1 c

theorem post_seg1 (c : Dev nD) : (seg1 m hok).post c ⊢ iprop(StableHlo.held (c : Thread nD τ) (Pipeline.ucRefs τ sig) (V20 m (outs m hok) c) ∗ E 2 c) := by
  rw [← StableHlo.held_congr (c : Thread nD τ) (Pipeline.eqOn_ucRefs (V20_eq m hok c))]
  unfold E seg1
  exact RegionSeg.ofHeldInT_post arr_sub1 tbl_sub1 c

theorem end_E (c : Dev nD) : (E 2 c : sProp 𝕄) ⊢ iprop(∃ W, owes (c : Thread nD τ) (0 : CellTallies nD τ sig Unit) W) := by
  unfold E
  iintro ⟨H, -⟩; iexact H

/-! ## The run -/

set_option backward.isDefEq.respectTransparency.types false in
set_option maxHeartbeats 4000000 in
/-- From admissible tables every run ends with the unscoped buffers at `V20` and the semaphores at zero. -/
theorem run : θ_run defs (onTc (τ := τ) (main (F := F))) ⟨m, fun _ => 0, ρ⟩ (fun r =>
    (∀ c : Dev nD, ∀ b ∈ Pipeline.ucRefs τ sig, r.2.mem ((c.tc : Thread nD τ).1, b) = V20 m (outs m hok) c b) ∧ r.2.sem = fun _ => 0) := by
  refine Pipeline.θ_run_regions_kit_dev_sems (pcfgs (F := F)) (adm m hok) (pdats m hok) () (cellOf_inj (adm m hok)) emb₁ defs₀ Variants.none L lv m ρ main
    (segs m (outs m hok) Variants.none L lv E () (adm m hok) (pdats m hok) (seg0 m hok) (seg1 m hok))
    (fun c Q => by
      rewrite [main_chain c, Seg.run_eq_chain,
        show (segs m (outs m hok) Variants.none L lv E () (adm m hok) (pdats m hok) (seg0 m hok) (seg1 m hok) c).map Seg.prog = [
          StableHlo.seq hostOps0, StableHlo.seq hostOps0_1, StableHlo.seq hostOps0_2, StableHlo.seq hostOps0_3, StableHlo.seq hostOps0_4,
          StableHlo.seq hostOps0_5, StableHlo.seq hostOps0_6, Prog.lift (.customCall (Pipeline.entry 0) ()),
          StableHlo.seq hostOps1, StableHlo.seq hostOps1_1, StableHlo.seq hostOps1_2, StableHlo.seq hostOps1_3, StableHlo.seq hostOps1_4,
          StableHlo.seq hostOps1_5, StableHlo.seq hostOps1_6, StableHlo.seq hostOps1_7, StableHlo.seq hostOps1_8, StableHlo.seq hostOps1_9,
          StableHlo.seq hostOps1_10, Prog.lift (.customCall (Pipeline.entry 1) ()) ] from rfl]
      dsimp (config := { failIfUnchanged := false }) only
      exact .rfl)
    (fun c => by simp only [segs, Seg.pipes_host, Seg.pipes_region, Seg.pipes_nil]; decide) (O₀ := 0)
    (hL := fun g hg => by simp [L, hg])
    (G := fun _ => iprop(emp)) (u₀ := initOf (Pipeline.cells (Pipeline.pin (pcfgs (F := F)) (adm m hok)) (cellOf_inj (adm m hok))) (Pipeline.launchToks (Pipeline.pin (pcfgs (F := F)) (adm m hok)) (cellOf_inj (adm m hok))))
    (hu₀ := by
      iintro Hu; imodintro
      isplitl [Hu]
      · iapply (show (ownU _ : sProp 𝕄) ⊢ BI.own (emb₁ (initOf (Pipeline.cells (Pipeline.pin (pcfgs (F := F)) (adm m hok)) (cellOf_inj (adm m hok))) (Pipeline.launchToks (Pipeline.pin (pcfgs (F := F)) (adm m hok)) (cellOf_inj (adm m hok))))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ E 0 c))
    (Tₙ := fun c => StableHlo.held (c : Thread nD τ) (Pipeline.ucRefs τ sig) (V20 m (outs m hok) c))
    (hch := fun c => ⟨.rfl, .rfl, .rfl, .rfl, .rfl, .rfl, .rfl,
      pre_seg0 m hok c, post_seg0 m hok c,
      .rfl, .rfl, .rfl, .rfl, .rfl, .rfl, .rfl, .rfl, .rfl, .rfl,
      pre_seg1 m hok c, (post_seg1 m hok c).trans (sep_mono .rfl (end_E c))⟩)
    (hinit := ?_) (QY := fun c s => ∀ b ∈ Pipeline.ucRefs τ sig, s.mem ((c.tc : Thread nD τ).1, b) = V20 m (outs m hok) c b)
    (hfin := fun c s' => ?_) (hQ := fun _ h hz => ⟨h, funext fun g => hz g (.inr (regions_no_unscoped g.2))⟩)
  · refine Pipeline.initEach L lv fun c => ?_
    rw [show unscopedBufs c (fun b => m ((c.tc : Thread nD τ).loc b)) = StableHlo.held (c.tc : Thread nD τ) (Pipeline.ucRefs τ sig) (V0 m c)
        from Pipeline.unscopedBufs_held (Ix := Unit) (Name := ℕ) (U := UR sig nD τ) (Lvl := ℕ) c (V0 m c)]
    iintro ⟨⟨Hh, -, HO, -, -, -⟩, -⟩
    imodintro
    isplitl [Hh]; · iexact Hh
    unfold E
    isplitl [HO]
    · iexists ∅; iexact HO
    isplitl; · iempintro
    iempintro
  · unfold StableHlo.held
    iintro ⟨Hh, HSI⟩
    ihave Hr := (pointsTo_read_all (Pipeline.ucRefs τ sig) (fun b => ((c : Thread nD τ).1, b)) (V20 m (outs m hok) c) s') $$ [Hh HSI]
    · isplitl [Hh] <;> iassumption
    imodintro; iexact Hr

/-- Reading the end state at a reference. -/
theorem mem_uc (r : Ref sig .tc) (h : r.isScoped = false) : (Proc.devRef .tc r : DevRef τ sig) ∈ Pipeline.ucRefs τ sig :=
  Finset.mem_filter.mpr ⟨StableHlo.devRef_mem_tcRefs r, by
    intro h'; exact Bool.false_ne_true (h.symm.trans h')⟩

include hok in
/-- THE FRAME, from admissible tables: the argument unchanged and every semaphore counter at zero. -/
theorem frame_of_ok : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  (θ_run defs _ _).mono (fun _ h => ⟨fun c => (h.1 c _ (mem_uc main_arg0 (by decide))).trans (V20_main_arg0 m (outs m hok) c), h.2⟩) (run m ρ hok)

end Cert.KernelIdeal.Reg

end
-- ==== Proof.PI.Host.lean ====
/- The host operations between the two launches, list by list: from the marks that the first launch leaves to the two tables of the
   second, the number of rows to visit and the rows. -/
module

public import proofs.«01_k».proof.Proof.PI.Run
public import proofs.«01_k».proof.Proof.Lib.Nonzero

@[expose] public section

set_option maxRecDepth 16384

noncomputable section

namespace Cert.KernelIdeal.Reg

open Cert.KernelIdeal.Gen Cert.Nonzero
open Idealize.ShloMosaic Idealize.ShloMosaic.TcCoe Idealize.ShloMosaic.Tactic Idealize.ShloMosaic.ValueIdx
open Idealize.ShloMosaic.StableHlo (after)

variable {F : FTy → Type} [FloatOps F] (X : Valuation τ sig (Elt F)) (A : ℕ → ℕ)

/-- The marks, as bits. -/
theorem host_bits (hA : ∀ i, A i ≤ 1) (h : ∀ i : Fin 16384, (X main_v188_2 : IVec S16384x1 32) (ValueIdx.ix2 i (0 : Fin 1)) = BitVec.ofNat 32 (A i.val)) (i : Fin 16384) :
    (after hostOps1 X main_v191 : IVec S16384 1) (ValueIdx.ix1 i) = BitVec.ofNat 1 (A i.val) := by
  after_results
  show IntOp.cmpi .ne (shapeCast S16384 (X main_v188_2 : IVec S16384x1 32) shapeCasts_S16384x1_S16384 (ValueIdx.ix1 i)) 0#32 = _
  rw [Routing.cast21 _ _ i 0 i (by simp), h]
  have := hA i.val
  interval_cases A i.val <;> rfl

/-- Their running count. -/
theorem host_cumsum (hA : ∀ i, A i ≤ 1) (h : ∀ i : Fin 16384, (X main_v191 : IVec S16384 1) (ValueIdx.ix1 i) = BitVec.ofNat 1 (A i.val)) (i : Fin 16384) :
    (after hostOps1_1 X main_v192 : IVec S16384 32) (ValueIdx.ix1 i) = BitVec.ofNat 32 (marks A i.val) := by
  after_results
  simp -implicitDefEqProofs only [StableHlo.TRef.toBuf, StableHlo.TRef.ofBuf, cast_cast, cast_eq]
  refine Routing.cumsum1 (N := 16384) (Nm1 := 16383) (by norm_num) _ A (fun i => ?_) _ ?_ _ _ i
  · show ((X main_v191 : IVec S16384 1) (ValueIdx.ix1 i)).setWidth 32 = _
    rw [h]
    have := hA i.val
    interval_cases A i.val <;> rfl
  · rfl

/-- The histogram of the running count. -/
theorem host_bins (hA : ∀ i, A i ≤ 1) (h : ∀ i : Fin 16384, (X main_v192 : IVec S16384 32) (ValueIdx.ix1 i) = BitVec.ofNat 32 (marks A i.val)) (k : Fin 512) :
    (after hostOps1_2 X main_v201 : IVec S512 32) (ValueIdx.ix1 k) = BitVec.ofNat 32 (bin A 16384 k.val) := by
  have hm : ∀ i : Fin 16384, marks A i.val < 2 ^ 31 := fun i => lt_of_le_of_lt (marks_le A hA i.val) (by have := i.isLt; omega)
  after_results
  refine scatter_count (N := 512) (M := 16384) _ rfl rfl rfl _ (fun _ => rfl) _ _ (fun _ => rfl) (marks A) (fun i => ?_) hm k
  refine (Routing.bcCol _ _ i).trans ?_
  show Scalar.select (IntOp.cmpi .slt ((X main_v192 : IVec S16384 32) (ValueIdx.ix1 i)) 0#32) _ ((X main_v192 : IVec S16384 32) (ValueIdx.ix1 i)) = _
  rw [Routing.wrap_of_lt _ _ (by rw [h, WordCmp.toNat_ofNat_of_lt ((hm i).trans (by norm_num))]; exact hm i), h]

/-- The running count of the histogram. -/
theorem host_slots (h : ∀ k : Fin 512, (X main_v201 : IVec S512 32) (ValueIdx.ix1 k) = BitVec.ofNat 32 (bin A 16384 k.val)) (k : Fin 512) :
    (after hostOps1_3 X main_v202 : IVec S512 32) (ValueIdx.ix1 k) = BitVec.ofNat 32 (slot A 16384 k.val) := by
  after_results
  simp -implicitDefEqProofs only [StableHlo.TRef.toBuf, StableHlo.TRef.ofBuf, cast_cast, cast_eq]
  refine Routing.cumsum1 (N := 512) (Nm1 := 511) (by norm_num) _ (bin A 16384) h _ ?_ _ _ k
  rfl

theorem host_one : (after hostOps1_4 X main_c_64 : IVec S_ 32) ix0 = 1#32 := by
  after_results
  rfl

/-- The floor division by one. -/
theorem host_div (h1 : (X main_c_64 : IVec S_ 32) ix0 = 1#32) (k : Fin 512) :
    (after hostOps1_5 X main_v203 : IVec S512 32) (ValueIdx.ix1 k) = (X main_v202 : IVec S512 32) (ValueIdx.ix1 k) := by
  after_results
  simp -implicitDefEqProofs only [StableHlo.TRef.toBuf, StableHlo.TRef.ofBuf, cast_cast, cast_eq]
  have e : (X main_c_64 : IVec S_ 32) = fun _ => 1#32 := funext fun j => by rw [eq_ix0 j]; exact h1
  rw [e]
  exact floordiv_one ((X main_v202 : IVec S512 32) (ValueIdx.ix1 k)) _ _ _ rfl

theorem host_size : (after hostOps1_6 X main_c_65 : IVec S_ 32) ix0 = 16384#32 := by
  after_results
  rfl

/-- The remainder by the number of rows. -/
theorem host_mod (h1 : (X main_c_65 : IVec S_ 32) ix0 = 16384#32) (k : Fin 512) (n : ℕ) (hn : n < 2 ^ 31)
    (h : (X main_v203 : IVec S512 32) (ValueIdx.ix1 k) = BitVec.ofNat 32 n) :
    (after hostOps1_7 X main_v204 : IVec S512 32) (ValueIdx.ix1 k) = BitVec.ofNat 32 (n % 16384) := by
  after_results
  simp -implicitDefEqProofs only [StableHlo.TRef.toBuf, StableHlo.TRef.ofBuf, cast_cast, cast_eq]
  have e : (X main_c_65 : IVec S_ 32) = fun _ => 16384#32 := funext fun j => by rw [eq_ix0 j]; exact h1
  rw [e]
  refine Eq.trans ?_ (mod_word n 16384 hn (by norm_num) (by norm_num) (IntOp.addi (IntOp.remsi .host (BitVec.ofNat 32 n) 16384#32) 16384#32)
    (IntOp.cmpi .ne (IntOp.remsi .host (BitVec.ofNat 32 n) 16384#32) 0#32))
  rw [← h]
  rfl

/-- The number of marks, in each slot's comparison. -/
theorem host_mask (hA : ∀ i, A i ≤ 1) (h : ∀ i : Fin 16384, (X main_v191 : IVec S16384 1) (ValueIdx.ix1 i) = BitVec.ofNat 1 (A i.val)) (k : Fin 512) :
    (after hostOps1_8 X main_v210 : IVec S512 1) (ValueIdx.ix1 k) = BitVec.ofBool (decide (marks A 16383 ≤ k.val)) := by
  have hm : marks A 16383 < 2 ^ 31 := lt_of_le_of_lt (marks_le A hA _) (by norm_num)
  after_results
  have hsum : Host.reduce IntOp.addi (extui 32 (X main_v191 : IVec S16384 1) natLt_1_32) (constantI S_ 32 0#32) reducesTo_S16384_S_d0 h_S_ ix0
      = BitVec.ofNat 32 (marks A 16383) :=
    Routing.reduce_sum (N := 16384) _ A (fun i => by
      show ((X main_v191 : IVec S16384 1) (ValueIdx.ix1 i)).setWidth 32 = _
      rw [h]
      have := hA i.val
      interval_cases A i.val <;> rfl) _ _
  have e : Host.reduce IntOp.addi (extui 32 (X main_v191 : IVec S16384 1) natLt_1_32) (constantI S_ 32 0#32) reducesTo_S16384_S_d0 h_S_
      = fun _ => BitVec.ofNat 32 (marks A 16383) := funext fun j => by rw [eq_ix0 j]; exact hsum
  rw [e]
  exact WordCmp.cmpi_sge_ofNat (w := 32) (lt_trans k.isLt (by norm_num)) hm

theorem host_zero (j : S1.Idx) : (after hostOps1_8 X main_v211 : IVec S1 32) j = 0#32 := by
  after_results
  rfl

/-- The slots from the number of marks on are zero. -/
theorem host_fill (h0 : ∀ j, (X main_v211 : IVec S1 32) j = 0#32) (k : Fin 512) :
    (after hostOps1_9 X main_v212 : IVec S512 32) (ValueIdx.ix1 k)
      = Scalar.select ((X main_v210 : IVec S512 1) (ValueIdx.ix1 k)) 0#32 ((X main_v204 : IVec S512 32) (ValueIdx.ix1 k)) := by
  after_results
  simp -implicitDefEqProofs only [StableHlo.TRef.toBuf, StableHlo.TRef.ofBuf, cast_cast, cast_eq]
  have e : (X main_v211 : IVec S1 32) = fun _ => 0#32 := funext h0
  rw [e]
  rfl

/-- The number of rows to visit: the number of marks, 512 at most. -/
theorem host_count (hA : ∀ i, A i ≤ 1) (h : ∀ i : Fin 16384, (X main_v188_2 : IVec S16384x1 32) (ValueIdx.ix2 i (0 : Fin 1)) = BitVec.ofNat 32 (A i.val)) :
    (after hostOps1_10 X main_v215 : IVec S_ 32) ix0 = BitVec.ofNat 32 (min (marks A 16383) 512) := by
  have hm : marks A 16383 < 2 ^ 31 := lt_of_le_of_lt (marks_le A hA _) (by norm_num)
  after_results
  have hsum : Host.reduce IntOp.addi (shapeCast S16384 (X main_v188_2 : IVec S16384x1 32) shapeCasts_S16384x1_S16384) (constantI S_ 32 0#32) reducesTo_S16384_S_d0 h_S_ ix0
      = BitVec.ofNat 32 (marks A 16383) :=
    Routing.reduce_sum (N := 16384) _ A (fun i => by
      rw [Routing.cast21 _ _ i 0 i (by simp), h]) _ _
  refine Eq.trans (b := IntOp.minsi (BitVec.ofNat 32 (marks A 16383)) (BitVec.ofNat 32 512)) ?_ ?_
  · rw [← hsum]; rfl
  · have hs : (BitVec.ofNat 32 (marks A 16383)).slt (BitVec.ofNat 32 512) = decide (marks A 16383 < 512) := by
      unfold BitVec.slt
      rw [WordCmp.toInt_ofNat_of_lt hm, WordCmp.toInt_ofNat_of_lt (by norm_num)]
      exact decide_eq_decide.2 Nat.cast_lt
    unfold IntOp.minsi
    rw [hs]
    by_cases hlt : marks A 16383 < 512
    · rw [if_pos (decide_eq_true hlt), Nat.min_eq_left hlt.le]
    · rw [if_neg (by simpa using hlt), Nat.min_eq_right (by omega)]

variable (m : (ℓ : Loc nD τ sig) → Buf (Elt F) ℓ) (outs : Outs (F := F)) (c : Dev nD)

/-- The second launch's number of points: the number of marks, 512 at most. -/
theorem table_count (hA : ∀ i, A i ≤ 1)
    (h : ∀ i : Fin 16384, (V8 m outs c main_v188_2 : IVec S16384x1 32) (ValueIdx.ix2 i (0 : Fin 1)) = BitVec.ofNat 32 (A i.val)) :
    (V19 m outs c main_v215 : IVec S_ 32) ix0 = BitVec.ofNat 32 (min (marks A 16383) 512) := by
  refine host_count _ A hA fun i => ?_
  rw [V18_of m outs c main_v188_2 (by decide), V17_of m outs c main_v188_2 (by decide), V16_of m outs c main_v188_2 (by decide),
    V15_of m outs c main_v188_2 (by decide), V14_of m outs c main_v188_2 (by decide), V13_of m outs c main_v188_2 (by decide),
    V12_of m outs c main_v188_2 (by decide), V11_of m outs c main_v188_2 (by decide), V10_of m outs c main_v188_2 (by decide),
    V9_of m outs c main_v188_2 (by decide)]
  exact h i

/-- The second launch's table of rows: slot `k` below the number of marks holds the number of rows at or below the `k`-th mark's count,
    which is the row that has it; the other slots hold zero. -/
theorem table_rows (hA : ∀ i, A i ≤ 1)
    (h : ∀ i : Fin 16384, (V8 m outs c main_v188_2 : IVec S16384x1 32) (ValueIdx.ix2 i (0 : Fin 1)) = BitVec.ofNat 32 (A i.val)) (k : Fin 512) :
    (V19 m outs c main_v212 : IVec S512 32) (ValueIdx.ix1 k)
      = BitVec.ofNat 32 (if marks A 16383 ≤ k.val then 0 else slot A 16384 k.val % 16384) := by
  have h191 : ∀ i : Fin 16384, (V9 m outs c main_v191 : IVec S16384 1) (ValueIdx.ix1 i) = BitVec.ofNat 1 (A i.val) := host_bits _ A hA h
  have h192 := host_cumsum (V9 m outs c) A hA h191
  have h201 := host_bins (V10 m outs c) A hA h192
  have h202 := host_slots (V11 m outs c) A h201
  have h203 : (V14 m outs c main_v203 : IVec S512 32) (ValueIdx.ix1 k) = BitVec.ofNat 32 (slot A 16384 k.val) := by
    refine (host_div (V13 m outs c) (host_one _) k).trans ?_
    rw [V13_of m outs c main_v202 (by decide)]
    exact h202 k
  have h204 : (V16 m outs c main_v204 : IVec S512 32) (ValueIdx.ix1 k) = BitVec.ofNat 32 (slot A 16384 k.val % 16384) := by
    refine host_mod (V15 m outs c) (host_size _) k _ (lt_of_le_of_lt (slot_le A 16384 k.val) (by norm_num)) ?_
    rw [V15_of m outs c main_v203 (by decide)]
    exact h203
  have h210 : (V17 m outs c main_v210 : IVec S512 1) (ValueIdx.ix1 k) = BitVec.ofBool (decide (marks A 16383 ≤ k.val)) := by
    refine host_mask (V16 m outs c) A hA (fun i => ?_) k
    rw [V16_of m outs c main_v191 (by decide), V15_of m outs c main_v191 (by decide), V14_of m outs c main_v191 (by decide),
      V13_of m outs c main_v191 (by decide), V12_of m outs c main_v191 (by decide), V11_of m outs c main_v191 (by decide),
      V10_of m outs c main_v191 (by decide)]
    exact h191 i
  rw [V19_of m outs c main_v212 (by decide)]
  refine (host_fill (V17 m outs c) (host_zero _) k).trans ?_
  rw [V17_of m outs c main_v204 (by decide), h204, h210]
  by_cases hk : marks A 16383 ≤ k.val
  · rw [if_pos hk, decide_eq_true hk]; rfl
  · rw [if_neg hk, decide_eq_false hk]; rfl

end Cert.KernelIdeal.Reg

end
-- ==== Proof.PI.Tables.lean ====
/- The tables of the second launch are admissible, whatever the floats are: the marks are zeros and ones, so at most 512 rows are
   visited, each inside the arrays. -/
module

public import proofs.«01_k».proof.Proof.PI.Host
public import Idealize.ShloMosaic.Lib.Pipeline.ValueKit

@[expose] public section

set_option maxRecDepth 16384

noncomputable section

namespace Cert.KernelIdeal.Reg

open Cert.KernelIdeal.Gen Cert.Nonzero
open Idealize.ShloMosaic Idealize.ShloMosaic.TcCoe Idealize.ShloMosaic.Tactic Idealize.ShloMosaic.ValueIdx
open Idealize.ShloMosaic.StableHlo (after)

variable {F : FTy → Type} [FloatOps F] (m : (ℓ : Loc nD τ sig) → Buf (Elt F) ℓ) (c : Dev nD)

/-- A mark is zero or one. -/
theorem mark_bit (x0 : Vec F S1024x1000 .f32) (x1 : Vec F S1024x1000 .i16) (y : S1024x1.Idx) : (out0_4 x0 x1 y : BitVec 32) = 0#32 ∨ (out0_4 x0 x1 y : BitVec 32) = 1#32 := by
  unfold out0_4
  frame_out
  unfold k0_pay6
  dsimp only
  show ((_ : BitVec 1).setWidth 32) = 0#32 ∨ ((_ : BitVec 1).setWidth 32) = 1#32
  exact (by decide : ∀ b : BitVec 1, b.setWidth 32 = 0#32 ∨ b.setWidth 32 = 1#32) _

theorem marks_bit (i : S16384x1.Idx) : (V8 m (out8 m) c main_v188_2 : IVec S16384x1 32) i = 0#32 ∨ (V8 m (out8 m) c main_v188_2 : IVec S16384x1 32) i = 1#32 := by
  have e : V8 m (out8 m) c main_v188_2 = (dat0 (V7 m) c).arrAt 4 cfg0.N := by
    rw [← V8_eq]
    exact Pipeline.afterRegion_arr (dat0 (V7 m) c) (V7 m c) (launch0 (F := F)).win.arr_inj 4
  rw [e]
  refine (dat0 (V7 m) c).arrAt_forall_of_covers 4 (fun _ v => (v : BitVec 32) = 0#32 ∨ (v : BitVec 32) = 1#32) (by decide +kernel) (fun t hf y => ?_) i
  blk_simp
  rw [after0_4]
  exact mark_bit _ _ _

/-- The marks as naturals. -/
def mark (i : ℕ) : ℕ := if h : i < 16384 then ((V8 m (out8 m) 0 main_v188_2 : IVec S16384x1 32) (ValueIdx.ix2 (⟨i, h⟩ : Fin 16384) (0 : Fin 1))).toNat else 0

theorem mark_le (i : ℕ) : mark m i ≤ 1 := by
  unfold mark
  split_ifs with h
  · rcases marks_bit m 0 (ValueIdx.ix2 (⟨i, h⟩ : Fin 16384) (0 : Fin 1)) with e | e <;> rw [e] <;> decide
  · exact Nat.zero_le _

theorem mark_word (i : Fin 16384) : (V8 m (out8 m) 0 main_v188_2 : IVec S16384x1 32) (ValueIdx.ix2 i (0 : Fin 1)) = BitVec.ofNat 32 (mark m i.val) := by
  unfold mark
  rw [dif_pos i.isLt, BitVec.ofNat_toNat, BitVec.setWidth_eq]

/-- The number of rows to visit. -/
def nRows : ℕ := min (marks (mark m) 16383) 512

/-- The row in slot `k`. -/
def rowAt (k : ℕ) : ℕ := if marks (mark m) 16383 ≤ k then 0 else slot (mark m) 16384 k % 16384

theorem nRows_le : nRows m ≤ 512 := Nat.min_le_right _ _

theorem rowAt_lt (k : ℕ) : rowAt m k < 16384 := by
  unfold rowAt; split_ifs
  · norm_num
  · exact Nat.mod_lt _ (by norm_num)

theorem tbl_count : dynb1 (tbl m) = ![nRows m] := by
  have h : (tbl m 0 : IVec S_ 32) ValueIdx.ix0 = BitVec.ofNat 32 (nRows m) := table_count (mark m) m (out8 m) 0 (mark_le m) (mark_word m)
  unfold dynb1
  have e : ((tbl m 0 : IVec S_ 32) fun a => a.elim0) = BitVec.ofNat 32 (nRows m) := by rw [← h]; exact congrArg _ (eq_ix0 _)
  have e' : ((tbl m 0 : IVec S_ 32) fun a => a.elim0).toNat = nRows m := by
    rw [e]; exact WordCmp.toNat_ofNat_of_lt (lt_of_le_of_lt (nRows_le m) (by norm_num))
  exact congrArg (fun n => ![n]) e'

theorem tbl_row (k : ℕ) (hk : k < 512) : ((tbl m).atD 1 ![k] : BitVec 32) = BitVec.ofNat 32 (rowAt m k) := by
  have h : (tbl m 1 : IVec S512 32) (ValueIdx.ix1 (⟨k, hk⟩ : Fin 512)) = BitVec.ofNat 32 (rowAt m k) :=
    table_rows (mark m) m (out8 m) 0 (mark_le m) (mark_word m) ⟨k, hk⟩
  have hs : ∀ a, (![k] : Fin 1 → ℕ) a + 1 ≤ S512.size a := fun a => by fin_cases a; exact hk
  refine (dif_pos hs).trans (Eq.trans ?_ h)
  refine congrArg (tbl m 1 : IVec S512 32) ?_
  funext a; fin_cases a; rfl

/-- The block that point `i` of the second launch visits. -/
def blkAt (k : ℕ) : ℕ := rowAt m k / 8

theorem bound_at (b : grid1.Bounds) (a : Fin 1) : (grid1.at b).bound a = b a := by
  fin_cases a; rfl

theorem coord_lt (i : (grid1.at (dynb1 (tbl m))).Coords) : (i 0).val < nRows m := by
  have h := (i 0).isLt
  have e : (grid1.at (dynb1 (tbl m))).bound 0 = nRows m := by
    rw [bound_at, tbl_count]; rfl
  exact lt_of_lt_of_eq h e

theorem transform_eq (i : (grid1.at (dynb1 (tbl m))).Coords) : cc1_transform_0 (tbl m) (dynb1 (tbl m)) i = ![blkAt m (i 0).val, 0] := by
  have hi := coord_lt m i
  have hle := nRows_le m
  have hv : (Scalar.indexCast (BitVec.ofNat 32 (i 0).val) : Index).toNat = (i 0).val := WordCmp.toNat_ofNat_of_lt (w := 32) (by omega)
  have h1 : cc1_transform_0 (tbl m) (dynb1 (tbl m)) i = ![(eighth ((tbl m).atD 1 ![(Scalar.indexCast (BitVec.ofNat 32 (i 0).val) : Index).toNat])).toNat, 0] := rfl
  rw [h1, hv, tbl_row m _ (by omega), eighth_word _ (lt_trans (rowAt_lt m _) (by norm_num)),
    WordCmp.toNat_ofNat_of_lt (lt_of_le_of_lt (Nat.div_le_self _ _) (lt_trans (rowAt_lt m _) (by norm_num)))]
  rfl

theorem blkAt_lt (k : ℕ) : blkAt m k < 2048 := by
  have := rowAt_lt m k
  unfold blkAt; omega

/-- The tables are admissible. -/
theorem tables_ok : ok1 (tbl m) := by
  have hw : ∀ i : (grid1.at (dynb1 (tbl m))).Coords, ∀ a, (cc1_transform_0 (tbl m) (dynb1 (tbl m)) i a + 1) * S8x1000.size a ≤ S16384x1000.size a := by
    intro i a
    rw [transform_eq]
    have := blkAt_lt m (i 0).val
    fin_cases a
    · show (blkAt m (i 0).val + 1) * 8 ≤ 16384
      omega
    · show (0 + 1) * 1000 ≤ 1000
      omega
  have hn : ∀ i : (grid1.at (dynb1 (tbl m))).Coords, ∀ a, (cc1_transform_2 (tbl m) (dynb1 (tbl m)) i a + 1) * S8x1.size a ≤ S16384x1.size a := by
    intro i a
    rw [show cc1_transform_2 (tbl m) (dynb1 (tbl m)) i = _ from transform_eq m i]
    have := blkAt_lt m (i 0).val
    fin_cases a
    · show (blkAt m (i 0).val + 1) * 8 ≤ 16384
      omega
    · show (0 + 1) * 1 ≤ 1
      omega
  refine ⟨?_, fun i a => ?_, fun i => ⟨hw i, .inl rfl⟩, fun i => ⟨hw i, .inl rfl⟩, fun i => ⟨hn i, .inl rfl⟩, fun i => ⟨hw i, .inl rfl⟩, fun i => ⟨hn i, .inl rfl⟩⟩
  · show (List.ofFn (grid1.at (dynb1 (tbl m))).bound).prod + 2 < 2 ^ 31
    have e : (grid1.at (dynb1 (tbl m))).bound = ![nRows m] := by
      funext a
      rw [bound_at, tbl_count]
    rw [e]
    have := nRows_le m
    simp only [List.ofFn_succ, List.ofFn_zero, List.prod_cons, List.prod_nil, Matrix.cons_val_zero]
    omega
  · have hi := coord_lt m i
    have hle := nRows_le m
    have hv : (Scalar.indexCast (BitVec.ofNat 32 (i 0).val) : Index).toNat = (i 0).val := WordCmp.toNat_ofNat_of_lt (w := 32) (by omega)
    fin_cases a
    show (Scalar.indexCast (BitVec.ofNat 32 (i 0).val) : Index).toNat + 1 ≤ 512
    omega

/-- Every run terminates and keeps the argument. -/
theorem frame_all (ρ : Dev nD → PrngReg) : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  frame_of_ok m ρ (tables_ok m)

end Cert.KernelIdeal.Reg

end
-- ==== Proof.Ref.Run.lean ====
/- The reference's run: the host operations of its `main` in order, and what every buffer holds after them. -/
module

public import proofs.«01_k».proof.Proof.Gen.ReferenceIdeal
public import Idealize.ShloMosaic.Lib.Claim

@[expose] public section

set_option maxRecDepth 65536

noncomputable section

namespace Cert.ReferenceIdeal.Reg

open Idealize.ShloMosaic Idealize.ShloMosaic.TcCoe Idealize.ShloMosaic.Tactic Idealize.SL.Sem
open Idealize.ShloMosaic.StableHlo (after launchContents)

variable {F : FTy → Type} [FloatOps F]

/-- The reference's operations, in program order. -/
def line : { l : List (HloOp τ sig (Elt F)) // ∀ c, StableHlo.IsSeq (main (F := F) c) l } := by
  constructor
  hlo_seq

/-- The operations alone. -/
def ops : List (HloOp τ sig (Elt F)) := line.1

/-- What a device's buffers hold after the reference. -/
def W (m : (ℓ : Loc nD τ sig) → Buf (Elt F) ℓ) (c : Dev nD) : Valuation τ sig (Elt F) := after ops (launchContents m c)

/-- **The reference's run**: every buffer ends at `W m c`, the semaphores at zero. -/
theorem run (m : (ℓ : Loc nD τ sig) → Buf (Elt F) ℓ) (ρ : Dev nD → PrngReg) :
    θ_run defs (onTc (τ := τ) main) ⟨m, fun _ => 0, ρ⟩ fun r =>
      ∀ (d : Dev nD) (b : Ref sig .tc), r.2.mem ((d.tc : Thread nD τ).loc b) = W m d (Proc.devRef .tc b) := by
  refine StableHlo.run_hlo _ _ (fun d => line.2 d) (by decide) (by decide) ?_ ?_ m ρ
  · show (line (F := F)).1.Forall _
    unfold line
    simp
  · show ∀ op ∈ (line (F := F)).1, _
    unfold line
    intro _ h; (repeat (cases h with | head => rfl | tail _ h => ?_)); exact nomatch h

/-- Nothing of the line writes the argument. -/
theorem W_arg0 (m : (ℓ : Loc nD τ sig) → Buf (Elt F) ℓ) (c : Dev nD) : W m c (Proc.devRef .tc main_arg0) = m ((c.tc : Thread nD τ).loc main_arg0) := by
  unfold W ops line
  after_results

/-- The reference has no semaphore. -/
theorem no_sem : IsEmpty (SemLoc sig) := Fintype.card_eq_zero_iff.mp (SemLoc.card_eq ▸ rfl)

/-- **The reference's frame**: its argument ends unchanged, and every semaphore counter is zero. -/
theorem frame_all (m : (ℓ : Loc nD τ sig) → Buf (Elt F) ℓ) (ρ : Dev nD → PrngReg) :
    θ_run defs (onTc (τ := τ) main) ⟨m, fun _ => 0, ρ⟩ fun r =>
      (∀ c : Dev nD, r.2.mem ((c.tc : Thread nD τ).loc main_arg0) = m ((c.tc : Thread nD τ).loc main_arg0)) ∧ r.2.sem = fun _ => 0 :=
  θ_run_mono (run m ρ) fun r hr => ⟨fun c => (hr c main_arg0).trans (W_arg0 m c), funext fun g => (no_sem.false g.2).elim⟩

end Cert.ReferenceIdeal.Reg

end
-- ==== Proof.Lib.Threefry.lean ====
/- The twenty rounds of the threefry generator with the key words 0 and 42, on the pair of words (0, counter), and their splitting over a
   line of host operations. -/
module

public import Idealize.ShloMosaic.Lib.StableHlo.Run

@[expose] public section

namespace Cert.Threefry

open Idealize.ShloMosaic
open Idealize.ShloMosaic.StableHlo (after)

/-- A line of operations run in two pieces. -/
theorem after_split {τ : Topo} {sig : RefSig} {Val : EltTy → Type} (n : ℕ) : ∀ (l : List (HloOp τ sig Val)) (V : Valuation τ sig Val),
    after l V = after (l.drop n) (after (l.take n) V) := by
  induction n with
  | zero => intro l V; rfl
  | succ n ih =>
    intro l V
    cases l with
    | nil => rfl
    | cons a l => exact ih l _

/-- One round: from the sum `s` of the two words and the second word `y`, the new second word, `y` rotated left by `r` (`r'` is `32 - r`) and xored with the sum. -/
def turn (r r' : BitVec 32) (s y : BitVec 32) : BitVec 32 := IntOp.xori (IntOp.ori (IntOp.shli .host y r) (IntOp.shrui .host y r')) s

/-- The same with the operands of the last operation in the other order. -/
def turn' (r r' : BitVec 32) (s y : BitVec 32) : BitVec 32 := IntOp.xori s (IntOp.ori (IntOp.shli .host y r) (IntOp.shrui .host y r'))

theorem turn'_eq : turn' = turn := by
  funext r r' s y
  exact BitVec.xor_comm _ _

/-- Four rounds by `f`, from the sum of the two words and the second word: the first word and the second. -/
def rounds (f : BitVec 32 → BitVec 32 → BitVec 32 → BitVec 32 → BitVec 32) (r : Fin 4 → BitVec 32) (p : BitVec 32 × BitVec 32) : BitVec 32 × BitVec 32 :=
  let y₁ := f (r 0) (32 - r 0) p.1 p.2
  let s₁ := p.1 + y₁
  let y₂ := f (r 1) (32 - r 1) s₁ y₁
  let s₂ := s₁ + y₂
  let y₃ := f (r 2) (32 - r 2) s₂ y₂
  let s₃ := s₂ + y₃
  (s₃, f (r 3) (32 - r 3) s₃ y₃)

/-- A key added to the two words: their sum, and the second word. -/
def keyed (k k' : BitVec 32) (p : BitVec 32 × BitVec 32) : BitVec 32 × BitVec 32 := (p.1 + k + (p.2 + k'), p.2 + k')

/-- A key and a small constant added one after the other: the sum of the two words, and the second word. -/
def keyed' (k a b : BitVec 32) (p : BitVec 32 × BitVec 32) : BitVec 32 × BitVec 32 := (p.1 + k + (p.2 + a + b), p.2 + a + b)

theorem keyed'_eq (k a b : BitVec 32) (p : BitVec 32 × BitVec 32) : keyed' k a b p = keyed k (a + b) p := by
  unfold keyed' keyed
  rw [BitVec.add_assoc p.2 a b]

/-- The rotations of the odd groups of rounds, and of the even ones. -/
abbrev rotA : Fin 4 → BitVec 32 := ![13, 15, 26, 6]
abbrev rotB : Fin 4 → BitVec 32 := ![17, 29, 16, 24]

/-- The two words after the first sixteen rounds, as their sum and the second, of the counter `i`. -/
def state (i : BitVec 32) : BitVec 32 × BitVec 32 :=
  keyed 42 466689012 (rounds turn rotB (keyed 0 45 (rounds turn rotA (keyed 466689008 2 (rounds turn rotB (keyed 42 466689009 (rounds turn rotA (i + 42, i + 42))))))))

/-- The random word of the counter `i`: the two words after twenty rounds, xored. -/
def word (i : BitVec 32) : BitVec 32 :=
  let p := rounds turn rotA (state i)
  IntOp.xori (p.1 + 466689008) (p.2 + 5)

/-- The random word in the other spelling: the key words `a` and `b` (and `x`, their xor with the fixed constant), the small constants
    added apart, from the two words `h` and `l`. -/
def word' (a b h l : BitVec 32) : BitVec 32 :=
  let x := IntOp.xori (IntOp.xori a b) 466688986#32
  let p := rounds turn' rotA (keyed' b x 4 (rounds turn' rotB (keyed' a b 3 (rounds turn' rotA (keyed' x a 2 (rounds turn' rotB (keyed' b x 1
    (rounds turn' rotA (h + a + (l + b), l + b)))))))))
  IntOp.xori (p.1 + x) (p.2 + a + 5)

theorem word'_eq (l : BitVec 32) : word' 0#32 42#32 0#32 l = word l := by
  unfold word' word state
  simp only [turn'_eq, keyed'_eq]
  have e : IntOp.xori (IntOp.xori 0#32 42#32) 466688986#32 = 466689008#32 := by decide
  simp only [e, BitVec.add_zero, BitVec.zero_add]
  rfl

end Cert.Threefry
-- ==== Proof.Lib.Gumbel.lean ====
/- The noise of one action from its random word, over the extended reals: the fraction, the uniform variate in its two spellings, the
   Gumbel variate and its 16-bit code. -/
module

public import proofs.«01_k».proof.Proof.Lib.Threefry
public import Idealize.ShloMosaic.PureOps.Ideal

@[expose] public section

noncomputable section

namespace Cert.Gumbel

open Idealize.ShloMosaic

/-- The fraction: 23 random bits as the significand of a number in [1, 2), less one. -/
def frac (w : BitVec 32) : EReal := Ideal.ofBits .f32 (IntOp.ori (IntOp.shrui .host w 9#32) 0x3F800000#32) - Ideal.ofBits .f32 0x3F800000#32

/-- The uniform variate, zero replaced by the least normal number. -/
def unifK (w : BitVec 32) : EReal := Scalar.select (Ideal.cmp .oeq (frac w) (Ideal.ofBits .f32 0x00000000#32)) (Ideal.ofBits .f32 0x00800000#32) (frac w)

/-- The uniform variate, cut off below at the least normal number. -/
def unif (w : BitVec 32) : EReal := max (frac w) (Ideal.ofBits .f32 0x00800000#32)

/-- The Gumbel variate of a uniform one. -/
def gum (u : EReal) : EReal := -Ideal.log (-Ideal.log u)

/-- The code of a Gumbel variate: its place on an even grid of 65536 points, rounded. -/
def code (g : EReal) : BitVec 16 :=
  (Ideal.fptosi 32 (min (((65535#32).toInt : ℝ) : EReal) (max (((0#32).toInt : ℝ) : EReal)
    (Ideal.liftRound Ideal.roundHalfEven (Ideal.div (g - Ideal.ofBits .f32 0xC08F0859#32) (Ideal.ofBits .f32 0x39A34CBB#32)))))).setWidth 16

/-- The random word of row `r` and action `a`. -/
abbrev wordAt (r a : ℕ) : BitVec 32 := Threefry.word (BitVec.ofNat 32 (r * 1000 + a))

/-- The Gumbel variate of row `r` and action `a`. -/
def noise (r a : ℕ) : EReal := gum (unif (wordAt r a))

end Cert.Gumbel

end
-- ==== Proof.Lib.Quant.lean ====
/- The Gumbel noise is a bounded real number, and its 16-bit code is within half the margin of it. -/
module

public import proofs.«01_k».proof.Proof.Lib.Gumbel
public import Mathlib.Analysis.SpecialFunctions.Log.Basic

@[expose] public section

noncomputable section

namespace Cert.Gumbel

open Idealize.ShloMosaic

/-! ## The constants -/

/-- The spacing of the grid. -/
abbrev stepR : ℝ := 10702011 / 34359738368
/-- The first point of the grid. -/
abbrev loR : ℝ := -(9373785 / 2097152)
/-- The margin by which the best action must lead. -/
abbrev marginR : ℝ := 5511391 / 17179869184
/-- The tolerance within which two actions count as nearly tied. -/
abbrev tolR : ℝ := 11166915 / 17179869184

theorem step_bits : Ideal.ofBits .f32 0x39A34CBB#32 = (stepR : EReal) := by
  simp [Ideal.ofBits, Ideal.ieee, -EReal.coe_mul]; norm_num [stepR]
theorem lo_bits : Ideal.ofBits .f32 0xC08F0859#32 = (loR : EReal) := by
  simp [Ideal.ofBits, Ideal.ieee, -EReal.coe_mul, -EReal.coe_neg]; norm_num [loR]
theorem margin_bits : Ideal.ofBits .f32 0x39A831BE#32 = (marginR : EReal) := by
  simp [Ideal.ofBits, Ideal.ieee, -EReal.coe_mul]; norm_num [marginR]
theorem tol_bits : Ideal.ofBits .f32 0x3A2A64C3#32 = (tolR : EReal) := by
  simp [Ideal.ofBits, Ideal.ieee, -EReal.coe_mul]; norm_num [tolR]
theorem tiny_bits : Ideal.ofBits .f32 0x00800000#32 = (((2 : ℝ) ^ (-126 : ℤ) : ℝ) : EReal) := by
  simp [Ideal.ofBits, Ideal.ieee, -EReal.coe_mul, -EReal.coe_pow]; norm_num
theorem one_bits : Ideal.ofBits .f32 0x3F800000#32 = ((1 : ℝ) : EReal) := by
  simp [Ideal.ofBits, Ideal.ieee, -EReal.coe_mul, -EReal.coe_one]; norm_num
theorem zero_bits : Ideal.ofBits .f32 0x00000000#32 = ((0 : ℝ) : EReal) := by
  simp [Ideal.ofBits, Ideal.ieee]
theorem neg_inf_bits : Ideal.ofBits .f32 0xFF800000#32 = ⊥ := by
  simp [Ideal.ofBits, Ideal.ieee]

theorem coe_max (a b : ℝ) : ((max a b : ℝ) : EReal) = max (a : EReal) (b : EReal) := EReal.coe_strictMono.monotone.map_max
theorem coe_min (a b : ℝ) : ((min a b : ℝ) : EReal) = min (a : EReal) (b : EReal) := EReal.coe_strictMono.monotone.map_min

/-! ## The uniform variate -/

/-- The fraction is a multiple of `2 ^ -23` below one. -/
theorem frac_eq (w : BitVec 32) : ∃ k : ℕ, k < 2 ^ 23 ∧ frac w = (((k : ℝ) / 2 ^ 23 : ℝ) : EReal) := by
  obtain ⟨k, hk, hs⟩ : ∃ k : ℕ, k < 2 ^ 23 ∧ (IntOp.shrui .host w 9#32).toNat = k := by
    refine ⟨_, ?_, rfl⟩
    have : IntOp.shrui .host w 9#32 = w >>> (9#32 : BitVec 32) := if_pos (by decide)
    rw [this, BitVec.ushiftRight_eq', BitVec.toNat_ushiftRight, Nat.shiftRight_eq_div_pow]
    have := w.isLt
    have h9 : (9#32 : BitVec 32).toNat = 9 := rfl
    rw [h9]
    omega
  refine ⟨k, hk, ?_⟩
  have hb : (IntOp.ori (IntOp.shrui .host w 9#32) 0x3F800000#32).toNat = 127 * 2 ^ 23 + k := by
    show (IntOp.shrui .host w 9#32 ||| 0x3F800000#32).toNat = _
    rw [BitVec.toNat_or, hs, Nat.or_comm]
    have := Nat.shiftLeft_add_eq_or_of_lt hk 127
    rw [Nat.shiftLeft_eq] at this
    exact this.symm
  have hv : Ideal.ofBits .f32 (IntOp.ori (IntOp.shrui .host w 9#32) 0x3F800000#32) = ((1 + (k : ℝ) / 2 ^ 23 : ℝ) : EReal) := by
    generalize IntOp.ori (IntOp.shrui .host w 9#32) 0x3F800000#32 = b at hb
    have h1 : (b.extractLsb' 31 1) = 0#1 := by
      apply BitVec.eq_of_toNat_eq
      rw [BitVec.extractLsb'_toNat, Nat.shiftRight_eq_div_pow, hb]
      show _ = 0
      omega
    have h2 : (b.extractLsb' 23 8).toNat = 127 := by
      rw [BitVec.extractLsb'_toNat, Nat.shiftRight_eq_div_pow, hb]
      omega
    have h3 : (b.extractLsb' 0 23).toNat = k := by
      rw [BitVec.extractLsb'_toNat, Nat.shiftRight_eq_div_pow, hb]
      omega
    show Ideal.ieee 8 23 b = _
    unfold Ideal.ieee
    simp only [h1, h2, h3]
    norm_num [-EReal.coe_mul, -EReal.coe_add]
    congr 1
    ring
  rw [frac, hv, one_bits, ← EReal.coe_sub, EReal.coe_eq_coe_iff]
  ring

/-- The two spellings of the uniform variate agree. -/
theorem unifK_eq (w : BitVec 32) : unifK w = unif w := by
  obtain ⟨k, hk, h⟩ := frac_eq w
  rw [unifK, unif, h, zero_bits, tiny_bits]
  rcases Nat.eq_zero_or_pos k with h0 | h0
  · subst h0
    rw [max_eq_right (by rw [EReal.coe_le_coe_iff]; norm_num)]
    simp [Ideal.cmp, Scalar.select]
  · have hne : (((k : ℝ) / 2 ^ 23 : ℝ) : EReal) ≠ ((0 : ℝ) : EReal) := by
      rw [Ne, EReal.coe_eq_coe_iff]
      positivity
    have hle : (2 : ℝ) ^ (-126 : ℤ) ≤ (k : ℝ) / 2 ^ 23 := by
      have : (1 : ℝ) ≤ k := by exact_mod_cast h0
      have h2 : (1 : ℝ) / 2 ^ 23 ≤ k / 2 ^ 23 := by gcongr
      refine le_trans ?_ h2
      norm_num
    rw [max_eq_left (EReal.coe_le_coe_iff.2 hle)]
    simp only [Ideal.cmp, Scalar.select, hne, if_false, BitVec.ofBool]
    simp

/-- The uniform variate is a real number between `2 ^ -126` and `1 - 2 ^ -23`. -/
theorem unif_eq (w : BitVec 32) : ∃ u : ℝ, unif w = (u : EReal) ∧ (2 : ℝ) ^ (-126 : ℤ) ≤ u ∧ u ≤ 1 - 1 / 2 ^ 23 := by
  obtain ⟨k, hk, h⟩ := frac_eq w
  refine ⟨max ((k : ℝ) / 2 ^ 23) ((2 : ℝ) ^ (-126 : ℤ)), ?_, le_max_right _ _, max_le ?_ ?_⟩
  · rw [unif, h, tiny_bits, coe_max]
  · have : (k : ℝ) + 1 ≤ 2 ^ 23 := by exact_mod_cast hk
    rw [div_le_iff₀ (by norm_num)]
    norm_num at this ⊢
    linarith
  · norm_num

/-! ## The Gumbel variate -/

/-- An upper bound of the logarithm of two. -/
theorem log_two_le : Real.log 2 ≤ 0.69315 := by
  have e := Real.sum_le_exp_of_nonneg (x := (0.69315 : ℝ)) (by norm_num) 9
  have e2 : (2 : ℝ) ≤ ∑ i ∈ Finset.range 9, (0.69315 : ℝ) ^ i / i.factorial := by
    norm_num [Finset.sum_range_succ, Nat.factorial]
  rw [Real.log_le_iff_le_exp (by norm_num)]
  exact e2.trans e

/-- A lower bound of the exponential of one. -/
theorem le_exp_one : (2.71828 : ℝ) ≤ Real.exp 1 := by
  have e := Real.sum_le_exp_of_nonneg (x := (1 : ℝ)) (by norm_num) 10
  refine le_trans ?_ e
  norm_num [Finset.sum_range_succ, Nat.factorial]

/-- The Gumbel variate is a real number that the grid covers, up to half the margin. -/
theorem gum_eq (w : BitVec 32) : ∃ g : ℝ, gum (unif w) = (g : EReal) ∧ loR - marginR / 2 ≤ g ∧ g ≤ loR + 65535 * stepR + marginR / 2 := by
  obtain ⟨u, hu, h1, h2⟩ := unif_eq w
  have hpos : 0 < u := lt_of_lt_of_le (by positivity) h1
  have hl : Ideal.log (u : EReal) = (Real.log u : EReal) := by
    show (if _ then _ else _) = _
    rw [if_neg (not_le.2 hpos)]
  have hlow : 1 / 2 ^ 23 ≤ -Real.log u := by
    have := Real.log_le_sub_one_of_pos hpos
    linarith
  have hup : -Real.log u ≤ 126 * Real.log 2 := by
    have := Real.log_le_log (by positivity) h1
    rw [Real.log_zpow] at this
    push_cast at this
    linarith
  have hLpos : 0 < -Real.log u := lt_of_lt_of_le (by norm_num) hlow
  have hl2 : Ideal.log ((-Real.log u : ℝ) : EReal) = (Real.log (-Real.log u) : EReal) := by
    show (if _ then _ else _) = _
    rw [if_neg (not_le.2 hLpos)]
  refine ⟨-Real.log (-Real.log u), ?_, ?_, ?_⟩
  · rw [gum, hu, hl, ← EReal.coe_neg, hl2, ← EReal.coe_neg]
  · have hb : -Real.log u ≤ 87.337 := by
      have := log_two_le
      linarith
    have he : (87.337 : ℝ) ≤ Real.exp (4 + 0.4699) := by
      rw [Real.exp_add]
      have e2 := Real.sum_le_exp_of_nonneg (x := (0.4699 : ℝ)) (by norm_num) 7
      have e3 : (1.6 : ℝ) - 0.0003 ≤ ∑ i ∈ Finset.range 7, (0.4699 : ℝ) ^ i / i.factorial := by
        norm_num [Finset.sum_range_succ, Nat.factorial]
      have e1' : (2.71828 : ℝ) ^ 4 ≤ Real.exp 4 := by
        have h : Real.exp 4 = Real.exp 1 ^ 4 := by rw [← Real.exp_nat_mul]; norm_num
        rw [h]
        have := le_exp_one
        gcongr
      calc (87.337 : ℝ) ≤ 2.71828 ^ 4 * (1.6 - 0.0003) := by norm_num
        _ ≤ Real.exp 4 * Real.exp 0.4699 := by
          exact mul_le_mul e1' (e3.trans e2) (by norm_num) (Real.exp_pos _).le
    have := Real.log_le_log hLpos (hb.trans he)
    rw [Real.log_exp] at this
    norm_num [loR, marginR] at this ⊢
    linarith
  · have := Real.log_le_log (by norm_num) hlow
    rw [Real.log_div (by norm_num) (by positivity), Real.log_one, Real.log_pow] at this
    have h2 := log_two_le
    norm_num [loR, marginR, stepR] at this ⊢
    linarith

/-! ## The code -/

theorem roundHalfEven_near (r : ℝ) : |(Ideal.roundHalfEven r : ℝ) - r| ≤ 1 / 2 := by
  have h1 := Int.floor_le r
  have h2 := Int.lt_floor_add_one r
  unfold Ideal.roundHalfEven
  simp only
  split_ifs with ha hb hc
  · rw [abs_le]; constructor <;> linarith
  · rw [abs_le]; push_cast; constructor <;> linarith
  · rw [abs_le]; constructor <;> linarith
  · rw [abs_le]; push_cast; constructor <;> linarith

/-- The code of a real number is its rounded place on the grid, kept in range. -/
theorem code_toNat (g : ℝ) : ((code (g : EReal)).toNat : ℤ) = min 65535 (max 0 (Ideal.roundHalfEven ((g - loR) * stepR⁻¹))) := by
  have hz : Ideal.liftRound Ideal.roundHalfEven (Ideal.div ((g : EReal) - Ideal.ofBits .f32 0xC08F0859#32) (Ideal.ofBits .f32 0x39A34CBB#32))
      = ((Ideal.roundHalfEven ((g - loR) * stepR⁻¹) : ℝ) : EReal) := by
    rw [lo_bits, step_bits, ← EReal.coe_sub, Ideal.div, if_neg (by rw [← EReal.coe_zero, EReal.coe_eq_coe_iff]; norm_num), ← EReal.coe_inv, ← EReal.coe_mul]
    rfl
  unfold code
  rw [hz]
  generalize Ideal.roundHalfEven ((g - loR) * stepR⁻¹) = n
  have hm : min ((((65535#32 : BitVec 32).toInt : ℝ)) : EReal) (max (((0#32 : BitVec 32).toInt : ℝ) : EReal) ((n : ℝ) : EReal))
      = (((min 65535 (max 0 n) : ℤ) : ℝ) : EReal) := by
    rw [← coe_max, ← coe_min]
    have h1 : (65535#32 : BitVec 32).toInt = 65535 := by decide
    have h0 : (0#32 : BitVec 32).toInt = 0 := by decide
    rw [h1, h0]
    push_cast
    rfl
  rw [hm]
  generalize hk : min 65535 (max 0 n) = k
  have hk0 : 0 ≤ k := by omega
  have hk1 : k ≤ 65535 := by omega
  have hf : Ideal.fptosi 32 ((k : ℝ) : EReal) = BitVec.ofInt 32 k := by
    show BitVec.ofInt 32 (max _ (min _ (if 0 ≤ (k : ℝ) then ⌊(k : ℝ)⌋ else ⌈(k : ℝ)⌉))) = _
    rw [Int.floor_intCast, Int.ceil_intCast, ite_self]
    congr 1
    norm_num
    omega
  rw [hf, BitVec.toNat_setWidth, BitVec.toNat_ofInt]
  omega

/-- The value a code stands for. -/
def decode (c : BitVec 16) : ℝ := (c.toNat : ℝ) * stepR + loR

/-- The code of the noise stands for a value within half the margin of it. -/
theorem decode_near (w : BitVec 32) (g : ℝ) (hg : gum (unif w) = (g : EReal)) : |decode (code (gum (unif w))) - g| ≤ marginR / 2 := by
  obtain ⟨g', h', h1, h2⟩ := gum_eq w
  have : g' = g := EReal.coe_eq_coe_iff.1 (h'.symm.trans hg)
  subst this
  rw [hg, decode]
  have hc : ((code (g' : EReal)).toNat : ℝ) = ((min 65535 (max 0 (Ideal.roundHalfEven ((g' - loR) * stepR⁻¹))) : ℤ) : ℝ) := by
    exact_mod_cast code_toNat g'
  rw [hc]
  have hr := abs_le.1 (roundHalfEven_near ((g' - loR) * stepR⁻¹))
  generalize hz : (g' - loR) * stepR⁻¹ = z at hr ⊢
  have hg' : g' = z * stepR + loR := by rw [← hz]; norm_num [stepR]; ring
  generalize Ideal.roundHalfEven z = n at hr ⊢
  rw [abs_le]
  rcases lt_or_ge n 0 with hn | hn
  · have : min 65535 (max 0 n) = 0 := by omega
    rw [this]
    have hn' : (n : ℝ) ≤ -1 := by exact_mod_cast (by omega : n ≤ -1)
    rw [hg'] at h1 h2 ⊢
    norm_num [stepR, loR, marginR] at *
    constructor <;> linarith
  · rcases le_or_gt n 65535 with hn2 | hn2
    · have : min 65535 (max 0 n) = n := by omega
      rw [this, hg']
      norm_num [stepR, loR, marginR] at *
      constructor <;> linarith
    · have : min 65535 (max 0 n) = 65535 := by omega
      rw [this]
      have hn' : (65536 : ℝ) ≤ n := by exact_mod_cast (by omega : (65536 : ℤ) ≤ n)
      rw [hg'] at h1 h2 ⊢
      norm_num [stepR, loR, marginR] at *
      constructor <;> linarith

end Cert.Gumbel

end
-- ==== Proof.Lib.Row.lean ====
/- One row of the problem over the extended reals: its first greatest entry, the effect of a bounded error in the noise on the choice, and
   the two spellings of the logarithm of a softmax. -/
module

public import Idealize.ShloMosaic.PureOps.Ideal
public import Mathlib.Data.EReal.Operations
public import Mathlib.Analysis.SpecialFunctions.Log.Basic

@[expose] public section

noncomputable section

namespace Cert.Row

open Idealize.ShloMosaic

/-! ## The first greatest entry -/

section
variable {n : ℕ}

/-- `c` is the first place at which `t` is greatest. -/
def IsFirst (t : Fin n → EReal) (c : Fin n) : Prop := (∀ j, t j ≤ t c) ∧ ∀ j, j < c → t j < t c

/-- The greatest entry. -/
def peak (t : Fin n → EReal) : EReal := Finset.univ.sup t

/-- The greatest entry among the places other than `c`. -/
def rest (t : Fin n → EReal) (c : Fin n) : EReal := peak fun j => if j = c then ⊥ else t j

theorem le_peak (t : Fin n → EReal) (j : Fin n) : t j ≤ peak t := Finset.le_sup (f := t) (Finset.mem_univ j)

theorem exists_peak [NeZero n] (t : Fin n → EReal) : ∃ j, peak t = t j := by
  obtain ⟨j, -, h⟩ := Finset.exists_mem_eq_sup Finset.univ ⟨(0 : Fin n), Finset.mem_univ _⟩ t
  exact ⟨j, h⟩

theorem IsFirst.peak_eq {t : Fin n → EReal} {c : Fin n} (h : IsFirst t c) : peak t = t c :=
  le_antisymm (Finset.sup_le fun j _ => h.1 j) (le_peak t c)

theorem IsFirst.eq {t : Fin n → EReal} {c d : Fin n} (h : IsFirst t c) (h' : IsFirst t d) : c = d := by
  rcases lt_trichotomy c d with hl | he | hl
  · exact absurd (h.1 d) (not_le.2 (h'.2 c hl))
  · exact he
  · exact absurd (h'.1 c) (not_le.2 (h.2 d hl))

/-- A row that is not empty has a first greatest entry. -/
theorem exists_isFirst [NeZero n] (t : Fin n → EReal) : ∃ c, IsFirst t c := by
  classical
  obtain ⟨j, hj⟩ := exists_peak t
  have hne : (Finset.univ.filter fun i => t i = peak t).Nonempty := ⟨j, by simp [hj]⟩
  refine ⟨(Finset.univ.filter fun i => t i = peak t).min' hne, ?_, ?_⟩
  · intro i
    have := Finset.min'_mem _ hne
    rw [(Finset.mem_filter.1 this).2]
    exact le_peak t i
  · intro i hi
    have := Finset.min'_mem _ hne
    rw [(Finset.mem_filter.1 this).2]
    refine lt_of_le_of_ne (le_peak t i) fun he => ?_
    exact absurd (Finset.min'_le (Finset.univ.filter fun i => t i = peak t) i (by simp [he])) (not_le.2 hi)

theorem le_rest {t : Fin n → EReal} {c j : Fin n} (h : j ≠ c) : t j ≤ rest t c := by
  have := le_peak (fun j => if j = c then ⊥ else t j) j
  rwa [if_neg h] at this

/-- The greatest of a row that is minus infinity everywhere but at `c` is its entry there. -/
theorem peak_pick (x : Fin n → EReal) (c : Fin n) : (peak fun j => if j = c then x j else ⊥) = x c := by
  refine le_antisymm (Finset.sup_le fun j _ => ?_) ?_
  · by_cases h : j = c
    · simp [h]
    · simp [h]
  · have := le_peak (fun j => if j = c then x j else ⊥) c
    simpa using this

end

/-! ## The choice under a bounded error -/

section
variable {n : ℕ} {x : Fin n → EReal} {g q : Fin n → ℝ} {δ M : ℝ}

/-- If the greatest entry leads the others by more than the margin, twice the error or more, it is the greatest without the error too. -/
theorem agree (hd : ∀ j, |q j - g j| ≤ δ) (hM : 2 * δ ≤ M) {c : Fin n}
    (h : rest (fun j => x j + (q j : EReal)) c < x c + (q c : EReal) - (M : EReal)) : IsFirst (fun j => x j + (g j : EReal)) c := by
  have key : ∀ j, j ≠ c → x j + (g j : EReal) < x c + (g c : EReal) := by
    intro j hj
    have h1 : x j + (q j : EReal) < x c + (q c : EReal) - (M : EReal) := lt_of_le_of_lt (le_rest (t := fun j => x j + (q j : EReal)) hj) h
    have hc := abs_le.1 (hd c)
    have hj := abs_le.1 (hd j)
    generalize x c = a at *
    generalize x j = b at *
    induction a with
    | bot => simp at h1
    | top =>
      induction b with
      | top => simp at h1
      | bot => simp
      | coe b => rw [EReal.top_add_coe, ← EReal.coe_add]; exact EReal.coe_lt_top _
    | coe a =>
      induction b with
      | top => rw [EReal.top_add_coe] at h1; exact absurd h1 (not_lt.2 le_top)
      | bot => rw [EReal.bot_add, ← EReal.coe_add]; exact EReal.bot_lt_coe _
      | coe b =>
        rw [← EReal.coe_add, ← EReal.coe_add, ← EReal.coe_sub, EReal.coe_lt_coe_iff] at h1
        rw [← EReal.coe_add, ← EReal.coe_add, EReal.coe_lt_coe_iff]
        linarith
  refine ⟨fun j => ?_, fun j hj => key j hj.ne⟩
  by_cases hj : j = c
  · rw [hj]
  · exact (key j hj).le

/-- An entry within the margin of the greatest is within the tolerance of the greatest without the error. -/
theorem near [NeZero n] (hd : ∀ j, |q j - g j| ≤ δ) {T : ℝ} (hT : M + 2 * δ ≤ T) {c : Fin n} (hc : ∀ j, x j + (q j : EReal) ≤ x c + (q c : EReal)) (j : Fin n)
    (h : x c + (q c : EReal) - (M : EReal) ≤ x j + (q j : EReal)) :
    (peak fun j => x j + (g j : EReal)) - (T : EReal) ≤ x j + (g j : EReal) := by
  obtain ⟨p, hp⟩ := exists_peak fun j => x j + (g j : EReal)
  rw [hp]
  have h1 := hc p
  have hpd := abs_le.1 (hd p)
  have hjd := abs_le.1 (hd j)
  have h2 : x c + (g c : EReal) ≤ x p + (g p : EReal) := hp ▸ le_peak (fun j => x j + (g j : EReal)) c
  have h3 : x j + (g j : EReal) ≤ x p + (g p : EReal) := hp ▸ le_peak (fun j => x j + (g j : EReal)) j
  generalize x p = a at *
  generalize x j = b at *
  generalize x c = d at *
  induction a with
  | bot => simp
  | top =>
    rw [EReal.top_add_coe, top_le_iff] at h1
    rw [h1, EReal.top_sub_coe, top_le_iff] at h
    induction b with
    | top => rw [EReal.top_add_coe]; exact le_top
    | bot => simp at h
    | coe b => rw [← EReal.coe_add] at h; exact absurd h (EReal.coe_ne_top _)
  | coe a =>
    induction d with
    | top => rw [EReal.top_add_coe, top_le_iff, ← EReal.coe_add] at h2; exact absurd h2 (EReal.coe_ne_top _)
    | bot => rw [EReal.bot_add, le_bot_iff, ← EReal.coe_add] at h1; exact absurd h1 (EReal.coe_ne_bot _)
    | coe d =>
      induction b with
      | top => rw [EReal.top_add_coe]; exact le_top
      | bot => rw [EReal.bot_add, le_bot_iff, ← EReal.coe_add, ← EReal.coe_sub] at h; exact absurd h (EReal.coe_ne_bot _)
      | coe b =>
        simp only [← EReal.coe_add, ← EReal.coe_sub, EReal.coe_le_coe_iff] at *
        linarith

/-- If the greatest entry does not lead by the margin, two entries are within the tolerance of the greatest without the error. -/
theorem close [NeZero n] (hn : 2 ≤ n) (hd : ∀ j, |q j - g j| ≤ δ) (h0 : 0 ≤ M) {T : ℝ} (hT : M + 2 * δ ≤ T) {c : Fin n}
    (hc : ∀ j, x j + (q j : EReal) ≤ x c + (q c : EReal))
    (h : x c + (q c : EReal) - (M : EReal) ≤ rest (fun j => x j + (q j : EReal)) c) :
    ∃ i j : Fin n, i ≠ j ∧ (peak fun j => x j + (g j : EReal)) - (T : EReal) ≤ x i + (g i : EReal)
      ∧ (peak fun j => x j + (g j : EReal)) - (T : EReal) ≤ x j + (g j : EReal) := by
  have hself : x c + (q c : EReal) - (M : EReal) ≤ x c + (q c : EReal) := by
    generalize x c + (q c : EReal) = a
    induction a with
    | bot => simp
    | top => exact le_top
    | coe a => rw [← EReal.coe_sub, EReal.coe_le_coe_iff]; linarith
  obtain ⟨p, hp⟩ := exists_peak fun j => if j = c then (⊥ : EReal) else x j + (q j : EReal)
  rw [rest, hp] at h
  by_cases hpc : p = c
  · rw [if_pos hpc] at h
    obtain ⟨j, hj⟩ : ∃ j : Fin n, c ≠ j := by
      by_cases h0 : c.val = 0
      · exact ⟨⟨1, by omega⟩, fun e => by simp [e] at h0⟩
      · exact ⟨⟨0, by omega⟩, fun e => h0 (by simp [e])⟩
    exact ⟨c, j, hj, near hd hT hc c hself, near hd hT hc j (h.trans bot_le)⟩
  · rw [if_neg hpc] at h
    exact ⟨c, p, fun e => hpc e.symm, near hd hT hc c hself, near hd hT hc p h⟩

end

/-! ## The logarithm of a softmax -/

section
variable {n : ℕ}

theorem exp_nonneg (a : EReal) : 0 ≤ Ideal.exp a := by
  induction a with
  | bot => exact le_rfl
  | top => exact le_top
  | coe a => exact EReal.coe_nonneg.2 (Real.exp_pos a).le

/-- Subtracting the logarithm of the sum of exponentials, with and without the greatest entry taken off first. -/
theorem log_prob [NeZero n] (x : Fin n → EReal) (c : Fin n) :
    (x c - peak x) - Ideal.log (∑ j, Ideal.exp (x j - peak x)) = x c - Ideal.log (∑ j, Ideal.exp (x j)) := by
  obtain ⟨p, hp⟩ := exists_peak x
  have hle : ∀ j, x j ≤ x p := fun j => hp ▸ le_peak x j
  rw [hp]
  generalize hm : x p = m at hle
  induction m with
  | bot =>
    have : x c = ⊥ := le_bot_iff.1 (hle c)
    rw [this]; simp
  | top =>
    have hs : ∑ j, Ideal.exp (x j) = ⊤ := by
      refine top_le_iff.1 (le_trans ?_ (Finset.single_le_sum (f := fun j => Ideal.exp (x j)) (fun j _ => exp_nonneg _) (Finset.mem_univ p)))
      simp only [hm]; exact le_rfl
    rw [hs]
    show x c - ⊤ - _ = x c - ⊤
    rw [EReal.sub_top, EReal.bot_sub]
  | coe m =>
    have hr : ∀ j, ∃ e : ℝ, 0 ≤ e ∧ Ideal.exp (x j) = (e : EReal) ∧ Ideal.exp (x j - (m : EReal)) = ((e * Real.exp (-m) : ℝ) : EReal) ∧ (∀ a : ℝ, x j = (a : EReal) → 0 < e) := by
      intro j
      have hj := hle j
      generalize x j = a at hj
      induction a with
      | bot => exact ⟨0, le_rfl, rfl, by rw [EReal.bot_sub, zero_mul]; rfl, fun a h => absurd h.symm (EReal.coe_ne_bot _)⟩
      | top => exact absurd (top_le_iff.1 hj) (EReal.coe_ne_top _)
      | coe a => exact ⟨Real.exp a, (Real.exp_pos a).le, rfl, by rw [← EReal.coe_sub, ← Real.exp_add]; rfl, fun _ _ => Real.exp_pos a⟩
    choose e he0 he1 he2 he3 using hr
    have hsum : ∀ f : Fin n → ℝ, ∑ j, ((f j : ℝ) : EReal) = ((∑ j, f j : ℝ) : EReal) := by
      intro f
      induction (Finset.univ : Finset (Fin n)) using Finset.cons_induction with
      | empty => rfl
      | cons a s ha ih => rw [Finset.sum_cons, Finset.sum_cons, EReal.coe_add, ih]
    simp only [he1, he2, hsum]
    have hpos : 0 < ∑ j, e j := Finset.sum_pos' (fun j _ => he0 j) ⟨p, Finset.mem_univ p, he3 p m hm⟩
    rw [← Finset.sum_mul]
    have hl1 : Ideal.log (((∑ j, e j : ℝ)) : EReal) = (Real.log (∑ j, e j) : EReal) := by
      show (if _ then _ else _) = _
      rw [if_neg (not_le.2 hpos)]
    have hl2 : Ideal.log ((((∑ j, e j) * Real.exp (-m) : ℝ)) : EReal) = ((Real.log (∑ j, e j) - m : ℝ) : EReal) := by
      show (if _ then _ else _) = _
      rw [if_neg (not_le.2 (mul_pos hpos (Real.exp_pos _))), Real.log_mul hpos.ne' (Real.exp_pos _).ne', Real.log_exp, sub_eq_add_neg]
    rw [hl1, hl2]
    have hc := hle c
    generalize x c = a at hc
    induction a with
    | bot => simp
    | top => exact absurd (top_le_iff.1 hc) (EReal.coe_ne_top _)
    | coe a => rw [← EReal.coe_sub, ← EReal.coe_sub, ← EReal.coe_sub, EReal.coe_eq_coe_iff]; ring

end

end Cert.Row

end
-- ==== Proof.Lib.RowOps.lean ====
/- The reductions of a matrix along its rows, read at one row over the extended reals. -/
module

public import proofs.«01_k».proof.Proof.Lib.Quant
public import proofs.«01_k».proof.Proof.Lib.Row
public import Idealize.ShloMosaic.PureOps.Ideal.Laws
public import Idealize.ShloMosaic.PureOps.Reduce
public import Idealize.ShloMosaic.Lib.ValueIdx
public import Idealize.ShloMosaic.Lib.StableHlo.Predicate

@[expose] public section

noncomputable section

namespace Cert.Row

open Idealize.ShloMosaic Idealize.ShloMosaic.ValueIdx

variable {R C : ℕ}

/-- A matrix of `R` rows and `C` columns. -/
abbrev Mat (R C : ℕ) : Shape := ⟨2, ![R, C]⟩
/-- A vector of length `R`. -/
abbrev Col (R : ℕ) : Shape := ⟨1, ![R]⟩

/-- The index a row and a column insert to. -/
theorem lift_row (h : (Mat R C).Reduces [1] (Col R)) (r : Fin R) (k : Fin C) : h.lift (ix1 r) k = ix2 r k := by
  funext c
  apply Fin.ext
  refine (Shape.Reduces.lift_val h (ix1 r) k c).trans ?_
  fin_cases c
  · rfl
  · rfl

theorem comp_lift {α : Type} (h : (Mat R C).Reduces [1] (Col R)) (x : (Mat R C).Idx → α) (r : Fin R) : x ∘ h.lift (ix1 r) = fun k : Fin C => x (ix2 r k) :=
  funext fun k => congrArg x (lift_row h r k)

theorem fold_max_eq (f : Fin C → EReal) : (Finset.univ : Finset (Fin C)).fold max ⊥ f = peak f := rfl

/-- A row's greatest entry, as a kernel takes it. -/
theorem max_row (x : FVec Ideal (Mat R C) .f32) (h : (Mat R C).Reduces [1] (Col R)) (hφ : FKind.Formats .f32) (hacc : (0xFF800000#32 : BitVec 32) = FKind.maximumf.neutral .f32 hφ)
    (r : Fin R) : multiReduction .maximumf [1] (Col R) x 0xFF800000#32 h hφ hacc (ix1 r) = peak fun k => x (ix2 r k) := by
  rw [Ideal.multiReduction_maximumf_single, comp_lift]
  show Finset.fold max (Ideal.ofBits .f32 0xFF800000#32) _ _ = _
  rw [Gumbel.neg_inf_bits]
  exact fold_max_eq _

/-- A row's sum, as a kernel takes it. -/
theorem sum_row (x : FVec Ideal (Mat R C) .f32) (h : (Mat R C).Reduces [1] (Col R)) (hφ : FKind.Formats .f32) (hacc : (0x00000000#32 : BitVec 32) = FKind.add.neutral .f32 hφ)
    (r : Fin R) : multiReduction .add [1] (Col R) x 0x00000000#32 h hφ hacc (ix1 r) = ∑ k, x (ix2 r k) := by
  rw [Ideal.multiReduction_add_single]
  exact Finset.sum_congr rfl fun k _ => congrArg x (lift_row h r k)

/-- A row's greatest entry, as the host takes it. -/
theorem host_max_row {u : Shape} (x : FVec Ideal (Mat R C) .f32) (init : FVec Ideal u .f32) (h' : (Mat R C).ReducesTo [1] (Col R)) (h : (Mat R C).Reduces [1] (Col R))
    (hu : 0 < u.numel) (hi : ∀ i, init i = (⊥ : EReal)) (r : Fin R) :
    Host.reduce (FloatOps.maximumf (F := Ideal) (φ := .f32)) x init h' hu (ix1 r) = peak fun k => x (ix2 r k) := by
  have : Host.reduce (max : EReal → EReal → EReal) x init h' hu (ix1 r) = _ := Host.reduce_eq_fold_single max x init h' h hu (ix1 r)
  refine Eq.trans this ?_
  rw [comp_lift, hi]
  exact fold_max_eq _

/-- A row's sum, as the host takes it. -/
theorem host_sum_row (x : (Mat R C).Idx → EReal) (h' : (Mat R C).ReducesTo [1] (Col R)) (h : (Mat R C).Reduces [1] (Col R)) (r : Fin R) :
    Ideal.hostReduceAdd h' x (Ideal.ofBits .f32 0x00000000#32) (ix1 r) = ∑ k, x (ix2 r k) := by
  rw [Ideal.hostReduceAdd_single h' h, Gumbel.zero_bits, EReal.coe_zero, zero_add]
  exact Finset.sum_congr rfl fun k _ => congrArg x (lift_row h r k)

/-! ## The first greatest entry -/

theorem toInt_min (a b : BitVec 32) : (IKind.minsi.op a b).toInt = min a.toInt b.toInt := by
  show (IntOp.minsi a b).toInt = _
  unfold IntOp.minsi
  simp only [BitVec.slt, BitVec.sle, decide_eq_true_eq]
  split_ifs with h <;> omega

/-- The number of a column. -/
theorem toInt_col (hC : C ≤ 2 ^ 30) (j : Fin C) : (BitVec.ofNat 32 j.val).toInt = j.val := by
  have := j.isLt
  rw [BitVec.toInt_eq_toNat_cond, BitVec.toNat_ofNat]
  omega

/-- The least of the numbers of the columns that hold a row's greatest entry is the first of them. -/
theorem min_row (hC : C ≤ 2 ^ 30) (y : IVec (Mat R C) 32) (h : (Mat R C).Reduces [1] (Col R)) (hacc : (2147483647#32 : BitVec 32) = IKind.minsi.neutral) (r : Fin R)
    (t : Fin C → EReal) (c : Fin C) (hc : IsFirst t c) (L : BitVec 32) (hL : (C : ℤ) ≤ L.toInt)
    (hy : ∀ k, y (ix2 r k) = if t k = peak t then BitVec.ofNat 32 k.val else L) :
    multiReductionI .minsi [1] (Col R) y 2147483647#32 h hacc (ix1 r) = BitVec.ofNat 32 c.val := by
  rw [multiReductionI_eq_fold, h.fold_filter_drop_single, comp_lift]
  apply BitVec.eq_of_toInt_eq
  have hfold := Finset.fold_hom (s := (Finset.univ : Finset (Fin C))) (op := IKind.minsi.op) (op' := min) (m := BitVec.toInt) (b := 2147483647#32) (f := fun k : Fin C => y (ix2 r k)) toInt_min
  refine hfold.symm.trans ?_
  have hcol := toInt_col hC
  apply le_antisymm
  · rw [Finset.fold_min_le]
    refine .inr ⟨c, Finset.mem_univ _, ?_⟩
    rw [hy, if_pos hc.peak_eq.symm]
  · rw [Finset.le_fold_min]
    constructor
    · rw [hcol]
      have := c.isLt
      have e : (2147483647#32 : BitVec 32).toInt = 2147483647 := by decide
      omega
    · intro k _
      rw [hy]
      split_ifs with hk
      · rw [hcol, hcol]
        by_contra hlt
        have : k < c := by
          rw [Fin.lt_def]; omega
        have h2 := hc.2 k this
        rw [hk, hc.peak_eq] at h2
        exact lt_irrefl _ h2
      · rw [hcol]
        have := c.isLt
        omega

/-- The better of two entries: the greater, and of equal ones the first. -/
def better (a b : EReal × BitVec 32) : EReal × BitVec 32 :=
  (if b.1 < a.1 then a.1 else b.1, if b.1 < a.1 ∨ (a.1 = b.1 ∧ a.2.toInt < b.2.toInt) then a.2 else b.2)

theorem better_spec (a b : EReal × BitVec 32) : (better a b = a ∨ better a b = b)
    ∧ a.1 ≤ (better a b).1 ∧ b.1 ≤ (better a b).1
    ∧ (a.1 = (better a b).1 → (better a b).2.toInt ≤ a.2.toInt) ∧ (b.1 = (better a b).1 → (better a b).2.toInt ≤ b.2.toInt) := by
  obtain ⟨a1, a2⟩ := a
  obtain ⟨b1, b2⟩ := b
  unfold better
  simp only
  rcases lt_trichotomy b1 a1 with h | h | h
  · simp only [h, if_true, true_or]
    exact ⟨by simp, le_rfl, h.le, fun _ => le_rfl, fun e => absurd e h.ne⟩
  · subst h
    simp only [lt_irrefl, if_false, false_or, true_and]
    by_cases h2 : a2.toInt < b2.toInt
    · simp only [h2, if_true]
      exact ⟨by simp, le_rfl, le_rfl, fun _ => le_rfl, fun _ => h2.le⟩
    · simp only [h2, if_false]
      exact ⟨by simp, le_rfl, le_rfl, fun _ => not_lt.1 h2, fun _ => le_rfl⟩
  · simp only [not_lt.2 h.le, h.ne, if_false, false_and, or_self]
    exact ⟨by simp, h.le, le_rfl, fun e => e.elim, fun _ => le_rfl⟩

/-- The best of a list: one of it, none greater, none equal before it. -/
theorem foldl_better (l : List (EReal × BitVec 32)) (p : EReal × BitVec 32) :
    (l.foldl better p = p ∨ l.foldl better p ∈ l) ∧ (∀ q, q = p ∨ q ∈ l → q.1 ≤ (l.foldl better p).1 ∧ (q.1 = (l.foldl better p).1 → (l.foldl better p).2.toInt ≤ q.2.toInt)) := by
  induction l generalizing p with
  | nil =>
    refine ⟨.inl rfl, fun q hq => ?_⟩
    rcases hq with rfl | hq
    · exact ⟨le_rfl, fun _ => le_rfl⟩
    · simp at hq
  | cons a l ih =>
    obtain ⟨h1, h2⟩ := ih (better p a)
    obtain ⟨b1, b2, b3, b4, b5⟩ := better_spec p a
    have hb := h2 (better p a) (.inl rfl)
    rw [List.foldl_cons]
    have step : ∀ q : EReal × BitVec 32, q.1 ≤ (better p a).1 → (q.1 = (better p a).1 → (better p a).2.toInt ≤ q.2.toInt) →
        q.1 ≤ (l.foldl better (better p a)).1 ∧ (q.1 = (l.foldl better (better p a)).1 → (l.foldl better (better p a)).2.toInt ≤ q.2.toInt) := by
      intro q hq hq2
      refine ⟨hq.trans hb.1, fun e => ?_⟩
      have e1 : q.1 = (better p a).1 := le_antisymm hq (e ▸ hb.1)
      exact (hb.2 (e1 ▸ e)).trans (hq2 e1)
    refine ⟨?_, fun q hq => ?_⟩
    · rcases h1 with h | h
      · rw [h]
        rcases b1 with h' | h'
        · exact .inl h'
        · exact .inr (by rw [h']; exact List.mem_cons_self)
      · exact .inr (List.mem_cons_of_mem _ h)
    · rcases hq with rfl | hq
      · exact step _ b2 b4
      · rcases List.mem_cons.1 hq with rfl | hq
        · exact step _ b3 b5
        · exact h2 q (.inr hq)

/-- The index the host's argmax returns of a row is that of its first greatest entry. -/
theorem argmax_row {u : Shape} (hC : C ≤ 2 ^ 30) (f : EReal × BitVec 32 → EReal × BitVec 32 → EReal × BitVec 32) (hf : f = better)
    (x : FVec Ideal (Mat R C) .f32) (y : IVec (Mat R C) 32) (ix : FVec Ideal u .f32) (iy : IVec u 32)
    (h : (Mat R C).ReducesTo [1] (Col R)) (hu : 0 < u.numel) (r : Fin R) (hx : ∀ i, ix i = (⊥ : EReal)) (hy : ∀ i, iy i = 0#32)
    (hyc : ∀ k, y (ix2 r k) = BitVec.ofNat 32 k.val) (c : Fin C) (hc : IsFirst (fun k => x (ix2 r k)) c) :
    (Host.argReduce (F := Ideal) (φ := .f32) f x y ix iy h hu (ix1 r)).2 = BitVec.ofNat 32 c.val := by
  subst hf
  have e : Host.argReduce (F := Ideal) (φ := .f32) better x y ix iy h hu (ix1 r) = (Host.argReduceFiber x y h (ix1 r)).foldl better (⊥, 0#32) := by
    rw [Ideal.argReduce_eq_reduce2, Host.reduce2_eq_foldl_fiber, hx, hy]
  rw [e]
  have hmem : ∀ q : EReal × BitVec 32, q ∈ Host.argReduceFiber x y h (ix1 r) ↔ ∃ k : Fin C, q = (x (ix2 r k), BitVec.ofNat 32 k.val) := by
    intro q
    unfold Host.argReduceFiber
    simp only [List.mem_map, List.mem_filter, List.mem_finRange, true_and, decide_eq_true_eq]
    constructor
    · rintro ⟨n, hn, rfl⟩
      obtain ⟨i, hi⟩ : ∃ i, (Mat R C).rowMajor.symm n = i := ⟨_, rfl⟩
      rw [hi] at hn ⊢
      obtain ⟨a, b, rfl⟩ : ∃ a b, i = ix2 a b := ⟨i 0, i 1, (eq_ix2 i)⟩
      have : a = r := by
        have h0 := congrArg (fun j : (Col R).Idx => (j 0).val) hn
        exact Fin.ext h0
      subst this
      exact ⟨b, by rw [hyc]⟩
    · rintro ⟨k, rfl⟩
      refine ⟨(Mat R C).rowMajor (ix2 r k), ?_, ?_⟩
      · rw [Equiv.symm_apply_apply]
        funext d
        apply Fin.ext
        fin_cases d
        rfl
      · rw [Equiv.symm_apply_apply, hyc]
  obtain ⟨h1, h2⟩ := foldl_better (Host.argReduceFiber x y h (ix1 r)) (⊥, 0#32)
  generalize (Host.argReduceFiber x y h (ix1 r)).foldl better (⊥, 0#32) = p at *
  have hcm := h2 _ (.inr ((hmem _).2 ⟨c, rfl⟩))
  have hcol := toInt_col hC
  rcases h1 with h1 | h1
  · subst h1
    have hbot : x (ix2 r c) = ⊥ := le_bot_iff.1 hcm.1
    have hc0 : c.val = 0 := by
      by_contra hne
      have := hc.2 ⟨0, by have := c.isLt; omega⟩ (by rw [Fin.lt_def]; simp; omega)
      simp only [hbot] at this
      exact absurd this not_lt_bot
    rw [hc0]
  · obtain ⟨k, rfl⟩ := (hmem p).1 h1
    have hk : x (ix2 r c) = x (ix2 r k) := le_antisymm hcm.1 (hc.1 k)
    have hle := hcm.2 hk
    simp only [hcol] at hle
    have hge : ¬ k < c := fun hlt => by
      have := hc.2 k hlt
      simp only [hk] at this
      exact lt_irrefl _ this
    have : k = c := by
      apply Fin.ext
      rw [Fin.lt_def] at hge
      omega
    rw [this]

end Cert.Row

end
-- ==== Proof.Lib.RowKernel.lean ====
/- What the two kernels compute of a block of rows, read at one row over the extended reals: the mask of the chosen action, the lead of
   the best action, the logit picked and the logarithm of the sum of exponentials. -/
module

public import proofs.«01_k».proof.Proof.Lib.RowOps
public import Idealize.ShloMosaic.Lib.ValueLayout
public import Idealize.ShloMosaic.Lib.ValueLayoutCasts
public import Idealize.ShloMosaic.Lib.Pipeline.Value

@[expose] public section

noncomputable section

namespace Cert.Row

open Idealize.ShloMosaic Idealize.ShloMosaic.ValueIdx

variable {R C : ℕ}

/-- A column spread over the columns of a matrix. -/
theorem broadcast_row {α : Type} (v : (Mat R 1).Idx → α) (h : (Mat R 1).Broadcasts (Mat R C)) (r : Fin R) (k : Fin C) :
    broadcastTo (Mat R C) v h (ix2 r k) = v (ix2 r 0) := by
  refine broadcastTo_apply v h (ix2 r k) (ix2 r 0) fun ax => ?_
  match ax with
  | ⟨0, _⟩ =>
    show r.val = if R = 1 then 0 else r.val
    split_ifs with hR
    · have := r.isLt; omega
    · rfl
  | ⟨1, _⟩ => rfl

theorem select_ofBool {α : Type} (p : Prop) [Decidable p] (a b : α) : Scalar.select (BitVec.ofBool (decide p)) a b = if p then a else b := by
  by_cases h : p <;> simp [Scalar.select, h]

/-- The mask of the action chosen: true at the first place that holds the row's greatest entry. -/
theorem mask_row (hC : C ≤ 1000) (s : FVec Ideal (Mat R C) .f32) (y : IVec (Mat R C) 32) (hy : ∀ r k, y (ix2 r k) = BitVec.ofNat 32 k.val)
    (hr : (Mat R C).Reduces [1] (Col R)) (hφ : FKind.Formats .f32) (hacc : (0xFF800000#32 : BitVec 32) = FKind.maximumf.neutral .f32 hφ)
    (hacc' : (2147483647#32 : BitVec 32) = IKind.minsi.neutral)
    (hs : (Col R).ShapeCasts (Mat R 1)) (hb : (Mat R 1).Broadcasts (Mat R C)) (r : Fin R) (c : Fin C) (hc : IsFirst (fun k => s (ix2 r k)) c) (k : Fin C) :
    cmpi .eq y (broadcastTo (Mat R C) (shapeCast (Mat R 1) (multiReductionI .minsi [1] (Col R)
      (select (cmpf .oeq s (broadcastTo (Mat R C) (shapeCast (Mat R 1) (multiReduction .maximumf [1] (Col R) s 0xFF800000#32 hr hφ hacc) hs) hb)) y (broadcast (Mat R C) 1000#32))
      2147483647#32 hr hacc') hs) hb) (ix2 r k) = BitVec.ofBool (decide (k = c)) := by
  have hL : (C : ℤ) ≤ (1000#32 : BitVec 32).toInt := by
    have : (1000#32 : BitVec 32).toInt = 1000 := by decide
    omega
  show BitVec.ofBool (y (ix2 r k) == broadcastTo (Mat R C) _ hb (ix2 r k)) = _
  rw [broadcast_row, shapeCast_a_a1_apply, min_row (by omega) _ hr hacc' r (fun k => s (ix2 r k)) c hc 1000#32 hL, hy]
  · congr 1
    rw [Bool.eq_iff_iff, beq_iff_eq, decide_eq_true_iff]
    constructor
    · intro h
      have h1 := congrArg BitVec.toInt h
      rw [toInt_col (by omega), toInt_col (by omega)] at h1
      exact Fin.ext (by omega)
    · rintro rfl; rfl
  · intro k
    show Scalar.select (Ideal.cmp .oeq (s (ix2 r k)) (broadcastTo (Mat R C) _ hb (ix2 r k))) (y (ix2 r k)) 1000#32 = _
    rw [broadcast_row, shapeCast_a_a1_apply, max_row, hy]
    exact select_ofBool _ _ _

/-- The one-hot row of the action chosen. -/
theorem onehot_row (m : IVec (Mat R C) 1) (h : 1 < 32) (i : (Mat R C).Idx) (p : Prop) [Decidable p] (hm : m i = BitVec.ofBool (decide p)) :
    sitofp (F := Ideal) .f32 (extui 32 m h) i = if p then (1 : EReal) else 0 := by
  show (((((m i).setWidth 32).toInt : ℝ)) : EReal) = _
  rw [hm]
  by_cases hp : p
  · simp [hp]
  · simp [hp]

/-- The logit picked by the mask. -/
theorem pick_row (x : FVec Ideal (Mat R C) .f32) (m : IVec (Mat R C) 1)
    (hr : (Mat R C).Reduces [1] (Col R)) (hφ : FKind.Formats .f32) (hacc : (0xFF800000#32 : BitVec 32) = FKind.maximumf.neutral .f32 hφ)
    (hs : (Col R).ShapeCasts (Mat R 1)) (r : Fin R) (c : Fin C) (hm : ∀ k, m (ix2 r k) = BitVec.ofBool (decide (k = c))) :
    shapeCast (Mat R 1) (multiReduction .maximumf [1] (Col R) (select m x (broadcast (Mat R C) (Scalar.ofBits (F := Ideal) .f32 0xFF800000#32))) 0xFF800000#32 hr hφ hacc) hs (ix2 r 0)
      = x (ix2 r c) := by
  rw [shapeCast_a_a1_apply, max_row]
  refine Eq.trans (congrArg peak (funext fun k => ?_)) (peak_pick (fun k => x (ix2 r k)) c)
  show Scalar.select (m (ix2 r k)) (x (ix2 r k)) (Ideal.ofBits .f32 0xFF800000#32) = _
  rw [hm, Gumbel.neg_inf_bits, select_ofBool]

/-- The greatest entry of the others. -/
theorem rest_row (x : FVec Ideal (Mat R C) .f32) (m : IVec (Mat R C) 1)
    (hr : (Mat R C).Reduces [1] (Col R)) (hφ : FKind.Formats .f32) (hacc : (0xFF800000#32 : BitVec 32) = FKind.maximumf.neutral .f32 hφ)
    (hs : (Col R).ShapeCasts (Mat R 1)) (r : Fin R) (c : Fin C) (hm : ∀ k, m (ix2 r k) = BitVec.ofBool (decide (k = c))) :
    shapeCast (Mat R 1) (multiReduction .maximumf [1] (Col R) (select m (broadcast (Mat R C) (Scalar.ofBits (F := Ideal) .f32 0xFF800000#32)) x) 0xFF800000#32 hr hφ hacc) hs (ix2 r 0)
      = rest (fun k => x (ix2 r k)) c := by
  rw [shapeCast_a_a1_apply, max_row]
  refine congrArg peak (funext fun k => ?_)
  show Scalar.select (m (ix2 r k)) (Ideal.ofBits .f32 0xFF800000#32) (x (ix2 r k)) = _
  rw [hm, Gumbel.neg_inf_bits, select_ofBool]

open Classical in
/-- The mark of a row whose best entry does not lead the others by the margin. -/
theorem lead_row {s : Shape} (a b : FVec Ideal s .f32) (h : 1 < 32) (i : s.Idx) (x y : EReal) (ha : a i = x) (hb : b i = y) :
    extui 32 (cmpf .oge a (subf b (broadcast s (Scalar.ofBits (F := Ideal) .f32 0x39A831BE#32)))) h i = if y - (Gumbel.marginR : EReal) ≤ x then 1#32 else 0#32 := by
  show (Ideal.cmp .oge (a i) (b i - Ideal.ofBits .f32 0x39A831BE#32)).setWidth 32 = _
  rw [ha, hb, Gumbel.margin_bits]
  show (BitVec.ofBool (decide (_ ≤ _))).setWidth 32 = _
  by_cases hl : y - (Gumbel.marginR : EReal) ≤ x
  · rw [if_pos hl, decide_eq_true hl]; rfl
  · rw [if_neg hl, decide_eq_false hl]; rfl

/-- The logarithm of the sum of exponentials. -/
theorem lse_row (x : FVec Ideal (Mat R C) .f32)
    (hr : (Mat R C).Reduces [1] (Col R)) (hφ : FKind.Formats .f32) (hacc : (0x00000000#32 : BitVec 32) = FKind.add.neutral .f32 hφ)
    (hs : (Col R).ShapeCasts (Mat R 1)) (r : Fin R) :
    log (shapeCast (Mat R 1) (multiReduction .add [1] (Col R) (exp x) 0x00000000#32 hr hφ hacc) hs) (ix2 r 0) = Ideal.log (∑ k, Ideal.exp (x (ix2 r k))) := by
  show Ideal.log (shapeCast (Mat R 1) _ hs (ix2 r 0)) = _
  rw [shapeCast_a_a1_apply, sum_row]
  rfl

end Cert.Row

end
-- ==== Proof.PI.Blocks.lean ====
/- What the two kernels leave of a block, read at one row: over the extended reals, in terms of the row's first greatest perturbed logit. -/
module

public import proofs.«01_k».proof.Proof.PI.Region0
public import proofs.«01_k».proof.Proof.PI.Region1
public import proofs.«01_k».proof.Proof.Lib.RowKernel
public import Idealize.ShloMosaic.Lib.Pipeline.ValueKit
public import Idealize.ShloMosaic.Lib.Pointwise.Reshape

@[expose] public section

noncomputable section

namespace Cert.KernelIdeal.Reg

open Cert.KernelIdeal.Gen Cert.Row Cert.Gumbel
open Idealize.ShloMosaic

/-! ## The first kernel -/

section
variable (x0 : Vec Ideal S1024x1000 .f32) (x1 : Vec Ideal S1024x1000 .i16) (r : Fin 1024)

/-- A row of logits perturbed by the coded noise. -/
def coded (k : Fin 1000) : EReal := (x0 (ValueIdx.ix2 r k) : EReal) + (decode (x1 (ValueIdx.ix2 r k)) : EReal)

theorem pay2_row (k : Fin 1000) : k0_pay2 x0 x1 (ValueIdx.ix2 r k) = coded x0 x1 r k := by
  unfold k0_pay2
  show (x0 (ValueIdx.ix2 r k) : EReal) + ((((shapeCast S1024x1000 x1 shapeCasts_S1024x1000_S1024x1000 (ValueIdx.ix2 r k) : BitVec 16).toNat : ℝ) : EReal) * Ideal.ofBits .f32 0x39A34CBB#32
    + Ideal.ofBits .f32 0xC08F0859#32) = _
  rw [shapeCast_id, step_bits, lo_bits, coded, decode, EReal.coe_add, EReal.coe_mul]

variable {x0 x1 r} {c : Fin 1000} (hc : IsFirst (coded x0 x1 r) c)

include hc

theorem first_row : IsFirst (fun k => (k0_pay2 x0 x1 (ValueIdx.ix2 r k) : EReal)) c := by
  have : (fun k => (k0_pay2 x0 x1 (ValueIdx.ix2 r k) : EReal)) = coded x0 x1 r := funext fun k => pay2_row x0 x1 r k
  rw [this]; exact hc

theorem pay4_row (k : Fin 1000) : k0_pay4 x0 x1 (ValueIdx.ix2 r k) = BitVec.ofBool (decide (k = c)) := by
  unfold k0_pay4 k0_pay3
  refine mask_row (R := 1024) (C := 1000) le_rfl _ _ (fun r k => ?_) _ _ _ _ _ _ r c (first_row hc) k
  show BitVec.ofNat 32 (0 * 1000 + k.val) = _
  rw [Nat.zero_mul, Nat.zero_add]

theorem pay3_row : k0_pay3 x0 x1 (ValueIdx.ix2 r 0) = coded x0 x1 r c := by
  unfold k0_pay3
  refine (ValueIdx.shapeCast_a_a1_apply _ _ r 0).trans ?_
  refine (max_row (R := 1024) (C := 1000) _ _ _ _ r).trans ?_
  refine (first_row hc).peak_eq.trans (pay2_row x0 x1 r c)

/-- The one-hot row the first kernel leaves. -/
theorem out0_2_row (k : Fin 1000) : out0_2 x0 x1 (ValueIdx.ix2 r k) = if k = c then (1 : EReal) else 0 := by
  unfold out0_2; frame_out
  unfold k0_pay5
  exact onehot_row (R := 1024) (C := 1000) _ _ _ _ (pay4_row hc k)

/-- The log-probability the first kernel leaves. -/
theorem out0_3_row : out0_3 x0 x1 (ValueIdx.ix2 r 0) = (x0 (ValueIdx.ix2 r c) : EReal) - Ideal.log (∑ k : Fin 1000, Ideal.exp (x0 (ValueIdx.ix2 r k))) := by
  unfold out0_3; frame_out
  unfold k0_pay1 k0_pay7
  refine congrArg₂ (fun a b : EReal => a - b) ?_ ?_
  · exact pick_row (R := 1024) (C := 1000) _ _ _ _ _ _ r c (pay4_row hc)
  · exact lse_row (R := 1024) (C := 1000) _ _ _ _ _ r

open Classical in
/-- The mark the first kernel leaves: one when the best action does not lead by the margin. -/
theorem out0_4_row : out0_4 x0 x1 (ValueIdx.ix2 r 0) = if coded x0 x1 r c - (marginR : EReal) ≤ rest (coded x0 x1 r) c then 1#32 else 0#32 := by
  unfold out0_4; frame_out
  unfold k0_pay6
  have h1 := rest_row (R := 1024) (C := 1000) (k0_pay2 x0 x1) (k0_pay4 x0 x1) reduces_S1024x1000_S1024 (.inl rfl) rfl shapeCasts_S1024_S1024x1 r c (pay4_row hc)
  have h2 := pay3_row hc
  have e : (fun k => (k0_pay2 x0 x1 (ValueIdx.ix2 r k) : EReal)) = coded x0 x1 r := funext fun k => pay2_row x0 x1 r k
  rw [e] at h1
  exact lead_row (s := S1024x1) _ _ natLt_1_32 _ _ _ h1 h2

omit hc in
/-- The logarithm of the sum of exponentials the first kernel leaves. -/
theorem out0_5_row : out0_5 x0 x1 (ValueIdx.ix2 r 0) = Ideal.log (∑ k : Fin 1000, Ideal.exp (x0 (ValueIdx.ix2 r k))) := by
  unfold out0_5; frame_out
  unfold k0_pay7
  exact lse_row (R := 1024) (C := 1000) _ _ _ _ _ r

end

/-! ## The second kernel -/

section
variable {x0 x1 : Vec Ideal S8x1000 .f32} {r : Fin 8} {c : Fin 1000} (hc : IsFirst (fun k : Fin 1000 => (x0 (ValueIdx.ix2 r k) : EReal) + x1 (ValueIdx.ix2 r k)) c)

include hc

theorem mask1_row (k : Fin 1000) : k1_pay1 x0 x1 (ValueIdx.ix2 r k) = BitVec.ofBool (decide (k = c)) := by
  unfold k1_pay1
  refine mask_row (R := 8) (C := 1000) le_rfl _ _ (fun r k => ?_) _ _ _ _ _ _ r c ?_ k
  · show BitVec.ofNat 32 (0 * 1000 + k.val) = _
    rw [Nat.zero_mul, Nat.zero_add]
  · have e : shapeCast S8x1000 x1 shapeCasts_S8x1000_S8x1000 = x1 := shapeCast_id _ _
    rw [e]
    exact hc

/-- The one-hot row the second kernel leaves. -/
theorem out1_3_row (k : Fin 1000) : out1_3 x0 x1 (ValueIdx.ix2 r k) = if k = c then (1 : EReal) else 0 := by
  unfold out1_3; frame_out
  unfold k1_pay2
  exact onehot_row (R := 8) (C := 1000) _ _ _ _ (mask1_row hc k)

/-- The log-probability the second kernel leaves. -/
theorem out1_4_row (x2 : Vec Ideal S8x1 .f32) : out1_4 x0 x1 x2 (ValueIdx.ix2 r 0) = (x0 (ValueIdx.ix2 r c) : EReal) - x2 (ValueIdx.ix2 r 0) := by
  unfold out1_4; frame_out
  unfold k1_pay3
  refine congrArg₂ (fun a b : EReal => a - b) ?_ ?_
  · exact pick_row (R := 8) (C := 1000) _ _ _ _ _ _ r c (mask1_row hc)
  · rw [shapeCast_id]

end

end Cert.KernelIdeal.Reg

end
-- ==== Proof.PI.Noise.lean ====
/- The host operations before the first launch: the random words, the noise and its 16-bit codes, at an index. -/
module

public import proofs.«01_k».proof.Proof.PI.Run
public import proofs.«01_k».proof.Proof.Lib.Gumbel
public import Idealize.ShloMosaic.Lib.Routing.Ops
public import Idealize.ShloMosaic.Lib.ValueIdx

@[expose] public section

set_option maxRecDepth 16384

noncomputable section

namespace Cert.KernelIdeal.Reg

open Cert.KernelIdeal.Gen Cert.Threefry Cert.Gumbel
open Idealize.ShloMosaic Idealize.ShloMosaic.TcCoe Idealize.ShloMosaic.Tactic Idealize.ShloMosaic.ValueIdx
open Idealize.ShloMosaic.StableHlo (after)

section
variable {F : FTy → Type} [FloatOps F] (X : Valuation τ sig (Elt F))

/-- Operations `n` to `n + k - 1` of the first stretch. -/
abbrev piece (n k : ℕ) : List (HloOp τ sig (Elt F)) := (hostOps0.drop n).take k

/-- The counters, with the key added. -/
theorem noise_start (j : Fin 16384000) :
    ((after (hostOps0.take 7) X main_v4 : IVec S16384000 32) (ValueIdx.ix1 j), (after (hostOps0.take 7) X main_v3 : IVec S16384000 32) (ValueIdx.ix1 j))
      = (0#32 + (BitVec.ofNat 32 j.val + 42#32), BitVec.ofNat 32 j.val + 42#32) := by
  simp only [hostOps0, List.take_succ_cons, List.take_zero]
  after_results
  rfl

/-- Rounds 1 to 4 and their key. -/
theorem noise_group1 (j : Fin 16384000) :
    ((after (piece 7 42) X main_v36 : IVec S16384000 32) (ValueIdx.ix1 j), (after (piece 7 42) X main_v35 : IVec S16384000 32) (ValueIdx.ix1 j))
      = keyed 42 466689009 (rounds turn rotA ((X main_v4 : IVec S16384000 32) (ValueIdx.ix1 j), (X main_v3 : IVec S16384000 32) (ValueIdx.ix1 j))) := by
  simp only [piece, hostOps0, List.drop_succ_cons, List.take_succ_cons, List.drop_zero, List.take_zero]
  after_results
  rfl

/-- Rounds 5 to 8 and their key. -/
theorem noise_group2 (j : Fin 16384000) :
    ((after (piece 49 42) X main_v68 : IVec S16384000 32) (ValueIdx.ix1 j), (after (piece 49 42) X main_v67 : IVec S16384000 32) (ValueIdx.ix1 j))
      = keyed 466689008 2 (rounds turn rotB ((X main_v36 : IVec S16384000 32) (ValueIdx.ix1 j), (X main_v35 : IVec S16384000 32) (ValueIdx.ix1 j))) := by
  simp only [piece, hostOps0, List.drop_succ_cons, List.take_succ_cons, List.drop_zero, List.take_zero]
  after_results
  rfl

/-- Rounds 9 to 12 and their key. -/
theorem noise_group3 (j : Fin 16384000) :
    ((after (piece 91 42) X main_v100 : IVec S16384000 32) (ValueIdx.ix1 j), (after (piece 91 42) X main_v99 : IVec S16384000 32) (ValueIdx.ix1 j))
      = keyed 0 45 (rounds turn rotA ((X main_v68 : IVec S16384000 32) (ValueIdx.ix1 j), (X main_v67 : IVec S16384000 32) (ValueIdx.ix1 j))) := by
  simp only [piece, hostOps0, List.drop_succ_cons, List.take_succ_cons, List.drop_zero, List.take_zero]
  after_results
  rfl

/-- Rounds 13 to 16 and their key. -/
theorem noise_group4 (j : Fin 16384000) :
    ((after (piece 133 42) X main_v132 : IVec S16384000 32) (ValueIdx.ix1 j), (after (piece 133 42) X main_v131 : IVec S16384000 32) (ValueIdx.ix1 j))
      = keyed 42 466689012 (rounds turn rotB ((X main_v100 : IVec S16384000 32) (ValueIdx.ix1 j), (X main_v99 : IVec S16384000 32) (ValueIdx.ix1 j))) := by
  simp only [piece, hostOps0, List.drop_succ_cons, List.take_succ_cons, List.drop_zero, List.take_zero]
  after_results
  rfl

/-- The last rounds, and the two words xored. -/
theorem noise_group5 (j : Fin 16384000) :
    (after (piece 175 42) X main_v164 : IVec S16384000 32) (ValueIdx.ix1 j)
      = (let p := rounds turn rotA ((X main_v132 : IVec S16384000 32) (ValueIdx.ix1 j), (X main_v131 : IVec S16384000 32) (ValueIdx.ix1 j)); IntOp.xori (p.1 + 466689008) (p.2 + 5)) := by
  simp only [piece, hostOps0, List.drop_succ_cons, List.take_succ_cons, List.drop_zero, List.take_zero]
  after_results
  rfl

/-- The word at a flat index. -/
theorem noise_word (j : Fin 16384000) :
    (after (hostOps0.take 217) X main_v164 : IVec S16384000 32) (ValueIdx.ix1 j) = word (BitVec.ofNat 32 j.val) := by
  have e : after (hostOps0.take 217) X
      = after (piece 175 42) (after (piece 133 42) (after (piece 91 42) (after (piece 49 42) (after (piece 7 42) (after (hostOps0.take 7) X))))) := by
    rw [after_split 7]
    rw [after_split 42 (List.drop 7 _)]
    rw [after_split 42 (List.drop 42 (List.drop 7 _))]
    rw [after_split 42 (List.drop 42 (List.drop 42 (List.drop 7 _)))]
    rw [after_split 42 (List.drop 42 (List.drop 42 (List.drop 42 (List.drop 7 _))))]
    rfl
  rw [e, noise_group5, noise_group4, noise_group3, noise_group2, noise_group1, noise_start]
  simp only [BitVec.zero_add]
  rfl

end

/-! ## From the words to the noise and its codes -/

section
variable (X : Valuation τ sig (Elt Ideal)) (m : (ℓ : Loc nD τ sig) → Buf (Elt Ideal) ℓ) (c : Dev nD)

/-- The fraction, its test against zero, and the number put in place of zero. -/
theorem noise_frac (w : BitVec 32) (j : Fin 16384000) (h : (X main_v164 : IVec S16384000 32) (ValueIdx.ix1 j) = w) :
    (after (hostOps0.drop 217) X main_v171 : FVec Ideal S16384000 .f32) (ValueIdx.ix1 j) = frac w
      ∧ (after (hostOps0.drop 217) X main_v173 : IVec S16384000 1) (ValueIdx.ix1 j) = Ideal.cmp .oeq (frac w) (Ideal.ofBits .f32 0x00000000#32)
      ∧ (after (hostOps0.drop 217) X main_cst_54 : FVec Ideal S_ .f32) = fun _ => Ideal.ofBits .f32 0x00800000#32 := by
  subst h
  simp only [hostOps0, List.drop_succ_cons, List.drop_zero]
  refine ⟨?_, ?_, ?_⟩ <;> (after_results; rfl)

/-- The uniform variate at a flat index. -/
theorem noise_unif (w : BitVec 32) (j : Fin 16384000) (h1 : (X main_v171 : FVec Ideal S16384000 .f32) (ValueIdx.ix1 j) = frac w)
    (h2 : (X main_v173 : IVec S16384000 1) (ValueIdx.ix1 j) = Ideal.cmp .oeq (frac w) (Ideal.ofBits .f32 0x00000000#32))
    (h3 : (X main_cst_54 : FVec Ideal S_ .f32) = fun _ => Ideal.ofBits .f32 0x00800000#32) :
    (after hostOps0_1 X main_v174 : FVec Ideal S16384000 .f32) (ValueIdx.ix1 j) = unifK w := by
  after_results
  simp -implicitDefEqProofs only [StableHlo.TRef.toBuf, StableHlo.TRef.ofBuf, cast_cast, cast_eq]
  show Scalar.select ((X main_v173 : IVec S16384000 1) (ValueIdx.ix1 j)) ((X main_cst_54 : FVec Ideal S_ .f32) _) ((X main_v171 : FVec Ideal S16384000 .f32) (ValueIdx.ix1 j)) = _
  rw [h1, h2, h3]
  rfl

/-- The Gumbel variate at a row and an action, and its distance from the grid's first point in grid steps. -/
theorem noise_gum (w : BitVec 32) (r : Fin 16384) (a : Fin 1000)
    (h : (X main_v174 : FVec Ideal S16384000 .f32) (ValueIdx.ix1 (⟨r.val * 1000 + a.val, by omega⟩ : Fin 16384000)) = unifK w) :
    (after hostOps0_2 X main_v179 : FVec Ideal S16384x1000 .f32) (ValueIdx.ix2 r a) = gum (unifK w)
      ∧ (after hostOps0_2 X main_v183 : FVec Ideal S16384x1000 .f32) (ValueIdx.ix2 r a)
        = Ideal.div (gum (unifK w) - Ideal.ofBits .f32 0xC08F0859#32) (Ideal.ofBits .f32 0x39A34CBB#32) := by
  have e : shapeCast S16384x1000 (X main_v174 : FVec Ideal S16384000 .f32) shapeCasts_S16384000_S16384x1000 (ValueIdx.ix2 r a) = unifK w := by
    rw [← h]; exact Routing.cast12 _ _ r a _ rfl
  constructor
  · after_results
    show gum (shapeCast S16384x1000 (X main_v174 : FVec Ideal S16384000 .f32) shapeCasts_S16384000_S16384x1000 (ValueIdx.ix2 r a)) = _
    rw [e]
  · after_results
    show Ideal.div (gum (shapeCast S16384x1000 (X main_v174 : FVec Ideal S16384000 .f32) shapeCasts_S16384000_S16384x1000 (ValueIdx.ix2 r a)) - _) _ = _
    rw [e]
    rfl

theorem noise_round (i : S16384x1000.Idx) :
    (after hostOps0_3 X main_v184 : FVec Ideal S16384x1000 .f32) i = Ideal.liftRound Ideal.roundHalfEven ((X main_v183 : FVec Ideal S16384x1000 .f32) i) := by
  after_results
  simp -implicitDefEqProofs only [StableHlo.TRef.toBuf, StableHlo.TRef.ofBuf, cast_cast, cast_eq]
  rfl

theorem noise_ends :
    (after hostOps0_4 X main_c_57 : IVec S_ 32) = (fun _ => 0#32) ∧ (after hostOps0_4 X main_c_58 : IVec S_ 32) = (fun _ => 65535#32) := by
  constructor <;> (after_results; rfl)

theorem noise_clip (i : S16384x1000.Idx) (h0 : (X main_c_57 : IVec S_ 32) = fun _ => 0#32) (h1 : (X main_c_58 : IVec S_ 32) = fun _ => 65535#32) :
    (after hostOps0_5 X main_v185 : FVec Ideal S16384x1000 .f32) i
      = min (((65535#32).toInt : ℝ) : EReal) (max (((0#32).toInt : ℝ) : EReal) ((X main_v184 : FVec Ideal S16384x1000 .f32) i)) := by
  after_results
  simp -implicitDefEqProofs only [StableHlo.TRef.toBuf, StableHlo.TRef.ofBuf, cast_cast, cast_eq]
  rw [h0, h1]
  rfl

theorem noise_code (i : S16384x1000.Idx) :
    (after hostOps0_6 X main_v187 : IVec S16384x1000 16) i = (Ideal.fptosi 32 ((X main_v185 : FVec Ideal S16384x1000 .f32) i)).setWidth 16 := by
  after_results
  rfl

theorem V7_v174 (r : Fin 16384) (a : Fin 1000) :
    (V2 m c main_v174 : FVec Ideal S16384000 .f32) (ValueIdx.ix1 (⟨r.val * 1000 + a.val, by omega⟩ : Fin 16384000)) = unifK (wordAt r a) := by
  have e : V1 m c = after (hostOps0.drop 217) (after (hostOps0.take 217) (V0 m c)) := after_split 217 _ _
  obtain ⟨h1, h2, h3⟩ := noise_frac (after (hostOps0.take 217) (V0 m c)) _ _ (noise_word (V0 m c) (⟨r.val * 1000 + a.val, by omega⟩ : Fin 16384000))
  rw [← e] at h1 h2 h3
  exact noise_unif (V1 m c) _ _ h1 h2 h3

/-- **The noise the second launch reads.** -/
theorem V7_v179 (r : Fin 16384) (a : Fin 1000) : (V7 m c main_v179 : FVec Ideal S16384x1000 .f32) (ValueIdx.ix2 r a) = gum (unifK (wordAt r a)) := by
  have e : V7 m c main_v179 = V3 m c main_v179 :=
    (((V7_of m c main_v179 (by decide)).trans (V6_of m c main_v179 (by decide))).trans (V5_of m c main_v179 (by decide))).trans (V4_of m c main_v179 (by decide))
  rw [e]
  exact (noise_gum (V2 m c) _ r a (V7_v174 m c r a)).1

/-- **The codes the first launch reads.** -/
theorem V7_v187 (r : Fin 16384) (a : Fin 1000) : (V7 m c main_v187 : IVec S16384x1000 16) (ValueIdx.ix2 r a) = code (gum (unifK (wordAt r a))) := by
  refine (noise_code (V6 m c) _).trans ?_
  have e : V5 m c main_v184 = V4 m c main_v184 := V5_of m c main_v184 (by decide)
  rw [show (V6 m c main_v185 : FVec Ideal S16384x1000 .f32) (ValueIdx.ix2 r a) = _ from noise_clip (V5 m c) _ (noise_ends (V4 m c)).1 (noise_ends (V4 m c)).2, e,
    show (V4 m c main_v184 : FVec Ideal S16384x1000 .f32) (ValueIdx.ix2 r a) = _ from noise_round (V3 m c) _,
    show (V3 m c main_v183 : FVec Ideal S16384x1000 .f32) (ValueIdx.ix2 r a) = _ from (noise_gum (V2 m c) _ r a (V7_v174 m c r a)).2]
  rfl

end

end Cert.KernelIdeal.Reg

end
-- ==== Proof.PI.First.lean ====
/- The arrays the first launch leaves, row by row: over the extended reals, in terms of the argument and the noise. -/
module

public import proofs.«01_k».proof.Proof.PI.Blocks
public import proofs.«01_k».proof.Proof.PI.Noise
public import proofs.«01_k».proof.Proof.PI.Tables

@[expose] public section

noncomputable section

namespace Cert.KernelIdeal.Reg

open Cert.KernelIdeal.Gen Cert.Row Cert.Gumbel
open Idealize.ShloMosaic Idealize.ShloMosaic.TcCoe
open Idealize.ShloMosaic.Pipeline (Dat Cfg Window)

variable (m : (ℓ : Loc nD τ sig) → Buf (Elt Ideal) ℓ) (c : Dev nD)

/-- The logit of a row and an action. -/
def lg (r : Fin 16384) (k : Fin 1000) : EReal := (m ((c.tc : Thread nD τ).loc main_arg0) : FVec Ideal S16384x1000 .f32) (ValueIdx.ix2 r k)

/-- The noise that the code of a row and an action stands for. -/
def cn (r : Fin 16384) (k : Fin 1000) : ℝ := decode (code (noise r k))

/-- A row of logits perturbed by the coded noise. -/
def cs (r : Fin 16384) (k : Fin 1000) : EReal := lg m c r k + (cn r k : EReal)

theorem V7_arg0 : V7 m c main_arg0 = m ((c.tc : Thread nD τ).loc main_arg0) :=
  ((((((V7_of m c main_arg0 (by decide)).trans (V6_of m c main_arg0 (by decide))).trans (V5_of m c main_arg0 (by decide))).trans (V4_of m c main_arg0 (by decide))).trans
    (V3_of m c main_arg0 (by decide))).trans (V2_of m c main_arg0 (by decide))).trans (V1_of m c main_arg0 (by decide))

theorem idx0_0 : ∀ t : Fin grid0.N, win0_0.index t = ![t.val, 0] := by decide +kernel
theorem idx0_1 : ∀ t : Fin grid0.N, win0_1.index t = ![t.val, 0] := by decide +kernel
theorem idx0_2 : ∀ t : Fin grid0.N, win0_2.index t = ![t.val, 0] := by decide +kernel

theorem blk_logits (t : Fin cfg0.N) (i : Fin 1024) (k : Fin 1000) (r : Fin 16384) (hr : r.val = t.val * 1024 + i.val) :
    (iblk0 (V7 m) c 0 t : Vec Ideal S1024x1000 .f32) (ValueIdx.ix2 i k) = lg m c r k := by
  blk_simp [iblk0]
  rw [V7_arg0, lg]
  congr 1
  blk_ext [idx0_0]
  exact hr.symm

theorem blk_codes (t : Fin cfg0.N) (i : Fin 1024) (k : Fin 1000) (r : Fin 16384) (hr : r.val = t.val * 1024 + i.val) :
    (iblk0 (V7 m) c 1 t : Vec Ideal S1024x1000 .i16) (ValueIdx.ix2 i k) = code (noise r k) := by
  have h := V7_v187 m c r k
  rw [unifK_eq] at h
  refine Eq.trans ?_ h
  blk_simp [iblk0]
  congr 1
  blk_ext [idx0_1]
  exact hr.symm

theorem blk_coded (t : Fin cfg0.N) (i : Fin 1024) (r : Fin 16384) (hr : r.val = t.val * 1024 + i.val) :
    coded (iblk0 (V7 m) c 0 t) (iblk0 (V7 m) c 1 t) i = cs m c r := by
  funext k
  rw [coded, cs, cn, blk_logits m c t i k r hr, blk_codes m c t i k r hr]

/-! ## The four arrays -/

/-- The row of the problem that a row of a block is. -/
theorem row_lt (t : Fin cfg0.N) (i : Fin 1024) : t.val * 1024 + i.val < 16384 := by
  have h : t.val < 16 := t.isLt
  omega

/-- The one-hot row the first launch leaves. -/
theorem first_sample (r : Fin 16384) (k d : Fin 1000) (hd : IsFirst (cs m c r) d) :
    (V8 m (out8 m) c main_v188_0 : FVec Ideal S16384x1000 .f32) (ValueIdx.ix2 r k) = if k = d then (1 : EReal) else 0 := by
  have e : V8 m (out8 m) c main_v188_0 = _ := (V8_eq m c main_v188_0).symm.trans (Pipeline.afterRegion_arr (dat0 (V7 m) c) (V7 m c) (launch0 (F := Ideal)).win.arr_inj 2)
  rw [e]
  have h := (dat0 (V7 m) c).arrAt_forall_of_covers 2
    (fun i v => ∀ (r : Fin 16384) (k d : Fin 1000), (i : S16384x1000.Idx) = ValueIdx.ix2 r k → IsFirst (cs m c r) d → (v : EReal) = if k = d then (1 : EReal) else 0)
    (by decide +kernel) (fun t _ y => ?_) (ValueIdx.ix2 r k)
  · exact h r k d rfl hd
  · intro r k d hi hd
    have h0 : (y 0).val + t.val * 1024 = r.val := by
      have : _ = r.val := congrArg (fun i : S16384x1000.Idx => (i 0).val) hi
      blk_simp [idx0_2] at this
      omega
    have h1 : (y 1).val = k.val := by
      have : _ = k.val := congrArg (fun i : S16384x1000.Idx => (i 1).val) hi
      blk_simp [idx0_2] at this
      omega
    blk_simp
    rw [after0_2]
    have hy : y = ValueIdx.ix2 (⟨(y 0).val, (y 0).isLt⟩ : Fin 1024) k := by
      funext a
      apply Fin.ext
      fin_cases a
      · rfl
      · exact h1
    rw [hy]
    refine out0_2_row (c := d) ?_ k
    rw [blk_coded m c t _ r (by rw [← h0]; exact Nat.add_comm _ _)]
    exact hd

theorem idx0_3 : ∀ t : Fin grid0.N, win0_3.index t = ![t.val, 0] := by decide +kernel

/-- The log-probability the first launch leaves. -/
theorem first_logp (r : Fin 16384) (d : Fin 1000) (hd : IsFirst (cs m c r) d):
    (V8 m (out8 m) c main_v188_1 : FVec Ideal S16384x1 .f32) (ValueIdx.ix2 r 0) = lg m c r d - Ideal.log (∑ k : Fin 1000, Ideal.exp (lg m c r k)) := by
  have e : V8 m (out8 m) c main_v188_1 = _ := (V8_eq m c main_v188_1).symm.trans (Pipeline.afterRegion_arr (dat0 (V7 m) c) (V7 m c) (launch0 (F := Ideal)).win.arr_inj 3)
  rw [e]
  have h := (dat0 (V7 m) c).arrAt_forall_of_covers 3
    (fun i v => ∀ (r : Fin 16384) (d : Fin 1000) (hd : IsFirst (cs m c r) d), (i : S16384x1.Idx) = ValueIdx.ix2 r 0 → v = lg m c r d - Ideal.log (∑ k : Fin 1000, Ideal.exp (lg m c r k)))
    (by decide +kernel) (fun t _ y => ?_) (ValueIdx.ix2 r 0)
  · exact h r d hd rfl
  · intro r d hd hi
    have h0 : (y 0).val + t.val * 1024 = r.val := by
      have : _ = r.val := congrArg (fun i : S16384x1.Idx => (i 0).val) hi
      blk_simp [idx0_3] at this
      omega
    blk_simp
    rw [after0_3]
    obtain ⟨i, hi0⟩ : ∃ i : Fin 1024, i.val = (y 0).val := ⟨⟨(y 0).val, (y 0).isLt⟩, rfl⟩
    have hy : y = ValueIdx.ix2 i (0 : Fin 1) := by
      funext a
      apply Fin.ext
      fin_cases a
      · exact hi0.symm
      · exact Nat.lt_one_iff.1 (y 1).isLt
    have hr : r.val = t.val * 1024 + i.val := by rw [← h0, hi0]; exact Nat.add_comm _ _
    rw [hy]
    refine (out0_3_row (c := d) (by rw [blk_coded m c t i r hr]; exact hd)).trans ?_
    simp only [fun k => blk_logits m c t i k r hr]

theorem idx0_4 : ∀ t : Fin grid0.N, win0_4.index t = ![t.val, 0] := by decide +kernel

open Classical in
/-- The mark the first launch leaves. -/
theorem first_mark (r : Fin 16384) (d : Fin 1000) (hd : IsFirst (cs m c r) d):
    (V8 m (out8 m) c main_v188_2 : IVec S16384x1 32) (ValueIdx.ix2 r 0) = if cs m c r d - (marginR : EReal) ≤ rest (cs m c r) d then 1#32 else 0#32 := by
  have e : V8 m (out8 m) c main_v188_2 = _ := (V8_eq m c main_v188_2).symm.trans (Pipeline.afterRegion_arr (dat0 (V7 m) c) (V7 m c) (launch0 (F := Ideal)).win.arr_inj 4)
  rw [e]
  have h := (dat0 (V7 m) c).arrAt_forall_of_covers 4
    (fun i v => ∀ (r : Fin 16384) (d : Fin 1000) (hd : IsFirst (cs m c r) d), (i : S16384x1.Idx) = ValueIdx.ix2 r 0 → v = if cs m c r d - (marginR : EReal) ≤ rest (cs m c r) d then 1#32 else 0#32)
    (by decide +kernel) (fun t _ y => ?_) (ValueIdx.ix2 r 0)
  · exact h r d hd rfl
  · intro r d hd hi
    have h0 : (y 0).val + t.val * 1024 = r.val := by
      have : _ = r.val := congrArg (fun i : S16384x1.Idx => (i 0).val) hi
      blk_simp [idx0_4] at this
      omega
    blk_simp
    rw [after0_4]
    obtain ⟨i, hi0⟩ : ∃ i : Fin 1024, i.val = (y 0).val := ⟨⟨(y 0).val, (y 0).isLt⟩, rfl⟩
    have hy : y = ValueIdx.ix2 i (0 : Fin 1) := by
      funext a
      apply Fin.ext
      fin_cases a
      · exact hi0.symm
      · exact Nat.lt_one_iff.1 (y 1).isLt
    have hr : r.val = t.val * 1024 + i.val := by rw [← h0, hi0]; exact Nat.add_comm _ _
    rw [hy]
    refine (out0_4_row (c := d) (by rw [blk_coded m c t i r hr]; exact hd)).trans ?_
    rw [blk_coded m c t i r hr]

theorem idx0_5 : ∀ t : Fin grid0.N, win0_5.index t = ![t.val, 0] := by decide +kernel

/-- The logarithm of the sum of exponentials the first launch leaves. -/
theorem first_lse (r : Fin 16384) :
    (V8 m (out8 m) c main_v188_3 : FVec Ideal S16384x1 .f32) (ValueIdx.ix2 r 0) = Ideal.log (∑ k : Fin 1000, Ideal.exp (lg m c r k)) := by
  have e : V8 m (out8 m) c main_v188_3 = _ := (V8_eq m c main_v188_3).symm.trans (Pipeline.afterRegion_arr (dat0 (V7 m) c) (V7 m c) (launch0 (F := Ideal)).win.arr_inj 5)
  rw [e]
  have h := (dat0 (V7 m) c).arrAt_forall_of_covers 5
    (fun i v => ∀ (r : Fin 16384) , (i : S16384x1.Idx) = ValueIdx.ix2 r 0 → v = Ideal.log (∑ k : Fin 1000, Ideal.exp (lg m c r k)))
    (by decide +kernel) (fun t _ y => ?_) (ValueIdx.ix2 r 0)
  · exact h r  rfl
  · intro r  hi
    have h0 : (y 0).val + t.val * 1024 = r.val := by
      have : _ = r.val := congrArg (fun i : S16384x1.Idx => (i 0).val) hi
      blk_simp [idx0_5] at this
      omega
    blk_simp
    rw [after0_5]
    obtain ⟨i, hi0⟩ : ∃ i : Fin 1024, i.val = (y 0).val := ⟨⟨(y 0).val, (y 0).isLt⟩, rfl⟩
    have hy : y = ValueIdx.ix2 i (0 : Fin 1) := by
      funext a
      apply Fin.ext
      fin_cases a
      · exact hi0.symm
      · exact Nat.lt_one_iff.1 (y 1).isLt
    have hr : r.val = t.val * 1024 + i.val := by rw [← h0, hi0]; exact Nat.add_comm _ _
    rw [hy]
    refine (out0_5_row (x1 := iblk0 (V7 m) c 1 t)).trans ?_
    simp only [fun k => blk_logits m c t i k r hr]

end Cert.KernelIdeal.Reg

end
-- ==== Proof.PI.Second.lean ====
/- The arrays the second launch leaves: every row the first launch marked is replaced by the answer under the exact noise, and a row it
   did not mark already was that answer. -/
module

public import proofs.«01_k».proof.Proof.PI.First
public import Idealize.ShloMosaic.Lib.Pipeline.Covers

@[expose] public section

set_option maxRecDepth 16384

noncomputable section

namespace Cert.KernelIdeal.Reg

open Cert.KernelIdeal.Gen Cert.Row Cert.Gumbel Cert.Nonzero
open Idealize.ShloMosaic Idealize.ShloMosaic.TcCoe
open Idealize.ShloMosaic.Pipeline (Dat Cfg Window)
open Idealize.ShloMosaic.StableHlo (after)

variable (m : (ℓ : Loc nD τ sig) → Buf (Elt Ideal) ℓ) (c : Dev nD)

/-- A row of logits perturbed by the exact noise. -/
def es (r : Fin 16384) (k : Fin 1000) : EReal := lg m c r k + noise r k

/-- The logarithm of a row's sum of exponentials. -/
def ls (r : Fin 16384) : EReal := Ideal.log (∑ k : Fin 1000, Ideal.exp (lg m c r k))

/-! ## What the second launch finds -/

/-- A buffer that no host operation between the launches writes is as the first launch left it. -/
theorem W19_kept (r : Ref sig .tc) (h : r ∉ hostOps1_W ∧ r ∉ hostOps1_1_W ∧ r ∉ hostOps1_2_W ∧ r ∉ hostOps1_3_W ∧ r ∉ hostOps1_4_W ∧ r ∉ hostOps1_5_W
      ∧ r ∉ hostOps1_6_W ∧ r ∉ hostOps1_7_W ∧ r ∉ hostOps1_8_W ∧ r ∉ hostOps1_9_W) (h10 : r ∉ hostOps1_10_W) : W19 m c r = V8 m (out8 m) c r ∧ V18 m (out8 m) c r = V8 m (out8 m) c r := by
  obtain ⟨h0, h1, h2, h3, h4, h5, h6, h7, h8, h9⟩ := h
  have e : V18 m (out8 m) c r = V8 m (out8 m) c r := by
    rw [V18_of _ _ _ _ h9, V17_of _ _ _ _ h8, V16_of _ _ _ _ h7, V15_of _ _ _ _ h6, V14_of _ _ _ _ h5, V13_of _ _ _ _ h4, V12_of _ _ _ _ h3,
      V11_of _ _ _ _ h2, V10_of _ _ _ _ h1, V9_of _ _ _ _ h0]
  exact ⟨(V19_of m (out8 m) c r h10).trans e, e⟩

theorem W19_arg0 : W19 m c main_arg0 = m ((c.tc : Thread nD τ).loc main_arg0) :=
  ((W19_kept m c main_arg0 (by decide) (by decide)).1.trans (V8_of m (out8 m) c main_arg0 (by decide))).trans (V7_arg0 m c)

theorem W19_noise (r : Fin 16384) (k : Fin 1000) : (W19 m c main_v179 : FVec Ideal S16384x1000 .f32) (ValueIdx.ix2 r k) = noise r k := by
  have e : W19 m c main_v179 = V7 m c main_v179 := (W19_kept m c main_v179 (by decide) (by decide)).1.trans (V8_of m (out8 m) c main_v179 (by decide))
  rw [e]
  refine (V7_v179 m c r k).trans ?_
  rw [unifK_eq]
  rfl

theorem W19_lse (r : Fin 16384) : (W19 m c main_v188_3 : FVec Ideal S16384x1 .f32) (ValueIdx.ix2 r 0) = ls m c r := by
  rw [(W19_kept m c main_v188_3 (by decide) (by decide)).1]
  exact first_lse m c r

theorem W19_sample : W19 m c main_v216_0 = V8 m (out8 m) c main_v188_0 := by
  refine Eq.trans ?_ (W19_kept m c main_v188_0 (by decide) (by decide)).2
  show after hostOps1_10 (V18 m (out8 m) c) main_v216_0 = _
  after_results
  rfl

theorem W19_logp : W19 m c main_v216_1 = V8 m (out8 m) c main_v188_1 := by
  refine Eq.trans ?_ (W19_kept m c main_v188_1 (by decide) (by decide)).2
  show after hostOps1_10 (V18 m (out8 m) c) main_v216_1 = _
  after_results
  rfl

/-! ## The blocks it visits -/

theorem points (b : grid1.Bounds) : (grid1.at b).N = b 0 := by
  rw [← bound_at b 0]
  exact Fin.prod_univ_one _

theorem coord_val (b : grid1.Bounds) (t : Fin (grid1.at b).N) : ((grid1.at b).coords t 0).val = t.val := by
  rw [Pipeline.Grid.coords_val t 0 (S := 1) (B := b 0) (by rfl) (bound_at b 0), Nat.div_one]
  exact Nat.mod_eq_of_lt (lt_of_lt_of_eq t.isLt (points b))

/-- A row of a block of logits and a block of noise, added. -/
def prow (x0 x1 : Vec Ideal S8x1000 .f32) (i : Fin 8) (k : Fin 1000) : EReal := x0 (ValueIdx.ix2 i k) + x1 (ValueIdx.ix2 i k)

section Launch

variable (V : (c : Dev nD) → Valuation τ sig (Elt Ideal)) (a : (pcfg1 (F := Ideal)).Adm) (B : ℕ → ℕ)

/-- The block visited at each point. -/
def Visits : Prop := ∀ t : Fin (grid1.at (dynb1 a.1)).N, cc1_transform_0 a.1 (dynb1 a.1) ((grid1.at (dynb1 a.1)).coords t) = ![B t.val, 0]

variable {a B} (hB : Visits a B)
include hB

theorem idx1_0 (t : Fin (cfg1 a).N) : ((cfg1 a).win 0).index t = ![B t.val, 0] := hB t
theorem idx1_1 (t : Fin (cfg1 a).N) : ((cfg1 a).win 1).index t = ![B t.val, 0] := hB t
theorem idx1_2 (t : Fin (cfg1 a).N) : ((cfg1 a).win 2).index t = ![B t.val, 0] := hB t
theorem idx1_3 (t : Fin (cfg1 a).N) : ((cfg1 a).win 3).index t = ![B t.val, 0] := hB t
theorem idx1_4 (t : Fin (cfg1 a).N) : ((cfg1 a).win 4).index t = ![B t.val, 0] := hB t

theorem blk1_0 (t : Fin (cfg1 a).N) (i : Fin 8) (k : Fin 1000) (r : Fin 16384) (hr : r.val = B t.val * 8 + i.val) :
    (iblk1 V a c 0 t : Vec Ideal S8x1000 .f32) (ValueIdx.ix2 i k) = (V c main_arg0 : FVec Ideal S16384x1000 .f32) (ValueIdx.ix2 r k) := by
  blk_simp [iblk1]
  congr 1
  blk_ext [idx1_0 hB]
  · exact (congrArg (fun f : Fin 2 → ℕ => f 0 * 8 + i.val) (idx1_0 hB t)).trans hr.symm
  · exact (congrArg (fun f : Fin 2 → ℕ => f 1 * 1000 + k.val) (idx1_0 hB t)).trans (by show 0 * 1000 + k.val = k.val; omega)

theorem blk1_1 (t : Fin (cfg1 a).N) (i : Fin 8) (k : Fin 1000) (r : Fin 16384) (hr : r.val = B t.val * 8 + i.val) :
    (iblk1 V a c 1 t : Vec Ideal S8x1000 .f32) (ValueIdx.ix2 i k) = (V c main_v179 : FVec Ideal S16384x1000 .f32) (ValueIdx.ix2 r k) := by
  blk_simp [iblk1]
  congr 1
  blk_ext [idx1_1 hB]
  · exact (congrArg (fun f : Fin 2 → ℕ => f 0 * 8 + i.val) (idx1_1 hB t)).trans hr.symm
  · exact (congrArg (fun f : Fin 2 → ℕ => f 1 * 1000 + k.val) (idx1_1 hB t)).trans (by show 0 * 1000 + k.val = k.val; omega)

theorem blk1_2 (t : Fin (cfg1 a).N) (i : Fin 8) (r : Fin 16384) (hr : r.val = B t.val * 8 + i.val) :
    (iblk1 V a c 2 t : Vec Ideal S8x1 .f32) (ValueIdx.ix2 i 0) = (V c main_v188_3 : FVec Ideal S16384x1 .f32) (ValueIdx.ix2 r 0) := by
  blk_simp [iblk1]
  congr 1
  blk_ext [idx1_2 hB]
  · exact (congrArg (fun f : Fin 2 → ℕ => f 0 * 8 + i.val) (idx1_2 hB t)).trans hr.symm
  · exact congrArg (fun f : Fin 2 → ℕ => f 1) (idx1_2 hB t)

variable (x : Fin 16384 → Fin 1000 → EReal) (g : Fin 16384 → Fin 1000 → EReal) (l : Fin 16384 → EReal)
  (hx : ∀ r k, (V c main_arg0 : FVec Ideal S16384x1000 .f32) (ValueIdx.ix2 r k) = x r k)
  (hg : ∀ r k, (V c main_v179 : FVec Ideal S16384x1000 .f32) (ValueIdx.ix2 r k) = g r k)
  (hl : ∀ r, (V c main_v188_3 : FVec Ideal S16384x1 .f32) (ValueIdx.ix2 r 0) = l r)
include hx hg

theorem blk1_row (t : Fin (cfg1 a).N) (i : Fin 8) (r : Fin 16384) (hr : r.val = B t.val * 8 + i.val) :
    prow (iblk1 V a c 0 t) (iblk1 V a c 1 t) i = fun k => x r k + g r k := by
  funext k
  rw [prow, blk1_0 c V hB t i k r hr, blk1_1 c V hB t i k r hr, hx, hg]

/-- The one-hot rows of a launch over the blocks `B`: a row of a visited block is the first maximum's, any other row is kept unless its
    block is visited. -/
theorem second_sample (r : Fin 16384) (k d : Fin 1000) (hd : IsFirst (fun k => x r k + g r k) d) :
    ((dat1 V a c).arrAt 3 (cfg1 a).N : FVec Ideal S16384x1000 .f32) (ValueIdx.ix2 r k) = (if k = d then (1 : EReal) else 0)
      ∨ (∀ n : ℕ, n < dynb1 a.1 0 → B n ≠ r.val / 8) ∧ ((dat1 V a c).arrAt 3 (cfg1 a).N : FVec Ideal S16384x1000 .f32) (ValueIdx.ix2 r k)
        = (V c main_v216_0 : FVec Ideal S16384x1000 .f32) (ValueIdx.ix2 r k) := by
  by_cases hv : ∃ t : Fin (cfg1 a).N, ((cfg1 a).win 3).flush t = true ∧ (ValueIdx.ix2 r k : S16384x1000.Idx) ∈ (((cfg1 a).win 3).blk t).view.set
  · refine Or.inl ?_
    obtain ⟨t, hf, ht⟩ := hv
    have h := (dat1 V a c).arrAt_forall_of_flushed 3
      (fun i v => ∀ (r : Fin 16384) (k d : Fin 1000), (i : S16384x1000.Idx) = ValueIdx.ix2 r k → IsFirst (fun k => x r k + g r k) d → (v : EReal) = if k = d then (1 : EReal) else 0)
      (fun t _ (y : S8x1000.Idx) => ?_) (cfg1 a).N t (ValueIdx.ix2 r k) t.isLt hf ht
    · exact h r k d rfl hd
    · intro r k d hi hd
      have h0 : B t.val * 8 + (y 0).val = r.val := by
        have : _ = r.val := congrArg (fun i : S16384x1000.Idx => (i 0).val) hi
        blk_simp at this
        exact (congrArg (fun f : Fin 2 → ℕ => f 0 * 8 + (y 0).val) (idx1_3 hB t)).symm.trans this
      have h1 : 0 * 1000 + (y 1).val = k.val := by
        have : _ = k.val := congrArg (fun i : S16384x1000.Idx => (i 1).val) hi
        blk_simp at this
        exact (congrArg (fun f : Fin 2 → ℕ => f 1 * 1000 + (y 1).val) (idx1_3 hB t)).symm.trans this
      show (dat1 V a c).after 3 t y = _
      rw [after1_3]
      obtain ⟨i, hi0⟩ : ∃ i : Fin 8, i.val = (y 0).val := ⟨⟨(y 0).val, (y 0).isLt⟩, rfl⟩
      have hy : y = ValueIdx.ix2 i k := by
        funext a
        apply Fin.ext
        fin_cases a
        · exact hi0.symm
        · exact (by omega : (y 1).val = k.val)
      rw [hy]
      refine out1_3_row (c := d) ?_ k
      show IsFirst (prow _ _ _) d
      rw [blk1_row c V hB x g hx hg t i r (by rw [← h0, hi0])]
      exact hd
  · have hv' : ∀ t : Fin (cfg1 a).N, ((cfg1 a).win 3).flush t = true → (ValueIdx.ix2 r k : S16384x1000.Idx) ∉ (((cfg1 a).win 3).blk t).view.set :=
      fun t hf ht => hv ⟨t, hf, ht⟩
    refine Or.inr ⟨fun n hn e => ?_, ?_⟩
    · obtain ⟨t, -, hf, ht⟩ := Pipeline.Window.exists_flush_same_index ((cfg1 a).win 3) rfl (⟨n, lt_of_lt_of_eq hn (points _).symm⟩ : Fin (cfg1 a).N)
      refine hv' t hf ?_
      have ht' := ht.trans (idx1_3 hB _)
      refine (Pipeline.Window.emb_mem_blk_iff ((cfg1 a).win 3) t (ValueIdx.ix2 r k)).2 fun j => ?_
      have hsz : ∀ j : Fin 2, (((cfg1 a).win 3).index t : Fin 2 → ℕ) j = (![B n, 0] : Fin 2 → ℕ) j := fun j => congrFun ht' j
      revert j; show ∀ j : Fin 2, _; intro j
      refine Eq.mpr (congrArg (fun v : ℕ => v * _ ≤ _ ∧ _ < v * _ + _) (hsz j)) ?_
      fin_cases j
      · show B n * 8 ≤ r.val ∧ r.val < B n * 8 + 8
        rw [e]; omega
      · show 0 * 1000 ≤ k.val ∧ k.val < 0 * 1000 + 1000
        omega
    · refine ((dat1 V a c).arrAt_apply_of_forall_not_mem 3 _ _ fun t _ hf => hv' t hf).trans ?_
      rw [A1_eq]
      rfl

include hl in
/-- The log-probabilities of a launch over the blocks `B`: in a visited block that of the first maximum, elsewhere the
    one found. -/
theorem second_logp (r : Fin 16384) (d : Fin 1000) (hd : IsFirst (fun k => x r k + g r k) d) :
    ((dat1 V a c).arrAt 4 (cfg1 a).N : FVec Ideal S16384x1 .f32) (ValueIdx.ix2 r 0) = x r d - l r
      ∨ (∀ n : ℕ, n < dynb1 a.1 0 → B n ≠ r.val / 8) ∧ ((dat1 V a c).arrAt 4 (cfg1 a).N : FVec Ideal S16384x1 .f32) (ValueIdx.ix2 r 0)
        = (V c main_v216_1 : FVec Ideal S16384x1 .f32) (ValueIdx.ix2 r 0) := by
  by_cases hv : ∃ t : Fin (cfg1 a).N, ((cfg1 a).win 4).flush t = true ∧ (ValueIdx.ix2 r 0 : S16384x1.Idx) ∈ (((cfg1 a).win 4).blk t).view.set
  · refine Or.inl ?_
    obtain ⟨t, hf, ht⟩ := hv
    have h := (dat1 V a c).arrAt_forall_of_flushed 4
      (fun i v => ∀ (r : Fin 16384) (d : Fin 1000), (i : S16384x1.Idx) = ValueIdx.ix2 r 0 → IsFirst (fun k => x r k + g r k) d → (v : EReal) = x r d - l r)
      (fun t _ (y : S8x1.Idx) => ?_) (cfg1 a).N t (ValueIdx.ix2 r 0) t.isLt hf ht
    · exact h r d rfl hd
    · intro r d hi hd
      have h0 : B t.val * 8 + (y 0).val = r.val := by
        have : _ = r.val := congrArg (fun i : S16384x1.Idx => (i 0).val) hi
        blk_simp at this
        exact (congrArg (fun f : Fin 2 → ℕ => f 0 * 8 + (y 0).val) (idx1_4 hB t)).symm.trans this
      have h1 : (y 1).val = 0 := Nat.lt_one_iff.1 (y 1).isLt
      show (dat1 V a c).after 4 t y = _
      rw [after1_4]
      obtain ⟨i, hi0⟩ : ∃ i : Fin 8, i.val = (y 0).val := ⟨⟨(y 0).val, (y 0).isLt⟩, rfl⟩
      have hy : y = ValueIdx.ix2 i (0 : Fin 1) := by
        funext a
        apply Fin.ext
        fin_cases a
        · exact hi0.symm
        · exact h1
      rw [hy]
      refine (out1_4_row (c := d) ?_ _).trans (by rw [blk1_0 c V hB t i d r (by rw [← h0, hi0]), blk1_2 c V hB t i r (by rw [← h0, hi0]), hx, hl])
      show IsFirst (prow _ _ _) d
      rw [blk1_row c V hB x g hx hg t i r (by rw [← h0, hi0])]
      exact hd
  · have hv' : ∀ t : Fin (cfg1 a).N, ((cfg1 a).win 4).flush t = true → (ValueIdx.ix2 r 0 : S16384x1.Idx) ∉ (((cfg1 a).win 4).blk t).view.set :=
      fun t hf ht => hv ⟨t, hf, ht⟩
    refine Or.inr ⟨fun n hn e => ?_, ?_⟩
    · obtain ⟨t, -, hf, ht⟩ := Pipeline.Window.exists_flush_same_index ((cfg1 a).win 4) rfl (⟨n, lt_of_lt_of_eq hn (points _).symm⟩ : Fin (cfg1 a).N)
      refine hv' t hf ?_
      have ht' := ht.trans (idx1_4 hB _)
      refine (Pipeline.Window.emb_mem_blk_iff ((cfg1 a).win 4) t (ValueIdx.ix2 r 0)).2 fun j => ?_
      have hsz : ∀ j : Fin 2, (((cfg1 a).win 4).index t : Fin 2 → ℕ) j = (![B n, 0] : Fin 2 → ℕ) j := fun j => congrFun ht' j
      revert j; show ∀ j : Fin 2, _; intro j
      refine Eq.mpr (congrArg (fun v : ℕ => v * _ ≤ _ ∧ _ < v * _ + _) (hsz j)) ?_
      fin_cases j
      · show B n * 8 ≤ r.val ∧ r.val < B n * 8 + 8
        rw [e]; omega
      · show 0 * 1 ≤ 0 ∧ 0 < 0 * 1 + 1
        omega
    · refine ((dat1 V a c).arrAt_apply_of_forall_not_mem 4 _ _ fun t _ hf => hv' t hf).trans ?_
      rw [A1_eq]
      rfl

end Launch

/-! ## The answer -/

theorem visits : Visits (adm1 m (tables_ok m)) (blkAt m) := by
  intro t
  have h := transform_eq m ((grid1.at (dynb1 (tbl m))).coords t)
  exact h.trans (congrArg (fun n => ![blkAt m n, 0]) (coord_val _ t))

theorem noise_real (r : Fin 16384) (k : Fin 1000) : ∃ g : ℝ, noise r k = (g : EReal) ∧ |cn r k - g| ≤ marginR / 2 := by
  obtain ⟨g, hg, -⟩ := gum_eq (wordAt r k)
  exact ⟨g, hg, decode_near _ g hg⟩

/-- A row that is not marked already has the right first maximum. -/
theorem unmarked (r : Fin 16384) (h0 : mark m r.val ≠ 1) (d : Fin 1000) (hd : IsFirst (es m 0 r) d) : IsFirst (cs m 0 r) d := by
  obtain ⟨d', hd'⟩ := exists_isFirst (cs m 0 r)
  choose g hg hn using noise_real r
  have hlt : rest (cs m 0 r) d' < cs m 0 r d' - (marginR : EReal) := by
    by_contra hle
    refine h0 ?_
    have h := first_mark m 0 r d' hd'
    rw [if_pos (not_lt.1 hle)] at h
    unfold mark
    rw [dif_pos r.isLt]
    exact congrArg BitVec.toNat h
  have he : IsFirst (es m 0 r) d' := by
    have := agree (x := lg m 0 r) (q := cn r) (g := g) (δ := marginR / 2) (M := marginR) hn (by linarith) hlt
    have e : es m 0 r = fun j => lg m 0 r j + (g j : EReal) := by
      funext j
      rw [es, hg]
    rw [e]
    exact this
  rwa [hd.eq he]

/-- A marked row has two actions within the tolerance of its maximum under the exact noise. -/
theorem marked (r : Fin 16384) (h1 : mark m r.val = 1) :
    ∃ i j : Fin 1000, i ≠ j ∧ peak (es m 0 r) - (tolR : EReal) ≤ es m 0 r i ∧ peak (es m 0 r) - (tolR : EReal) ≤ es m 0 r j := by
  obtain ⟨d, hd⟩ := exists_isFirst (cs m 0 r)
  choose g hg hn using noise_real r
  have e : es m 0 r = fun j => lg m 0 r j + (g j : EReal) := by
    funext j
    rw [es, hg]
  rw [e]
  refine close (x := lg m 0 r) (q := cn r) (g := g) (δ := marginR / 2) (M := marginR) (by norm_num) hn (by norm_num [marginR]) (by norm_num [marginR, tolR]) (c := d) hd.1 ?_
  by_contra hlt
  have h := first_mark m 0 r d hd
  rw [if_neg (show ¬ cs m 0 r d - (marginR : EReal) ≤ rest (cs m 0 r) d from hlt)] at h
  unfold mark at h1
  rw [dif_pos r.isLt] at h1
  have := congrArg BitVec.toNat h
  exact absurd (h1.symm.trans this) (by decide)

/-- With at most 512 marked rows, the block of every marked row is visited. -/
theorem visited (hm : marks (mark m) 16383 ≤ 512) (r : Fin 16384) (h1 : mark m r.val = 1) : ∃ n < dynb1 (tbl m) 0, blkAt m n = r.val / 8 := by
  have hp := marks_pos (mark m) r.val h1
  have hle : marks (mark m) r.val ≤ marks (mark m) 16383 := marks_mono (mark m) (by omega)
  refine ⟨marks (mark m) r.val - 1, ?_, ?_⟩
  · rw [tbl_count]
    show _ < nRows m
    unfold nRows
    omega
  · unfold blkAt rowAt
    rw [if_neg (by omega), slot_mark _ _ _ r.isLt h1, Nat.mod_eq_of_lt r.isLt]

/-- **The one-hot array the program leaves.** -/
theorem answer_sample (hm : marks (mark m) 16383 ≤ 512) (r : Fin 16384) (k d : Fin 1000) (hd : IsFirst (es m 0 r) d) :
    (V20 m (outs m (tables_ok m)) 0 main_v216_0 : FVec Ideal S16384x1000 .f32) (ValueIdx.ix2 r k) = if k = d then (1 : EReal) else 0 := by
  have e : V20 m (outs m (tables_ok m)) 0 main_v216_0 = _ := (V20_eq m (tables_ok m) 0 main_v216_0).symm.trans
    (Pipeline.afterRegion_arr (dat1 (W19 m) (adm1 m (tables_ok m)) 0) (W19 m 0) (launch1 (F := Ideal)).win.arr_inj 3)
  rw [e]
  rcases second_sample 0 (W19 m) (visits m) (lg m 0) (fun r k => noise r k) (fun r k => by rw [W19_arg0]; rfl) (W19_noise m 0) r k d hd with h | ⟨hv, h⟩
  · exact h
  · refine h.trans ?_
    rw [W19_sample]
    refine first_sample m 0 r k d (unmarked m r (fun h1 => ?_) d hd)
    obtain ⟨n, hn, hb⟩ := visited m hm r h1
    exact hv n hn hb

/-- **The log-probabilities the program leaves.** -/
theorem answer_logp (hm : marks (mark m) 16383 ≤ 512) (r : Fin 16384) (d : Fin 1000) (hd : IsFirst (es m 0 r) d) :
    (V20 m (outs m (tables_ok m)) 0 main_v216_1 : FVec Ideal S16384x1 .f32) (ValueIdx.ix2 r 0) = lg m 0 r d - ls m 0 r := by
  have e : V20 m (outs m (tables_ok m)) 0 main_v216_1 = _ := (V20_eq m (tables_ok m) 0 main_v216_1).symm.trans
    (Pipeline.afterRegion_arr (dat1 (W19 m) (adm1 m (tables_ok m)) 0) (W19 m 0) (launch1 (F := Ideal)).win.arr_inj 4)
  rw [e]
  rcases second_logp 0 (W19 m) (visits m) (lg m 0) (fun r k => noise r k) (ls m 0) (fun r k => by rw [W19_arg0]; rfl) (W19_noise m 0) (W19_lse m 0) r d hd with h | ⟨hv, h⟩
  · exact h
  · refine h.trans ?_
    rw [W19_logp]
    refine first_logp m 0 r d (unmarked m r (fun h1 => ?_) d hd)
    obtain ⟨n, hn, hb⟩ := visited m hm r h1
    exact hv n hn hb

end Cert.KernelIdeal.Reg

end
-- ==== Proof.Lib.Keys.lean ====
/- Two scalars laid end to end and cut apart again. -/
module

public import Idealize.ShloMosaic.Lib.Pipeline.Value
public import Idealize.ShloMosaic.Lib.ValueIdx

@[expose] public section

namespace Cert.Keys

open Idealize.ShloMosaic Idealize.ShloMosaic.ValueIdx

/-- The first of two one-element vectors laid end to end. -/
theorem first {α : Type} (a b : (⟨1, ![1]⟩ : Shape).Idx → α) (v : α) (hc) (hs) (h) (ha : a (ValueIdx.ix1 (0 : Fin 1)) = v) :
    shapeCast (⟨0, ![]⟩ : Shape) (extractStridedSlice (⟨1, ![1]⟩ : Shape) ![0] (concatenate (⟨1, ![2]⟩ : Shape) 0 [⟨⟨1, ![1]⟩, a⟩, ⟨⟨1, ![1]⟩, b⟩] hc) hs) h = fun _ => v := by
  funext j
  refine (shapeCast_apply _ h j (ValueIdx.ix1 (0 : Fin 1)) ?_).trans ?_
  · have h1 := ((⟨0, ![]⟩ : Shape).rowMajor j).isLt
    have h2 : (⟨0, ![]⟩ : Shape).numel = 1 := rfl
    rw [Shape.rowMajor_val_one]
    show 0 = _
    omega
  · rw [← ha]
    unfold extractStridedSlice
    exact concatenate_pair_apply_left (s₁ := ⟨1, ![1]⟩) (s₂ := ⟨1, ![1]⟩) (t := ⟨1, ![2]⟩) (0 : Fin 1) a b hc _ rfl _ fun c => by fin_cases c; rfl

/-- The second. -/
theorem second {α : Type} (a b : (⟨1, ![1]⟩ : Shape).Idx → α) (v : α) (hc) (hs) (h) (hb : b (ValueIdx.ix1 (0 : Fin 1)) = v) :
    shapeCast (⟨0, ![]⟩ : Shape) (extractStridedSlice (⟨1, ![1]⟩ : Shape) ![1] (concatenate (⟨1, ![2]⟩ : Shape) 0 [⟨⟨1, ![1]⟩, a⟩, ⟨⟨1, ![1]⟩, b⟩] hc) hs) h = fun _ => v := by
  funext j
  refine (shapeCast_apply _ h j (ValueIdx.ix1 (0 : Fin 1)) ?_).trans ?_
  · have h1 := ((⟨0, ![]⟩ : Shape).rowMajor j).isLt
    have h2 : (⟨0, ![]⟩ : Shape).numel = 1 := rfl
    rw [Shape.rowMajor_val_one]
    show 0 = _
    omega
  · rw [← hb]
    unfold extractStridedSlice
    exact concatenate_pair_apply_right (s₁ := ⟨1, ![1]⟩) (s₂ := ⟨1, ![1]⟩) (t := ⟨1, ![2]⟩) (0 : Fin 1) a b hc _ rfl rfl (ValueIdx.ix1 (0 : Fin 1))
      (fun c hn => by fin_cases c; exact absurd rfl hn) rfl

theorem counter (r a : ℕ) (hr : r < 16384) (ha : a < 1000) : (1000#64 * BitVec.ofNat 64 r + 1#64 * BitVec.ofNat 64 a).toNat = r * 1000 + a := by
  simp only [BitVec.toNat_add, BitVec.toNat_mul, BitVec.toNat_ofNat]
  omega

/-- The counter of a row and an action in 64-bit words: its low half, and its high half. -/
theorem counter_low (r a : ℕ) (hr : r < 16384) (ha : a < 1000) : (1000#64 * BitVec.ofNat 64 r + 1#64 * BitVec.ofNat 64 a).setWidth 32 = BitVec.ofNat 32 (r * 1000 + a) := by
  apply BitVec.eq_of_toNat_eq
  rw [BitVec.toNat_setWidth, counter r a hr ha, BitVec.toNat_ofNat]

theorem counter_high (r a : ℕ) (hr : r < 16384) (ha : a < 1000) :
    (IntOp.shrui .host (1000#64 * BitVec.ofNat 64 r + 1#64 * BitVec.ofNat 64 a) 32#64).setWidth 32 = 0#32 := by
  apply BitVec.eq_of_toNat_eq
  have e : IntOp.shrui .host (1000#64 * BitVec.ofNat 64 r + 1#64 * BitVec.ofNat 64 a) 32#64 = (1000#64 * BitVec.ofNat 64 r + 1#64 * BitVec.ofNat 64 a) >>> 32 := rfl
  rw [e, BitVec.toNat_setWidth, BitVec.toNat_ushiftRight, counter r a hr ha, Nat.shiftRight_eq_div_pow, Nat.div_eq_of_lt (by omega)]
  rfl

end Cert.Keys
-- ==== Proof.Ref.Noise.lean ====
/- The reference's random words and its noise, at a row and an action. -/
module

public import proofs.«01_k».proof.Proof.Ref.Run
public import proofs.«01_k».proof.Proof.Lib.Gumbel
public import proofs.«01_k».proof.Proof.Lib.Keys
public import Idealize.ShloMosaic.Lib.ValueIdx

@[expose] public section

set_option maxRecDepth 65536

noncomputable section

namespace Cert.ReferenceIdeal.Reg

open Cert.Threefry Cert.Gumbel
open Idealize.ShloMosaic Idealize.ShloMosaic.TcCoe Idealize.ShloMosaic.Tactic Idealize.ShloMosaic.ValueIdx
open Idealize.ShloMosaic.StableHlo (after)

section
variable {F : FTy → Type} [FloatOps F] (X : Valuation τ sig (Elt F)) (i : S16384x1000.Idx)

/-- Operations `n` to `n + k - 1`. -/
abbrev piece (n k : ℕ) : List (HloOp τ sig (Elt F)) := (ops.drop n).take k

/-- The key words and the counters. -/
theorem noise_counter :
    (after (piece 0 28) X main_v8 : IVec S_ 32) = (fun _ => 0#32) ∧ (after (piece 0 28) X main_v10 : IVec S_ 32) = (fun _ => 42#32)
      ∧ (after (piece 0 28) X main_v20 : IVec S16384x1000 32) i = ((1000#64 * BitVec.ofNat 64 (i 0).val + 1#64 * BitVec.ofNat 64 (i 1).val).setWidth 32)
      ∧ (after (piece 0 28) X main_v21 : IVec S16384x1000 32) i
        = ((IntOp.shrui .host (1000#64 * BitVec.ofNat 64 (i 0).val + 1#64 * BitVec.ofNat 64 (i 1).val) 32#64).setWidth 32) := by
  simp only [piece, ops, line, List.drop_succ_cons, List.take_succ_cons, List.drop_zero, List.take_zero]
  refine ⟨?_, ?_, ?_, ?_⟩
  · after_results
    exact Keys.first _ _ _ _ _ _ rfl
  · after_results
    exact Keys.second _ _ _ _ _ _ rfl
  · after_results
    rfl
  · after_results
    rfl

/-- The sums the rounds start from, and the third key word. -/
theorem noise_start (a b h l : BitVec 32) (hh : (X main_v21 : IVec S16384x1000 32) i = h) (hl : (X main_v20 : IVec S16384x1000 32) i = l) (h8 : (X main_v8 : IVec S_ 32) = fun _ => a) (h10 : (X main_v10 : IVec S_ 32) = fun _ => b) :
    ((after (piece 28 8) X main_call0_v6 : IVec S16384x1000 32) i, (after (piece 28 8) X main_call0_v5 : IVec S16384x1000 32) i)
      = (h + a + (l + b), l + b)
      ∧ (after (piece 28 8) X main_call0_v1 : IVec S_ 32) = fun _ => IntOp.xori (IntOp.xori a b) 466688986#32 := by
  simp only [piece, ops, line, List.drop_succ_cons, List.take_succ_cons, List.drop_zero, List.take_zero]
  constructor
  · after_results
    simp -implicitDefEqProofs only [StableHlo.TRef.toBuf, StableHlo.TRef.ofBuf, cast_cast, cast_eq]
    rw [h8, h10, ← hh, ← hl]
    rfl
  · after_results
    simp -implicitDefEqProofs only [StableHlo.TRef.toBuf, StableHlo.TRef.ofBuf, cast_cast, cast_eq]
    rw [h8, h10]
    rfl

/-- The key words and their xor are in place. -/
def Words (a b x : BitVec 32) : Prop :=
  (X main_v8 : IVec S_ 32) = (fun _ => a) ∧ (X main_v10 : IVec S_ 32) = (fun _ => b) ∧ (X main_call0_v1 : IVec S_ 32) = fun _ => x

theorem noise_words (a b : BitVec 32) (h8 : (X main_v8 : IVec S_ 32) = fun _ => a) (h10 : (X main_v10 : IVec S_ 32) = fun _ => b) :
    Words (after (piece 28 8) X) a b (IntOp.xori (IntOp.xori a b) 466688986#32) := by
  refine ⟨?_, ?_, (noise_start X (ValueIdx.ix2 (0 : Fin 16384) (0 : Fin 1000)) a b _ _ rfl rfl h8 h10).2⟩ <;>
    simp only [piece, ops, line, List.drop_succ_cons, List.take_succ_cons, List.drop_zero, List.take_zero] <;> after_results
  · exact h8
  · exact h10

/-- Rounds 1 to 4 and their key. -/
theorem noise_group1 (a b x : BitVec 32) (h : Words X a b x) :
    ((after (piece 36 43) X main_call0_v40 : IVec S16384x1000 32) i, (after (piece 36 43) X main_call0_v39 : IVec S16384x1000 32) i)
      = keyed' b x 1 (rounds turn' rotA ((X main_call0_v6 : IVec S16384x1000 32) i, (X main_call0_v5 : IVec S16384x1000 32) i))
      ∧ Words (after (piece 36 43) X) a b x := by
  obtain ⟨ha, hb, hx⟩ := h
  simp only [Words, piece, ops, line, List.drop_succ_cons, List.take_succ_cons, List.drop_zero, List.take_zero]
  constructor
  · after_results
    simp -implicitDefEqProofs only [StableHlo.TRef.toBuf, StableHlo.TRef.ofBuf, cast_cast, cast_eq]
    simp only [ha, hb, hx]
    rfl
  · after_results
    exact ⟨ha, hb, hx⟩

/-- Rounds 5 to 8 and their key. -/
theorem noise_group2 (a b x : BitVec 32) (h : Words X a b x) :
    ((after (piece 79 43) X main_call0_v74 : IVec S16384x1000 32) i, (after (piece 79 43) X main_call0_v73 : IVec S16384x1000 32) i)
      = keyed' x a 2 (rounds turn' rotB ((X main_call0_v40 : IVec S16384x1000 32) i, (X main_call0_v39 : IVec S16384x1000 32) i))
      ∧ Words (after (piece 79 43) X) a b x := by
  obtain ⟨ha, hb, hx⟩ := h
  simp only [Words, piece, ops, line, List.drop_succ_cons, List.take_succ_cons, List.drop_zero, List.take_zero]
  constructor
  · after_results
    simp -implicitDefEqProofs only [StableHlo.TRef.toBuf, StableHlo.TRef.ofBuf, cast_cast, cast_eq]
    simp only [ha, hb, hx]
    rfl
  · after_results
    exact ⟨ha, hb, hx⟩

/-- Rounds 9 to 12 and their key. -/
theorem noise_group3 (a b x : BitVec 32) (h : Words X a b x) :
    ((after (piece 122 43) X main_call0_v108 : IVec S16384x1000 32) i, (after (piece 122 43) X main_call0_v107 : IVec S16384x1000 32) i)
      = keyed' a b 3 (rounds turn' rotA ((X main_call0_v74 : IVec S16384x1000 32) i, (X main_call0_v73 : IVec S16384x1000 32) i))
      ∧ Words (after (piece 122 43) X) a b x := by
  obtain ⟨ha, hb, hx⟩ := h
  simp only [Words, piece, ops, line, List.drop_succ_cons, List.take_succ_cons, List.drop_zero, List.take_zero]
  constructor
  · after_results
    simp -implicitDefEqProofs only [StableHlo.TRef.toBuf, StableHlo.TRef.ofBuf, cast_cast, cast_eq]
    simp only [ha, hb, hx]
    rfl
  · after_results
    exact ⟨ha, hb, hx⟩

/-- Rounds 13 to 16 and their key. -/
theorem noise_group4 (a b x : BitVec 32) (h : Words X a b x) :
    ((after (piece 165 43) X main_call0_v142 : IVec S16384x1000 32) i, (after (piece 165 43) X main_call0_v141 : IVec S16384x1000 32) i)
      = keyed' b x 4 (rounds turn' rotB ((X main_call0_v108 : IVec S16384x1000 32) i, (X main_call0_v107 : IVec S16384x1000 32) i))
      ∧ Words (after (piece 165 43) X) a b x := by
  obtain ⟨ha, hb, hx⟩ := h
  simp only [Words, piece, ops, line, List.drop_succ_cons, List.take_succ_cons, List.drop_zero, List.take_zero]
  constructor
  · after_results
    simp -implicitDefEqProofs only [StableHlo.TRef.toBuf, StableHlo.TRef.ofBuf, cast_cast, cast_eq]
    simp only [ha, hb, hx]
    rfl
  · after_results
    exact ⟨ha, hb, hx⟩

/-- The last rounds, and the two words xored. -/
theorem noise_group5 (a b x : BitVec 32) (h : Words X a b x) :
    (after (piece 208 43) X main_v23 : IVec S16384x1000 32) i
      = (let p := rounds turn' rotA ((X main_call0_v142 : IVec S16384x1000 32) i, (X main_call0_v141 : IVec S16384x1000 32) i); IntOp.xori (p.1 + x) (p.2 + a + 5)) := by
  obtain ⟨ha, hb, hx⟩ := h
  simp only [piece, ops, line, List.drop_succ_cons, List.take_succ_cons, List.drop_zero, List.take_zero]
  after_results
  simp -implicitDefEqProofs only [StableHlo.TRef.toBuf, StableHlo.TRef.ofBuf, cast_cast, cast_eq]
  simp only [ha, hb, hx]
  rfl

/-- The random word at a row and an action. -/
theorem noise_word (r : Fin 16384) (j : Fin 1000) : (after (ops.take 251) X main_v23 : IVec S16384x1000 32) (ValueIdx.ix2 r j) = wordAt r j := by
  have e : after (ops.take 251) X
      = after (piece 208 43) (after (piece 165 43) (after (piece 122 43) (after (piece 79 43) (after (piece 36 43) (after (piece 28 8) (after (piece 0 28) X)))))) := by
    rw [after_split 28]
    rw [after_split 8 (List.drop 28 _)]
    rw [after_split 43 (List.drop 8 (List.drop 28 _))]
    rw [after_split 43 (List.drop 43 (List.drop 8 (List.drop 28 _)))]
    rw [after_split 43 (List.drop 43 (List.drop 43 (List.drop 8 (List.drop 28 _))))]
    rw [after_split 43 (List.drop 43 (List.drop 43 (List.drop 43 (List.drop 8 (List.drop 28 _)))))]
    rfl
  obtain ⟨h8, h10, h20, h21⟩ := noise_counter X (ValueIdx.ix2 r j)
  have w0 := noise_words _ _ _ h8 h10
  have s0 := (noise_start _ (ValueIdx.ix2 r j) _ _ _ _ h21 h20 h8 h10).1
  obtain ⟨g1, w1⟩ := noise_group1 _ (ValueIdx.ix2 r j) _ _ _ w0
  obtain ⟨g2, w2⟩ := noise_group2 _ (ValueIdx.ix2 r j) _ _ _ w1
  obtain ⟨g3, w3⟩ := noise_group3 _ (ValueIdx.ix2 r j) _ _ _ w2
  obtain ⟨g4, w4⟩ := noise_group4 _ (ValueIdx.ix2 r j) _ _ _ w3
  rw [e, noise_group5 _ _ _ _ _ w4, g4, g3, g2, g1, s0]
  have e1 := Keys.counter_low r.val j.val r.isLt j.isLt
  have e2 := Keys.counter_high r.val j.val r.isLt j.isLt
  refine Eq.trans (?_ : _ = word' 0#32 42#32 0#32 (BitVec.ofNat 32 (r.val * 1000 + j.val))) (word'_eq _)
  rw [← e1, ← e2]
  rfl

end

/-! ## From the words to the perturbed logits -/

section
variable (X : Valuation τ sig (Elt Ideal))

/-- The perturbed logits, from the words. -/
theorem noise_sum (w : BitVec 32) (i : S16384x1000.Idx) (h : (X main_v23 : IVec S16384x1000 32) i = w) :
    (after (piece 251 18) X main_v37 : FVec Ideal S16384x1000 .f32) i = gum (unif w) + (X main_arg0 : FVec Ideal S16384x1000 .f32) i := by
  subst h
  simp only [piece, ops, line, List.drop_succ_cons, List.take_succ_cons, List.drop_zero, List.take_zero]
  after_results
  rfl

/-- The reference's argument is as it was. -/
theorem noise_arg0 : after (ops.take 251) X main_arg0 = X main_arg0 := by
  simp only [ops, line, List.take_succ_cons, List.take_zero]
  after_results

end

end Cert.ReferenceIdeal.Reg

end
-- ==== Proof.Ref.Value.lean ====
/- The reference's two results, row by row: the one-hot row of the first action at which logit plus noise is greatest, and that action's
   logit less the logarithm of the row's sum of exponentials. -/
module

public import proofs.«01_k».proof.Proof.Ref.Noise
public import proofs.«01_k».proof.Proof.Lib.RowOps
public import proofs.«01_k».proof.Proof.Lib.RowKernel
public import Idealize.ShloMosaic.Lib.ValueLayoutCasts

@[expose] public section

set_option maxRecDepth 65536

noncomputable section

namespace Cert.ReferenceIdeal.Reg

open Cert.ReferenceIdeal.Gen Cert.Threefry Cert.Gumbel Cert.Row
open Idealize.ShloMosaic Idealize.ShloMosaic.TcCoe Idealize.ShloMosaic.Tactic Idealize.ShloMosaic.ValueIdx
open Idealize.ShloMosaic.StableHlo (after)

/-! ## Small words -/

theorem toInt_small (c : Fin 1000) : (BitVec.ofNat 32 c.val).toInt = (c.val : ℤ) := by
  have h : (BitVec.ofNat 32 c.val).toNat = c.val := by
    rw [BitVec.toNat_ofNat, Nat.mod_eq_of_lt (by have := c.isLt; omega)]
  rw [BitVec.toInt_eq_toNat_of_lt (by rw [h]; have := c.isLt; omega), h]

theorem eq_small (c k : Fin 1000) : IntOp.cmpi .eq (BitVec.ofNat 32 c.val) (BitVec.ofNat 32 k.val) = BitVec.ofBool (decide (k = c)) := by
  by_cases h : k = c
  · subst h
    simp [IntOp.cmpi]
  · have hne : BitVec.ofNat 32 c.val ≠ BitVec.ofNat 32 k.val := fun e => by
      have := congrArg BitVec.toInt e
      rw [toInt_small, toInt_small] at this
      exact h (Fin.ext (by omega))
    show BitVec.ofBool (BitVec.ofNat 32 c.val == BitVec.ofNat 32 k.val) = _
    rw [beq_eq_false_iff_ne.2 hne, decide_eq_false h]

theorem slt_small (c : Fin 1000) : IntOp.cmpi .slt (BitVec.ofNat 32 c.val) 0#32 = 0#1 := by
  show BitVec.ofBool (decide ((BitVec.ofNat 32 c.val).toInt < (0#32).toInt)) = _
  rw [toInt_small, decide_eq_false (by rw [show (0#32).toInt = 0 from by decide]; omega)]
  rfl

theorem range_small (c : Fin 1000) : IntOp.andi (IntOp.cmpi .sge (BitVec.ofNat 32 c.val) 0#32) (IntOp.cmpi .sle (BitVec.ofNat 32 c.val) 999#32) = 1#1 := by
  have h1 : IntOp.cmpi .sge (BitVec.ofNat 32 c.val) 0#32 = 1#1 := by
    show BitVec.ofBool (decide ((0#32).toInt ≤ (BitVec.ofNat 32 c.val).toInt)) = _
    rw [toInt_small, decide_eq_true (by rw [show (0#32).toInt = 0 from by decide]; omega)]
    rfl
  have h2 : IntOp.cmpi .sle (BitVec.ofNat 32 c.val) 999#32 = 1#1 := by
    show BitVec.ofBool (decide ((BitVec.ofNat 32 c.val).toInt ≤ (999#32).toInt)) = _
    rw [toInt_small, decide_eq_true (by rw [show (999#32).toInt = 999 from by decide]; have := c.isLt; omega)]
    rfl
  rw [h1, h2]
  rfl

/-! ## Rows repeated, and an action picked from each row -/

section
variable {α : Type}

theorem bcast_vec (v : S16384.Idx → α) (h : S16384.BroadcastsInDim S16384x1 (![0] : Fin 1 → Fin S16384x1.rank)) (r : Fin 16384) :
    broadcastInDim S16384x1 ![0] h v (ix2 r 0) = v (ix1 r) := by
  simp only [broadcastInDim]
  congr 1
  funext a
  fin_cases a
  rfl

theorem bcast_mat (v : S16384x1.Idx → α) (h : S16384x1.BroadcastsInDim S16384x1000 (![0, 1] : Fin 2 → Fin S16384x1000.rank)) (r : Fin 16384) (k : Fin 1000) :
    broadcastInDim S16384x1000 ![0, 1] h v (ix2 r k) = v (ix2 r 0) := by
  simp only [broadcastInDim]
  congr 1
  funext a
  fin_cases a <;> rfl

theorem bcast_row (v : S1x1000.Idx → α) (h : S1x1000.BroadcastsInDim S16384x1000 (![0, 1] : Fin 2 → Fin S16384x1000.rank)) (r : Fin 16384) (k : Fin 1000) :
    broadcastInDim S16384x1000 ![0, 1] h v (ix2 r k) = v (ix2 0 k) := by
  simp only [broadcastInDim]
  congr 1
  funext a
  fin_cases a <;> rfl

/-- The entry of each row at the place an index column names. -/
theorem take_row (x : S16384x1000.Idx → α) (idx : IVec S16384x1x1 32) (r : Fin 16384) (c : Fin 1000) (h : idx (ix3 r 0 0) = BitVec.ofNat 32 c.val) :
    Host.gather gather_S16384x1000_S16384x1x1_S16384x1_n_1_0_0_1_2_11 x idx (ix2 r 0) = x (ix2 r c) := by
  unfold Host.gather
  congr 1
  funext a
  apply Fin.ext
  have hs : ∀ c', gather_S16384x1000_S16384x1x1_S16384x1_n_1_0_0_1_2_11.siIdx (ix2 r 0 : S16384x1.Idx) c' = (ix3 r 0 0 : S16384x1x1.Idx) := by
    intro c'
    funext b
    fin_cases b
    · rfl
    · rfl
    · apply Fin.ext
      exact Nat.lt_one_iff.1 c'.isLt
  fin_cases a
  · show GatherDims.start _ _ _ _ + GatherDims.batchCoord _ _ _ + GatherDims.offCoord _ _ _ = r.val
    have h1 : GatherDims.start gather_S16384x1000_S16384x1x1_S16384x1_n_1_0_0_1_2_11 (ix2 r 0 : S16384x1.Idx) idx 0 = 0 := rfl
    have h2 : GatherDims.batchCoord gather_S16384x1000_S16384x1x1_S16384x1_n_1_0_0_1_2_11 (ix2 r 0 : S16384x1.Idx) 0 = r.val := rfl
    have h3 : GatherDims.offCoord gather_S16384x1000_S16384x1x1_S16384x1_n_1_0_0_1_2_11 (ix2 r 0 : S16384x1.Idx) 0 = 0 := rfl
    exact (congrArg₂ (· + ·) (congrArg₂ (· + ·) h1 h2) h3).trans (by omega)
  · show GatherDims.start _ _ _ _ + GatherDims.batchCoord _ _ _ + GatherDims.offCoord _ _ _ = c.val
    have h1 : GatherDims.start gather_S16384x1000_S16384x1x1_S16384x1_n_1_0_0_1_2_11 (ix2 r 0 : S16384x1.Idx) idx 1 = c.val := by
      have e : GatherDims.start gather_S16384x1000_S16384x1x1_S16384x1_n_1_0_0_1_2_11 (ix2 r 0 : S16384x1.Idx) idx 1
          = min (idx (gather_S16384x1000_S16384x1x1_S16384x1_n_1_0_0_1_2_11.siIdx (ix2 r 0 : S16384x1.Idx) ⟨0, by decide⟩)).toInt.toNat 999 := rfl
      rw [e, hs, h, toInt_small]
      have := c.isLt
      omega
    have h2 : GatherDims.batchCoord gather_S16384x1000_S16384x1x1_S16384x1_n_1_0_0_1_2_11 (ix2 r 0 : S16384x1.Idx) 1 = 0 := rfl
    have h3 : GatherDims.offCoord gather_S16384x1000_S16384x1x1_S16384x1_n_1_0_0_1_2_11 (ix2 r 0 : S16384x1.Idx) 1 = 0 := rfl
    exact (congrArg₂ (· + ·) (congrArg₂ (· + ·) h1 h2) h3).trans (by omega)

end

/-- The index column of the words `v`, none of them negative. -/
theorem col_word (v : IVec S16384 32) (h0 h1 h2 hs) (r : Fin 16384) (c : Fin 1000) (hc : v (ix1 r) = BitVec.ofNat 32 c.val) :
    shapeCast S16384x1x1 (select (cmpi .slt (broadcastInDim S16384x1 ![0] h0 v) (broadcastInDim S16384x1 ![] h1 (constantI S_ 32 0#32)))
      (addi (broadcastInDim S16384x1 ![0] h0 v) (broadcastInDim S16384x1 ![] h2 (constantI S_ 32 1000#32))) (broadcastInDim S16384x1 ![0] h0 v)) hs (ix3 r 0 0)
      = BitVec.ofNat 32 c.val := by
  refine (shapeCast_apply _ hs (ix3 r 0 0 : S16384x1x1.Idx) (ix2 r 0 : S16384x1.Idx) ?_).trans ?_
  · rw [Shape.rowMajor_val_three, Shape.rowMajor_val_two]
    show r.val * 1 + 0 = (r.val * 1 + 0) * 1 + 0
    omega
  · show Scalar.select (IntOp.cmpi .slt (broadcastInDim S16384x1 ![0] h0 v (ix2 r 0)) 0#32) _ (broadcastInDim S16384x1 ![0] h0 v (ix2 r 0)) = _
    rw [bcast_vec, hc, slt_small]
    rfl

theorem fold_one (f : Fin 1 → BitVec 1) (b : BitVec 1) : (Finset.univ : Finset (Fin 1)).fold IntOp.andi b f = IntOp.andi (f 0) b := by
  rw [Finset.univ_unique, Finset.fold_singleton]
  rfl

/-- Every index is in range. -/
theorem in_range (idx : IVec S16384x1x1 32) (h0 h1 h2) (h' : S16384x1x1.ReducesTo [2] S16384x1) (hu : 0 < S_.numel) (r : Fin 16384) (c : Fin 1000) (hc : idx (ix3 r 0 0) = BitVec.ofNat 32 c.val) :
    Host.reduce IntOp.andi (andi (cmpi .sge idx (broadcastInDim S16384x1x1 ![] h0 (constantI S_ 32 0#32)))
      (cmpi .sle idx (broadcastInDim S16384x1x1 ![0, 1, 2] h1 (broadcastInDim S1x1x1 ![2] h2 (constantI S1 32 999#32))))) (constantI S_ 1 1#1) h' hu (ix2 r 0 : S16384x1.Idx) = 1#1 := by
  have hr : S16384x1x1.Reduces [2] S16384x1 := by decide
  rw [Host.reduce_eq_fold_single _ _ _ h' hr]
  have e : (hr.lift (ix2 r 0 : S16384x1.Idx) (0 : Fin 1) : S16384x1x1.Idx) = ix3 r 0 0 := by
    funext b
    apply Fin.ext
    refine (Shape.Reduces.lift_val hr (ix2 r 0 : S16384x1.Idx) (0 : Fin 1) b).trans ?_
    fin_cases b <;> rfl
  refine (fold_one _ _).trans ?_
  show IntOp.andi (IntOp.andi (IntOp.cmpi .sge (idx (hr.lift (ix2 r 0 : S16384x1.Idx) (0 : Fin 1))) 0#32) (IntOp.cmpi .sle (idx (hr.lift (ix2 r 0 : S16384x1.Idx) (0 : Fin 1))) 999#32)) 1#1 = _
  rw [e, hc, range_small]
  rfl

/-- The reference's reduction keeps the better of two entries. -/
theorem reducer_eq : (reducer_argmax_f32_i32 (F := Ideal)) = better := by
  funext a b
  have e1 : FloatOps.cmpf (F := Ideal) (φ := .f32) .ogt a.1 b.1 = BitVec.ofBool (decide (b.1 < a.1)) := rfl
  have e2 : FloatOps.cmpf (F := Ideal) (φ := .f32) .une a.1 a.1 = 0#1 := by
    show BitVec.ofBool (decide (a.1 ≠ a.1)) = _
    simp
  have e3 : FloatOps.cmpf (F := Ideal) (φ := .f32) .oeq a.1 b.1 = BitVec.ofBool (decide (a.1 = b.1)) := rfl
  have e4 : IntOp.cmpi .slt a.2 b.2 = BitVec.ofBool (decide (a.2.toInt < b.2.toInt)) := rfl
  unfold reducer_argmax_f32_i32 better
  simp only [e1, e2, e3, e4]
  have o1 : ∀ p : Prop, ∀ [Decidable p], IntOp.ori (BitVec.ofBool (decide p)) 0#1 = BitVec.ofBool (decide p) := by
    intro p _
    by_cases h : p <;> simp [h] <;> rfl
  have o2 : ∀ p q s : Prop, ∀ [Decidable p] [Decidable q] [Decidable s], IntOp.ori (BitVec.ofBool (decide p)) (IntOp.andi (BitVec.ofBool (decide q)) (BitVec.ofBool (decide s)))
      = BitVec.ofBool (decide (p ∨ (q ∧ s))) := by
    intro p q s _ _ _
    by_cases h : p <;> by_cases h' : q <;> by_cases h'' : s <;> simp [h, h', h''] <;> rfl
  rw [o1, o2, select_ofBool, select_ofBool]

/-- A matrix less a vector repeated along its rows. -/
theorem less_row (v : FVec Ideal S16384x1000 .f32) (M : FVec Ideal S16384 .f32) {h h'} (r : Fin 16384) (k : Fin 1000) :
    subf v (broadcastInDim S16384x1000 ![0, 1] h (broadcastInDim S16384x1 ![0] h' M)) (ix2 r k) = v (ix2 r k) - M (ix1 r) := by
  refine congrArg (fun b : EReal => v (ix2 r k) - b) ?_
  rw [bcast_mat, bcast_vec]

/-- A matrix less the logarithm of a vector repeated along its rows. -/
theorem log_row (v : FVec Ideal S16384x1000 .f32) (M : FVec Ideal S16384 .f32) {h h'} (r : Fin 16384) (k : Fin 1000) :
    subf v (broadcastInDim S16384x1000 ![0, 1] h (Host.log (broadcastInDim S16384x1 ![0] h' M))) (ix2 r k) = v (ix2 r k) - Ideal.log (M (ix1 r)) := by
  refine congrArg (fun b : EReal => v (ix2 r k) - b) ?_
  rw [bcast_mat]
  refine congrArg Ideal.log ?_
  rw [bcast_vec]

/-- A row's sum. -/
theorem sum_of_row (v : FVec Ideal S16384x1000 .f32) {h hu} (r : Fin 16384) :
    Host.reduceAdd v (constant (F := Ideal) S_ .f32 0#32) (axes := [1]) (t := S16384) h hu (ix1 r) = ∑ k : Fin 1000, v (ix2 r k) :=
  host_sum_row v h (by decide) r

/-- A maximum with −∞ is the other entry. -/
theorem top_bot (M : FVec Ideal S16384 .f32) {hb} (r : Fin 16384) :
    maximumf (broadcastInDim S16384 ![] hb (constant (F := Ideal) S_ .f32 4286578688#32)) M (ix1 r) = M (ix1 r) := by
  show max (Ideal.ofBits .f32 0xFF800000#32) (M (ix1 r)) = _
  rw [neg_inf_bits, max_eq_right bot_le]

/-- A row's greatest entry. -/
theorem top_row (v : FVec Ideal S16384x1000 .f32) (h : S16384x1000.ReducesTo [1] S16384) (hu : 0 < S_.numel) (r : Fin 16384) (x : Fin 1000 → EReal)
    (hx : ∀ k : Fin 1000, v (ix2 r k) = x k) :
    Host.reduce FloatOps.maximumf v (constant (F := Ideal) S_ .f32 4286578688#32) h hu (ix1 r) = peak x :=
  (host_max_row v (constant (F := Ideal) S_ .f32 4286578688#32) h (by decide) hu (fun _ => neg_inf_bits) r).trans (congrArg peak (funext hx))

section
variable (X : Valuation τ sig (Elt Ideal)) (r : Fin 16384)

/-- The first greatest entry of the perturbed logits. -/
theorem pick_word (c : Fin 1000) (hc : IsFirst (fun k : Fin 1000 => (X main_v37 : FVec Ideal S16384x1000 .f32) (ix2 r k)) c) :
    (after (piece 269 5) X main_v38 : IVec S16384 32) (ix1 r) = BitVec.ofNat 32 c.val := by
  simp only [piece, ops, line, List.drop_succ_cons, List.take_succ_cons, List.drop_zero, List.take_zero]
  after_results
  simp -implicitDefEqProofs only [StableHlo.TRef.toBuf, StableHlo.TRef.ofBuf, cast_cast, cast_eq]
  exact argmax_row (by norm_num) _ reducer_eq _ _ _ _ _ _ r (fun _ => neg_inf_bits) (fun _ => rfl) (fun _ => rfl) c hc

/-- Its one-hot row. -/
theorem pick_onehot (c k : Fin 1000) (hc : (X main_v38 : IVec S16384 32) (ix1 r) = BitVec.ofNat 32 c.val) :
    (after (piece 274 6) X main_v39 : FVec Ideal S16384x1000 .f32) (ix2 r k) = if k = c then (1 : EReal) else 0 := by
  simp only [piece, ops, line, List.drop_succ_cons, List.take_succ_cons, List.drop_zero, List.take_zero]
  after_results
  simp -implicitDefEqProofs only [StableHlo.TRef.toBuf, StableHlo.TRef.ofBuf, cast_cast, cast_eq]
  refine (congrArg (fun b : BitVec 1 => (((b.toNat : ℕ) : ℝ) : EReal)) (show IntOp.cmpi .eq _ _ = BitVec.ofBool (decide (k = c)) from ?_)).trans ?_
  · rw [bcast_mat, bcast_vec, bcast_row, hc]
    exact eq_small c k
  · by_cases h : k = c <;> simp [h]

/-- The first greatest entry of the one-hot row. -/
theorem pick_again (c : Fin 1000) (hc : ∀ k : Fin 1000, (X main_v39 : FVec Ideal S16384x1000 .f32) (ix2 r k) = if k = c then (1 : EReal) else 0) :
    (after (piece 280 5) X main_v40 : IVec S16384 32) (ix1 r) = BitVec.ofNat 32 c.val := by
  simp only [piece, ops, line, List.drop_succ_cons, List.take_succ_cons, List.drop_zero, List.take_zero]
  after_results
  simp -implicitDefEqProofs only [StableHlo.TRef.toBuf, StableHlo.TRef.ofBuf, cast_cast, cast_eq]
  refine argmax_row (by norm_num) _ reducer_eq _ _ _ _ _ _ r (fun _ => neg_inf_bits) (fun _ => rfl) (fun _ => rfl) c ⟨fun j => ?_, fun j hj => ?_⟩
  · dsimp only
    rw [hc j, hc c, if_pos rfl]
    split_ifs
    · exact le_refl _
    · exact zero_le_one
  · dsimp only
    rw [hc j, hc c, if_pos rfl, if_neg hj.ne]
    exact zero_lt_one

/-- The logarithm of the softmax of the argument. -/
theorem pick_softmax (x : Fin 1000 → EReal) (k : Fin 1000) (hx : ∀ k : Fin 1000, (X main_arg0 : FVec Ideal S16384x1000 .f32) (ix2 r k) = x k) :
    (after (piece 285 15) X main_v41 : FVec Ideal S16384x1000 .f32) (ix2 r k) = x k - Ideal.log (∑ j, Ideal.exp (x j)) := by
  simp only [piece, ops, line, List.drop_succ_cons, List.take_succ_cons, List.drop_zero, List.take_zero]
  after_results
  simp -implicitDefEqProofs only [StableHlo.TRef.toBuf, StableHlo.TRef.ofBuf, cast_cast, cast_eq]
  refine (log_row _ _ r k).trans ?_
  rw [sum_of_row, less_row]
  have hp := (top_bot _ (hb := bcast_S_S16384) r).trans (top_row (X main_arg0 : FVec Ideal S16384x1000 .f32) reducesTo_S16384x1000_S16384_d1 h_S_ r x hx)
  rw [hp]
  refine Eq.trans (congrArg₂ (fun a b : EReal => a - peak x - Ideal.log b) (hx k) (Finset.sum_congr rfl fun j _ => ?_)) (log_prob x k)
  refine congrArg Ideal.exp ((less_row _ _ r j).trans ?_)
  rw [hp]
  exact congrArg (· - peak x) (hx j)

/-- Its entry at the action drawn. -/
theorem pick_logp (c : Fin 1000) (hc : (X main_v40 : IVec S16384 32) (ix1 r) = BitVec.ofNat 32 c.val) :
    (after (piece 300 23) X main_v43 : FVec Ideal S16384x1 .f32) (ix2 r 0) = (X main_v41 : FVec Ideal S16384x1000 .f32) (ix2 r c) := by
  simp only [piece, ops, line, List.drop_succ_cons, List.take_succ_cons, List.drop_zero, List.take_zero]
  after_results
  simp -implicitDefEqProofs only [StableHlo.TRef.toBuf, StableHlo.TRef.ofBuf, cast_cast, cast_eq]
  have hw := fun h0 h1 h2 hs => col_word (X main_v40 : IVec S16384 32) h0 h1 h2 hs r c hc
  refine (congrArg (fun b => Scalar.select b _ _) (in_range _ _ _ _ _ _ r c (hw _ _ _ _))).trans ?_
  exact take_row (X main_v41 : FVec Ideal S16384x1000 .f32) _ r c (hw _ _ _ _)

end

section
variable (m : (ℓ : Loc nD τ sig) → Buf (Elt Ideal) ℓ) (c : Dev nD)

/-- The argument at a row and an action. -/
def lg (r : Fin 16384) (k : Fin 1000) : EReal := (m ((c.tc : Thread nD τ).loc main_arg0) : FVec Ideal S16384x1000 .f32) (ix2 r k)

/-- A row's first greatest entry, and the row of logits plus noise it is taken over. -/
theorem chain : ∃ X, W m c = after (piece 300 23) (after (piece 285 15) (after (piece 280 5) (after (piece 274 6) (after (piece 269 5) X))))
    ∧ X main_arg0 = m ((c.tc : Thread nD τ).loc main_arg0)
    ∧ ∀ (r : Fin 16384) (k : Fin 1000), (X main_v37 : FVec Ideal S16384x1000 .f32) (ix2 r k) = noise r k + lg m c r k := by
  refine ⟨after (piece 251 18) (after (ops.take 251) (StableHlo.launchContents m c)), ?_, ?_, ?_⟩
  · unfold W
    rw [after_split 251 ops]
    rw [after_split 18 (List.drop 251 _)]
    rw [after_split 5 (List.drop 18 (List.drop 251 _))]
    rw [after_split 6 (List.drop 5 (List.drop 18 (List.drop 251 _)))]
    rw [after_split 5 (List.drop 6 (List.drop 5 (List.drop 18 (List.drop 251 _))))]
    rw [after_split 15 (List.drop 5 (List.drop 6 (List.drop 5 (List.drop 18 (List.drop 251 _)))))]
    rfl
  · refine Eq.trans ?_ (noise_arg0 (StableHlo.launchContents m c))
    simp only [piece, ops, line, List.drop_succ_cons, List.take_succ_cons, List.drop_zero, List.take_zero]
    after_results
  · intro r k
    refine (noise_sum _ _ _ (noise_word _ _ _)).trans ?_
    rw [noise_arg0]
    rfl

/-- **The reference's one-hot rows.** -/
theorem value_sample (r : Fin 16384) (k d : Fin 1000) (hd : IsFirst (fun k : Fin 1000 => lg m c r k + noise r k) d) :
    (W m c main_v39 : FVec Ideal S16384x1000 .f32) (ix2 r k) = if k = d then (1 : EReal) else 0 := by
  obtain ⟨X, e, -, hX⟩ := chain m c
  have e39 : W m c main_v39 = after (piece 274 6) (after (piece 269 5) X) main_v39 := by
    rw [e]
    generalize after (piece 274 6) (after (piece 269 5) X) = Y
    simp only [piece, ops, line, List.drop_succ_cons, List.take_succ_cons, List.drop_zero, List.take_zero]
    after_results
  rw [e39]
  refine pick_onehot _ r d k (pick_word X r d ?_)
  rwa [funext fun k => (hX r k).trans (add_comm (noise r k) (lg m c r k))]

/-- **The reference's log-probabilities.** -/
theorem value_logp (r : Fin 16384) (d : Fin 1000) (hd : IsFirst (fun k : Fin 1000 => lg m c r k + noise r k) d) :
    (W m c main_v43 : FVec Ideal S16384x1 .f32) (ix2 r 0) = lg m c r d - Ideal.log (∑ k : Fin 1000, Ideal.exp (lg m c r k)) := by
  obtain ⟨X, e, h0, hX⟩ := chain m c
  have hf : IsFirst (fun k : Fin 1000 => (X main_v37 : FVec Ideal S16384x1000 .f32) (ix2 r k)) d := by
    rwa [funext fun k => (hX r k).trans (add_comm (noise r k) (lg m c r k))]
  have h40 := pick_again _ r d fun k => pick_onehot _ r d k (pick_word X r d hf)
  have k40 : ∀ Y : Valuation τ sig (Elt Ideal), after (piece 285 15) Y main_v40 = Y main_v40 := by
    intro Y
    simp only [piece, ops, line, List.drop_succ_cons, List.take_succ_cons, List.drop_zero, List.take_zero]
    after_results
  have k0 : after (piece 280 5) (after (piece 274 6) (after (piece 269 5) X)) main_arg0 = X main_arg0 := by
    simp only [piece, ops, line, List.drop_succ_cons, List.take_succ_cons, List.drop_zero, List.take_zero]
    after_results
  rw [e]
  refine (pick_logp _ r d ((congrFun (k40 _) (ix1 r)).trans h40)).trans (pick_softmax _ r (lg m c r) d fun k => ?_)
  rw [k0, h0]
  rfl

end

end Cert.ReferenceIdeal.Reg

end
-- ==== Proof.Pre.Noise.lean ====
/- The precondition's random words and its noise, at a row and an action. -/
module

public import proofs.«01_k».proof.Proof.Gen.Pre_few_near_ties
public import proofs.«01_k».proof.Proof.Lib.Gumbel
public import proofs.«01_k».proof.Proof.Lib.Keys
public import Idealize.ShloMosaic.Lib.ValueIdx

@[expose] public section

set_option maxRecDepth 65536

noncomputable section

namespace Cert.Pre_few_near_ties.Reg

open Cert.Pre_few_near_ties Cert.Pre_few_near_ties.Facts Cert.Threefry Cert.Gumbel
open Idealize.ShloMosaic

variable {F : FTy → Type} [FloatOps F]

/-- One word for each row and action. -/
abbrev Words : Type := IVec S16384x1000 32

/-- One word at every row and action. -/
abbrev all (k : IVec S_ 32) : Words := broadcastInDim S16384x1000 ![] bcast_S_S16384x1000 k

/-- One round at every row and action. -/
def turns (r r' : BitVec 32) (s y : Words) : Words :=
  xori s (ori (Host.shli y (all (constantI S_ 32 r))) (Host.shrui y (all (constantI S_ 32 r'))))

/-- Four rounds at every row and action. -/
def group (r₁ r₁' r₂ r₂' r₃ r₃' r₄ r₄' : BitVec 32) (p : Words × Words) : Words × Words :=
  let y₁ := turns r₁ r₁' p.1 p.2
  let s₁ := addi p.1 y₁
  let y₂ := turns r₂ r₂' s₁ y₁
  let s₂ := addi s₁ y₂
  let y₃ := turns r₃ r₃' s₂ y₂
  let s₃ := addi s₂ y₃
  (s₃, turns r₄ r₄' s₃ y₃)

/-- A key and a small constant added at every row and action. -/
def add (k a : IVec S_ 32) (c : BitVec 32) (p : Words × Words) : Words × Words :=
  let y := addi (addi p.2 (all a)) (all (constantI S_ 32 c))
  (addi (addi p.1 (all k)) y, y)

/-- The last key added. -/
def last (k a : IVec S_ 32) (p : Words × Words) : Words × Words :=
  (addi p.1 (all k), addi (addi p.2 (all a)) (all (constantI S_ 32 5#32)))

/-- The four rounds that come first, third and fifth. -/
abbrev odd : Words × Words → Words × Words :=
  group 13#32 19#32 15#32 17#32 26#32 6#32 6#32 26#32

/-- The four rounds that come second and fourth. -/
abbrev even : Words × Words → Words × Words :=
  group 17#32 15#32 29#32 3#32 16#32 16#32 24#32 8#32

/-- The function that makes the two words, as groups of rounds. -/
theorem threefry_eq (a b : IVec S_ 32) (h l : Words) : fn_threefry2x32 (F := F) a b h l =
    (let x := xori (xori a b) (constantI S_ 32 466688986#32)
     let l' := addi l (all b)
     let p₁ := add b x 1#32 (odd (addi (addi h (all a)) l', l'))
     let p₂ := add x a 2#32 (even p₁)
     let p₃ := add a b 3#32 (odd p₂)
     let p₄ := add b x 4#32 (even p₃)
     last x a (odd p₄)) := rfl

/-- The two words at one row and action. -/
def at' (i : S16384x1000.Idx) (p : Words × Words) : BitVec 32 × BitVec 32 := (p.1 i, p.2 i)

theorem odd_at (i : S16384x1000.Idx) (p : Words × Words) : at' i (odd p) = rounds turn' rotA (at' i p) := rfl

theorem even_at (i : S16384x1000.Idx) (p : Words × Words) : at' i (even p) = rounds turn' rotB (at' i p) := rfl

theorem add_at (i : S16384x1000.Idx) (k a c : BitVec 32) (p : Words × Words) :
    at' i (add (fun _ => k) (fun _ => a) c p) = keyed' k a c (at' i p) := rfl

theorem last_at (i : S16384x1000.Idx) (k a : BitVec 32) (p : Words × Words) :
    at' i (last (fun _ => k) (fun _ => a) p) = ((at' i p).1 + k, (at' i p).2 + a + 5) := rfl

/-- The two words at a row and an action, xored, from the two words they start from. -/
theorem threefry_at (a b : BitVec 32) (h l : Words) (i : S16384x1000.Idx) :
    IntOp.xori ((fn_threefry2x32 (F := F) (fun _ => a) (fun _ => b) h l).1 i) ((fn_threefry2x32 (F := F) (fun _ => a) (fun _ => b) h l).2 i)
      = word' a b (h i) (l i) := by
  have e : at' i (fn_threefry2x32 (F := F) (fun _ => a) (fun _ => b) h l) =
      (let x := IntOp.xori (IntOp.xori a b) 466688986#32
       let p := rounds turn' rotA (keyed' b x 4 (rounds turn' rotB (keyed' a b 3 (rounds turn' rotA (keyed' x a 2 (rounds turn' rotB (keyed' b x 1
         (rounds turn' rotA (h i + a + (l i + b), l i + b)))))))))
       (p.1 + x, p.2 + a + 5)) := by
    rw [threefry_eq]
    have ex : xori (xori (fun _ : S_.Idx => a) (fun _ => b)) (constantI S_ 32 466688986#32)
        = fun _ => IntOp.xori (IntOp.xori a b) 466688986#32 := rfl
    simp only [ex, last_at, odd_at, even_at, add_at]
    rfl
  exact congrArg (fun p : BitVec 32 × BitVec 32 => IntOp.xori p.1 p.2) e

/-- The noise the precondition makes, from the two words of each row and action. -/
def noises (p : Words × Words) : FVec F S16384x1000 .f32 :=
  Host.negf (Host.log (Host.negf (Host.log (maximumf
    (subf (bitcastToFloat .f32 (ori (Host.shrui (xori p.1 p.2) (all (constantI S_ 32 9#32))) (all (constantI S_ 32 1065353216#32))))
      (broadcastInDim S16384x1000 ![] bcast_S_S16384x1000 (constant S_ .f32 0x3F800000#32)))
    (broadcastInDim S16384x1000 ![] bcast_S_S16384x1000 (constant S_ .f32 0x00800000#32))))))

theorem noises_at (p : Words × Words) (i : S16384x1000.Idx) :
    (noises p : FVec Ideal S16384x1000 .f32) i = gum (unif (IntOp.xori (p.1 i) (p.2 i))) := rfl

theorem part1_eq (x : FVec F S16384x1000 .f32) (a b : IVec S_ 32) (n : IVec S16384x1000 64) (c : IVec S_ 64) :
    fn_part1 x a b n c = fn_part2 x (noises (fn_threefry2x32 (F := F) a b
      ((trunci 32 · natLt_32_64) (Host.shrui n (broadcastInDim S16384x1000 ![] bcast_S_S16384x1000 c))) ((trunci 32 · natLt_32_64) n))) := rfl

/-- The counter of each row and action. -/
def counters : IVec S16384x1000 64 :=
  addi (muli (broadcastInDim S16384x1000 ![] bcast_S_S16384x1000 (constantI S_ 64 1000#64)) (iotaInDim S16384x1000 64 0))
    (muli (broadcastInDim S16384x1000 ![] bcast_S_S16384x1000 (constantI S_ 64 1#64)) (iotaInDim S16384x1000 64 1))

theorem counters_at (r : Fin 16384) (k : Fin 1000) :
    counters (ValueIdx.ix2 r k) = 1000#64 * BitVec.ofNat 64 r.val + 1#64 * BitVec.ofNat 64 k.val := rfl

/-- The precondition as its last part, on the noise. -/
theorem fn_eq (x : FVec Ideal S16384x1000 .f32) : ∃ n : FVec Ideal S16384x1000 .f32,
    fn x = fn_part2 x n ∧ ∀ (r : Fin 16384) (k : Fin 1000), n (ValueIdx.ix2 r k) = noise r.val k.val := by
  have e : fn x = fn_part1 x (fun _ => 0#32) (fun _ => 42#32) counters (constantI S_ 64 32#64) := by
    show fn_part1 x _ _ counters _ = _
    rw [Keys.first _ _ 0#32 concatenates_S1_S1_S2_d0 slices_S2_S1_0 shapeCasts_S1_S_ (by decide),
      Keys.second _ _ 42#32 concatenates_S1_S1_S2_d0 slices_S2_S1_1 shapeCasts_S1_S_ (by decide)]
  rw [part1_eq] at e
  refine ⟨_, e, fun r k => ?_⟩
  rw [noises_at, threefry_at]
  have hh : ((trunci 32 · natLt_32_64) (Host.shrui counters (broadcastInDim S16384x1000 ![] bcast_S_S16384x1000 (constantI S_ 64 32#64))) : Words)
      (ValueIdx.ix2 r k) = 0#32 := Keys.counter_high r.val k.val r.isLt k.isLt
  have hl : ((trunci 32 · natLt_32_64) counters : Words) (ValueIdx.ix2 r k) = BitVec.ofNat 32 (r.val * 1000 + k.val) :=
    Keys.counter_low r.val k.val r.isLt k.isLt
  refine (congrArg₂ (fun h l => gum (unif (word' 0#32 42#32 h l))) hh hl).trans ?_
  rw [word'_eq]
  rfl

end Cert.Pre_few_near_ties.Reg

end
-- ==== Proof.Pre.Few.lean ====
/- What the precondition says: at most 512 rows have two actions whose logit plus noise comes within the tolerance of the row's greatest. -/
module

public import proofs.«01_k».proof.Proof.Pre.Noise
public import proofs.«01_k».proof.Proof.Lib.RowOps
public import proofs.«01_k».proof.Proof.Lib.Quant
public import Idealize.ShloMosaic.Lib.StableHlo.Predicate

@[expose] public section

set_option maxRecDepth 65536

noncomputable section

namespace Cert.Pre_few_near_ties.Reg

open Cert.Pre_few_near_ties Cert.Pre_few_near_ties.Facts Cert.Gumbel Cert.Row
open Idealize.ShloMosaic Idealize.ShloMosaic.StableHlo.Predicate

/-- The widened bits of a vector added up count the places whose bit is set. -/
theorem count_vec (mask : IVec S16384 1) {h : S16384.ReducesTo [0] S_} {hw : 1 < 32} {hu : 0 < S_.numel} (j : S_.Idx) :
    (Host.reduce IntOp.addi (extui 32 mask hw) (constantI S_ 32 0#32) h hu j).toNat
      = (Finset.univ.filter fun i : S16384.Idx => mask i = 1#1).card := by
  classical
  rw [Host.reduce_eq_fold]
  have hj : (Finset.univ.filter fun i => h.drop i = j) = Finset.univ := by
    refine Finset.filter_true_of_mem fun i _ => ?_
    funext a
    exact a.elim0
  have hs : ∑ i : S16384.Idx, (extui 32 mask hw i).toNat = (Finset.univ.filter fun i : S16384.Idx => mask i = 1#1).card := by
    rw [Finset.card_filter]
    exact Finset.sum_congr rfl fun i _ => toNat_setWidth_bit (mask i)
  have hc : Fintype.card S16384.Idx < 2 ^ 32 := by
    rw [Shape.card_idx]
    decide
  rw [hj]
  exact (toNat_fold_addi _ _ (by rw [hs]; exact lt_of_le_of_lt (Finset.card_le_univ _) hc)).trans hs

/-- The places of a matrix that come within the tolerance of their row's greatest entry. -/
def nears (s : FVec Ideal S16384x1000 .f32) (M : FVec Ideal S16384 .f32) : IVec S16384x1000 1 :=
  cmpf .oge s (broadcastInDim S16384x1000 ![0, 1] bcast_S16384x1_S16384x1000_0_1
    (subf (broadcastInDim S16384x1 ![0] bcast_S16384_S16384x1_0 M)
      (broadcastInDim S16384x1 ![] bcast_S_S16384x1 (constant (F := Ideal) S_ .f32 0x3A2A64C3#32))))

theorem nears_at (s : FVec Ideal S16384x1000 .f32) (M : FVec Ideal S16384 .f32) (r : Fin 16384) (k : Fin 1000) :
    nears s M (ValueIdx.ix2 r k) = 1#1 ↔ M (ValueIdx.ix1 r) - (tolR : EReal) ≤ s (ValueIdx.ix2 r k) := by
  have e : nears s M (ValueIdx.ix2 r k) = BitVec.ofBool (decide (M (ValueIdx.ix1 r) - Ideal.ofBits .f32 0x3A2A64C3#32 ≤ s (ValueIdx.ix2 r k))) := by
    have hb : broadcastInDim S16384x1000 ![0, 1] bcast_S16384x1_S16384x1000_0_1
        (subf (broadcastInDim S16384x1 ![0] bcast_S16384_S16384x1_0 M)
          (broadcastInDim S16384x1 ![] bcast_S_S16384x1 (constant (F := Ideal) S_ .f32 0x3A2A64C3#32))) (ValueIdx.ix2 r k)
        = (M (ValueIdx.ix1 r) - Ideal.ofBits .f32 0x3A2A64C3#32 : EReal) := by
      refine (bcast_of_col _ _ r k).trans ?_
      exact congrArg (fun b : EReal => b - Ideal.ofBits .f32 0x3A2A64C3#32) ((bcast_col1 _ M r).trans (congrArg M (funext fun a => by fin_cases a; rfl)))
    exact congrArg (fun b : EReal => BitVec.ofBool (decide (b ≤ s (ValueIdx.ix2 r k)))) hb
  rw [e, ofBool_eq_one_iff, decide_eq_true_eq, tol_bits]

/-- The rows where a count reaches two. -/
def pairs (n : IVec S16384 32) : IVec S16384 1 := cmpi .sge n (broadcastInDim S16384 ![] bcast_S_S16384 (constantI S_ 32 2#32))

theorem pairs_at (n : IVec S16384 32) (i : S16384.Idx) (h : (n i).toNat < 2 ^ 31) : pairs n i = 1#1 ↔ 2 ≤ (n i).toNat :=
  sge_iff_toNat h (show (2#32).toNat < 2 ^ 31 by decide)

theorem part2_eq (x n : FVec Ideal S16384x1000 .f32) :
    fn_part2 x n = cmpi .sle (Host.reduce IntOp.addi (extui 32 (pairs (Host.reduce IntOp.addi (extui 32 (nears (addf n x)
      (Host.reduce FloatOps.maximumf (addf n x) (constant S_ .f32 0xFF800000#32) reducesTo_S16384x1000_S16384_d1 h_S_)) natLt_1_32)
        (constantI S_ 32 0#32) reducesTo_S16384x1000_S16384_d1 h_S_)) natLt_1_32) (constantI S_ 32 0#32) reducesTo_S16384_S_d0 h_S_)
      (constantI S_ 32 512#32) := rfl

/-- From the test of the counts: few rows have two places whose bit is set. -/
theorem few_of_masks (mask : IVec S16384x1000 1)
    (h : cmpi .sle (Host.reduce IntOp.addi (extui 32 (pairs (Host.reduce IntOp.addi (extui 32 mask natLt_1_32)
        (constantI S_ 32 0#32) reducesTo_S16384x1000_S16384_d1 h_S_)) natLt_1_32) (constantI S_ 32 0#32) reducesTo_S16384_S_d0 h_S_)
      (constantI S_ 32 512#32) = fun _ => 1#1) (S : Finset (Fin 16384))
    (hS : ∀ r ∈ S, ∃ i j : Fin 1000, i ≠ j ∧ mask (ValueIdx.ix2 r i) = 1#1 ∧ mask (ValueIdx.ix2 r j) = 1#1) : S.card ≤ 512 := by
  classical
  have hrow : ∀ j : S16384.Idx, _ = _ := fun j => toNat_reduce_count_cols (n := 16384) (m := 1000) (by norm_num) mask natLt_1_32 reducesTo_S16384x1000_S16384_d1 h_S_ j
  generalize Host.reduce IntOp.addi (extui 32 mask natLt_1_32) (constantI S_ 32 0#32) reducesTo_S16384x1000_S16384_d1 h_S_ = cnt at h hrow
  have hall := count_vec (pairs cnt) (h := reducesTo_S16384_S_d0) (hw := natLt_1_32) (hu := h_S_) ValueIdx.ix0
  generalize Host.reduce IntOp.addi (extui 32 (pairs cnt) natLt_1_32) (constantI S_ 32 0#32) reducesTo_S16384_S_d0 h_S_ = tot at h hall
  have hc : Fintype.card S16384.Idx = 16384 := by
    rw [Shape.card_idx]
    decide
  have hle := Finset.card_le_univ (Finset.univ.filter fun i : S16384.Idx => pairs cnt i = 1#1)
  have h0 : IntOp.cmpi .sle (tot ValueIdx.ix0) 512#32 = 1#1 := congrFun h ValueIdx.ix0
  rw [sle_iff_toNat (by rw [hall]; omega) (by decide), hall] at h0
  refine le_trans (Finset.card_le_card_of_injOn (fun r => (ValueIdx.ix1 r : S16384.Idx)) ?_ ?_) h0
  · intro r hr
    obtain ⟨i, j, hij, hi, hj⟩ := hS r hr
    have hn := hrow (ValueIdx.ix1 r)
    have hlt : (cnt (ValueIdx.ix1 r)).toNat ≤ 1000 := by
      rw [hn]
      exact (Finset.card_le_univ _).trans (le_of_eq (Fintype.card_fin 1000))
    refine Finset.mem_coe.2 (Finset.mem_filter.2 ⟨Finset.mem_univ _, (pairs_at cnt _ (lt_of_le_of_lt hlt (by norm_num))).2 ?_⟩)
    rw [hn]
    exact Finset.one_lt_card.2 ⟨i, Finset.mem_filter.2 ⟨Finset.mem_univ _, hi⟩, j, Finset.mem_filter.2 ⟨Finset.mem_univ _, hj⟩, hij⟩
  · intro r _ r' _ e
    exact congrFun e 0

/-- The precondition: a set of rows that each have two actions within the tolerance of the row's greatest logit plus noise has at most
    512 members. -/
theorem few (x : FVec Ideal S16384x1000 .f32) (h : fn x = fun _ => 1#1) (S : Finset (Fin 16384))
    (hS : ∀ r ∈ S, ∃ i j : Fin 1000, i ≠ j
      ∧ peak (fun k : Fin 1000 => x (ValueIdx.ix2 r k) + noise r.val k.val) - (tolR : EReal) ≤ x (ValueIdx.ix2 r i) + noise r.val i.val
      ∧ peak (fun k : Fin 1000 => x (ValueIdx.ix2 r k) + noise r.val k.val) - (tolR : EReal) ≤ x (ValueIdx.ix2 r j) + noise r.val j.val) :
    S.card ≤ 512 := by
  obtain ⟨n, e, hn⟩ := fn_eq x
  have hs : ∀ (r : Fin 16384) (k : Fin 1000), (addf n x : FVec Ideal S16384x1000 .f32) (ValueIdx.ix2 r k) = x (ValueIdx.ix2 r k) + noise r.val k.val :=
    fun r k => (congrArg (fun b : EReal => b + x (ValueIdx.ix2 r k)) (hn r k)).trans (add_comm (noise r.val k.val) (x (ValueIdx.ix2 r k)))
  rw [e, part2_eq] at h
  generalize (addf n x : FVec Ideal S16384x1000 .f32) = s at h hs
  have hM : ∀ r : Fin 16384, Host.reduce FloatOps.maximumf s (constant (F := Ideal) S_ .f32 0xFF800000#32) reducesTo_S16384x1000_S16384_d1 h_S_ (ValueIdx.ix1 r)
      = peak fun k : Fin 1000 => s (ValueIdx.ix2 r k) :=
    fun r => host_max_row s _ reducesTo_S16384x1000_S16384_d1 (by decide) h_S_ (fun _ => neg_inf_bits) r
  generalize Host.reduce FloatOps.maximumf s (constant (F := Ideal) S_ .f32 0xFF800000#32) reducesTo_S16384x1000_S16384_d1 h_S_ = M at h hM
  refine few_of_masks _ h S fun r hr => ?_
  obtain ⟨i, j, hij, hi, hj⟩ := hS r hr
  have hp : M (ValueIdx.ix1 r) = peak fun k : Fin 1000 => x (ValueIdx.ix2 r k) + noise r.val k.val := by
    rw [hM]
    exact congrArg peak (funext (hs r))
  refine ⟨i, j, hij, (nears_at s M r i).2 ?_, (nears_at s M r j).2 ?_⟩
  · rw [hp, hs]
    exact hi
  · rw [hp, hs]
    exact hj

end Cert.Pre_few_near_ties.Reg

end
-- ==== Proof.Value.lean ====
/- The two programs agree: the same one-hot rows and the same log-probabilities, from the same logits, when few rows are near ties. -/
module

public import proofs.«01_k».proof.Defs
public import proofs.«01_k».proof.Proof.PI.Second
public import proofs.«01_k».proof.Proof.Ref.Value
public import proofs.«01_k».proof.Proof.Pre.Few

@[expose] public section

set_option maxRecDepth 65536

noncomputable section

namespace Cert.Value

open Idealize.ShloMosaic Idealize.SL.Sem Cert.Row Cert.Gumbel Cert.Nonzero Cert.KernelIdeal.Gen Cert.KernelIdeal.Reg

variable (m : (ℓ : Loc Cert.KernelIdeal.nD Cert.KernelIdeal.τ Cert.KernelIdeal.sig) → Buf (Elt Ideal) ℓ)

/-- Under the precondition the first pass marks at most 512 rows. -/
theorem few_marks (h : Cert.Pre_KernelIdeal_few_near_ties m) : marks (mark m) 16383 ≤ 512 := by
  classical
  have hc : marks (mark m) 16383 = ∑ r : Fin 16384, mark m r.val := by
    unfold marks
    rw [Fin.sum_univ_eq_sum_range]
    rfl
  have hb : ∀ r : Fin 16384, mark m r.val = if mark m r.val = 1 then 1 else 0 := by
    intro r
    have := mark_le m r.val
    split_ifs <;> omega
  rw [hc, Finset.sum_congr rfl fun r _ => hb r, ← Finset.card_filter]
  exact Cert.Pre_few_near_ties.Reg.few _ (h 0) _ fun r hr => marked m r (Finset.mem_filter.1 hr).2

variable (m' : (ℓ : Loc Cert.ReferenceIdeal.nD Cert.ReferenceIdeal.τ Cert.ReferenceIdeal.sig) → Buf (Elt Ideal) ℓ)
  (hm : ∀ c : Dev Cert.KernelIdeal.nD, m' ((c.tc : Thread Cert.ReferenceIdeal.nD Cert.ReferenceIdeal.τ).loc Cert.ReferenceIdeal.main_arg0)
    = m ((c.tc : Thread Cert.KernelIdeal.nD Cert.KernelIdeal.τ).loc Cert.KernelIdeal.main_arg0))

include hm in
/-- The two programs have the same logits. -/
theorem logits (r : Fin 16384) (k : Fin 1000) : Cert.ReferenceIdeal.Reg.lg m' 0 r k = lg m 0 r k :=
  congrFun (hm 0) (ValueIdx.ix2 r k)

include hm in
/-- The same one-hot rows. -/
theorem samples (hf : marks (mark m) 16383 ≤ 512) :
    (Cert.ReferenceIdeal.Reg.W m' 0 (Proc.devRef .tc Cert.ReferenceIdeal.main_v39) : FVec Ideal Cert.ReferenceIdeal.S16384x1000 .f32)
      = (V20 m (outs m (tables_ok m)) 0 (Proc.devRef .tc Cert.KernelIdeal.main_v216_0) : FVec Ideal Cert.KernelIdeal.S16384x1000 .f32) := by
  funext i
  obtain ⟨r, k, rfl⟩ : ∃ (r : Fin 16384) (k : Fin 1000), i = ValueIdx.ix2 r k := ⟨i 0, i 1, funext fun a => by fin_cases a <;> rfl⟩
  obtain ⟨d, hd⟩ := exists_isFirst (es m 0 r)
  have hd' : IsFirst (fun k => Cert.ReferenceIdeal.Reg.lg m' 0 r k + noise r.val k.val) d := by
    simp only [logits m m' hm]
    exact hd
  exact (Cert.ReferenceIdeal.Reg.value_sample m' 0 r k d hd').trans (answer_sample m hf r k d hd).symm

include hm in
/-- The same log-probabilities. -/
theorem logps (hf : marks (mark m) 16383 ≤ 512) :
    (Cert.ReferenceIdeal.Reg.W m' 0 (Proc.devRef .tc Cert.ReferenceIdeal.main_v43) : FVec Ideal Cert.ReferenceIdeal.S16384x1 .f32)
      = (V20 m (outs m (tables_ok m)) 0 (Proc.devRef .tc Cert.KernelIdeal.main_v216_1) : FVec Ideal Cert.KernelIdeal.S16384x1 .f32) := by
  funext i
  obtain ⟨r, rfl⟩ : ∃ r : Fin 16384, i = ValueIdx.ix2 r (0 : Fin 1) := ⟨i 0, funext fun a => by
    fin_cases a
    · rfl
    · exact Subsingleton.elim (α := Fin 1) _ _⟩
  obtain ⟨d, hd⟩ := exists_isFirst (es m 0 r)
  have hd' : IsFirst (fun k => Cert.ReferenceIdeal.Reg.lg m' 0 r k + noise r.val k.val) d := by
    simp only [logits m m' hm]
    exact hd
  refine (Cert.ReferenceIdeal.Reg.value_logp m' 0 r d hd').trans (Eq.trans ?_ (answer_logp m hf r d hd).symm)
  simp only [logits m m' hm]
  rfl

/-- The claim: under the precondition both programs end with the same two results and leave the logits alone. -/
theorem algebraic : Cert.algebraic_KernelIdeal_ReferenceIdeal_pre_few_near_ties := by
  intro m g m' g' hp hm
  have hf := few_marks m hp
  refine ⟨fun c => V20 m (outs m (tables_ok m)) c (Proc.devRef .tc Cert.KernelIdeal.main_v216_0), fun c => V20 m (outs m (tables_ok m)) c (Proc.devRef .tc Cert.KernelIdeal.main_v216_1), ?_, ?_⟩
  · refine (θ_run _ _ _).mono (fun _ h => fun c => ⟨?_, ?_, ?_⟩) (Cert.KernelIdeal.Reg.run m g (tables_ok m))
    · exact h.1 c _ (mem_uc Cert.KernelIdeal.main_v216_0 (by decide))
    · exact h.1 c _ (mem_uc Cert.KernelIdeal.main_v216_1 (by decide))
    · exact (h.1 c _ (mem_uc Cert.KernelIdeal.main_arg0 (by decide))).trans (V20_main_arg0 m (outs m (tables_ok m)) c)
  · refine (θ_run _ _ _).mono (fun _ h => fun c => ?_) (Cert.ReferenceIdeal.Reg.run m' g')
    obtain rfl : c = 0 := Subsingleton.elim (α := Fin 1) _ _
    refine ⟨?_, ?_, ?_⟩
    · exact (h 0 Cert.ReferenceIdeal.main_v39).trans (samples m m' hm hf)
    · exact (h 0 Cert.ReferenceIdeal.main_v43).trans (logps m m' hm hf)
    · exact (h 0 Cert.ReferenceIdeal.main_arg0).trans (Cert.ReferenceIdeal.Reg.W_arg0 m' 0)

end Cert.Value

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.Pre_few_near_ties
public import proofs.«01_k».proof.Proof.P.Tables
public import proofs.«01_k».proof.Proof.PI.Tables
public import proofs.«01_k».proof.Proof.Ref.Run
public import proofs.«01_k».proof.Proof.Value
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_few_near_ties.Gen.facts,
  fun m g _ => Cert.Kernel.Reg.frame_all m g, fun m g _ => Cert.KernelIdeal.Reg.frame_all m g, fun m g _ => Cert.KernelIdeal.Reg.frame_all m g,
  fun m g _ => Cert.ReferenceIdeal.Reg.frame_all m g, fun m g _ => Cert.ReferenceIdeal.Reg.frame_all m g, trivial,
  Cert.Value.algebraic⟩

end Cert.Proof

end
